-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.1 = (fun _ => 1#1)
    ∧ (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.2 = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.bf16_pair.Statement Cert.Kernel2Ideal.S256x2x128 Cert.Kernel2Ideal.S256x1x128
  ∧ IdealRules.bf16_pair.Statement Cert.Kernel2Ideal.S512x128 Cert.Kernel2Ideal.S256x128
  ∧ IdealRules.bf16_pack.Statement Cert.Kernel2Ideal.S256x128

def algebraic_Kernel2Ideal_Reference2Ideal_on_rows_used [hKernel2Ideal : Cert.Kernel2Ideal.Facts] [hReference2Ideal : Cert.Reference2Ideal.Facts] [hPre_experts_named : Cert.Pre_experts_named.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![5242880, 128]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v19) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![5242880, 128]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v33) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v50_0)) (v1 : (c : Dev Cert.Kernel3Ideal.nD) → Buf (Elt Ideal) ((c.tc : Thread Cert.Kernel3Ideal.nD Cert.Kernel3Ideal.τ).loc Cert.Kernel3Ideal.main_v50_1)) (v2 : (c : Dev Cert.Kernel3Ideal.nD) → Buf (Elt Ideal) ((c.tc : Thread Cert.Kernel3Ideal.nD Cert.Kernel3Ideal.τ).loc Cert.Kernel3Ideal.main_v50_2)) (v3 : (c : Dev Cert.Kernel3Ideal.nD) → Buf (Elt Ideal) ((c.tc : Thread Cert.Kernel3Ideal.nD Cert.Kernel3Ideal.τ).loc Cert.Kernel3Ideal.main_v50_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v50_0) = v0 c
          ∧ r.2.mem ((c.tc : Thread Cert.Kernel3Ideal.nD Cert.Kernel3Ideal.τ).loc Cert.Kernel3Ideal.main_v50_1) = v1 c
          ∧ r.2.mem ((c.tc : Thread Cert.Kernel3Ideal.nD Cert.Kernel3Ideal.τ).loc Cert.Kernel3Ideal.main_v50_2) = v2 c
          ∧ r.2.mem ((c.tc : Thread Cert.Kernel3Ideal.nD Cert.Kernel3Ideal.τ).loc Cert.Kernel3Ideal.main_v50_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v109) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_v112) = v2 c
          ∧ r.2.mem ((c.tc : Thread Cert.Reference3Ideal.nD Cert.Reference3Ideal.τ).loc Cert.Reference3Ideal.main_v113) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_experts_named : Cert.Pre_experts_named.Facts) (hOn_rows_used : Cert.On_rows_used.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_on_rows_used (hKernel2Ideal := hKernel2Ideal) (hReference2Ideal := hReference2Ideal) (hPre_experts_named := hPre_experts_named) (hOn_rows_used := hOn_rows_used)
    ∧ preserves_Kernel3_Kernel3Ideal
    ∧ algebraic_Kernel3Ideal_Reference3Ideal (hKernel3Ideal := hKernel3Ideal) (hReference3Ideal := hReference3Ideal)
-- ==== On_rows_used.lean ====
abbrev S1280 : Shape := ⟨1, ![1280]⟩
abbrev S1 : Shape := ⟨1, ![1]⟩
abbrev S655360x1024 : Shape := ⟨2, ![655360, 1024]⟩
abbrev S1x256x1024x256 : Shape := ⟨4, ![1, 256, 1024, 256]⟩
abbrev S1x256x256x1024 : Shape := ⟨4, ![1, 256, 256, 1024]⟩
abbrev S_ : Shape := ⟨0, ![]⟩
abbrev S1280x1x1 : Shape := ⟨3, ![1280, 1, 1]⟩
abbrev S1280x4096x128 : Shape := ⟨3, ![1280, 4096, 128]⟩
abbrev S5242880x128 : Shape := ⟨2, ![5242880, 128]⟩

class Facts : Prop where
  shapeCasts_S1_S_ : S1.ShapeCasts S_
  bcast_S_S1280 : S_.BroadcastsInDim S1280 (![] : Fin 0 → Fin S1280.rank)
  bcast_S1280_S1280x1x1_0 : S1280.BroadcastsInDim S1280x1x1 (![0] : Fin 1 → Fin S1280x1x1.rank)
  bcast_S1280x1x1_S1280x4096x128_0_1_2 : S1280x1x1.BroadcastsInDim S1280x4096x128 (![0, 1, 2] : Fin 3 → Fin S1280x4096x128.rank)
  shapeCasts_S1280x4096x128_S5242880x128 : S1280x4096x128.ShapeCasts S5242880x128

variable [Facts]

def fn {F : FTy → Type} [FloatOps F] (main_arg0 : IVec S1280 32) (main_arg1 : IVec S1 32) (main_arg2 : FVec F S655360x1024 .f32) (main_arg3 : FVec F S1x256x1024x256 .f32) (main_arg4 : FVec F S1x256x1024x256 .f32) (main_arg5 : FVec F S1x256x256x1024 .f32) : IVec S5242880x128 1 :=
  let main_v0 : IVec S1280 32 := iotaInDim S1280 32 0
  let main_v1 : IVec S_ 32 := shapeCast S_ main_arg1 shapeCasts_S1_S_
  let main_v2 : IVec S1280 32 := broadcastInDim S1280 ![] bcast_S_S1280 main_v1
  let main_v3 : IVec S1280 1 := cmpi .slt main_v0 main_v2
  let main_v4 : IVec S1280x1x1 1 := broadcastInDim S1280x1x1 ![0] bcast_S1280_S1280x1x1_0 main_v3
  let main_v5 : IVec S1280x4096x128 1 := broadcastInDim S1280x4096x128 ![0, 1, 2] bcast_S1280x1x1_S1280x4096x128_0_1_2 main_v4
  let main_v6 : IVec S5242880x128 1 := shapeCast S5242880x128 main_v5 shapeCasts_S1280x4096x128_S5242880x128
  main_v6
-- ==== Pre_experts_named.lean ====
abbrev S1280 : Shape := ⟨1, ![1280]⟩
abbrev S1 : Shape := ⟨1, ![1]⟩
abbrev S655360x1024 : Shape := ⟨2, ![655360, 1024]⟩
abbrev S1x256x1024x256 : Shape := ⟨4, ![1, 256, 1024, 256]⟩
abbrev S1x256x256x1024 : Shape := ⟨4, ![1, 256, 256, 1024]⟩
abbrev S_ : Shape := ⟨0, ![]⟩

class Facts : Prop where
  bcast_S_S1 : S_.BroadcastsInDim S1 (![] : Fin 0 → Fin S1.rank)
  bcast_S_S1280 : S_.BroadcastsInDim S1280 (![] : Fin 0 → Fin S1280.rank)

variable [Facts]

def fn {F : FTy → Type} [FloatOps F] (main_arg0 : IVec S1280 32) (main_arg1 : IVec S1 32) (main_arg2 : FVec F S655360x1024 .f32) (main_arg3 : FVec F S1x256x1024x256 .f32) (main_arg4 : FVec F S1x256x1024x256 .f32) (main_arg5 : FVec F S1x256x256x1024 .f32) : IVec S1 1 × IVec S1280 1 × IVec S1280 1 :=
  let main_c : IVec S_ 32 := constantI S_ 32 1#32
  let main_v0 : IVec S1 32 := broadcastInDim S1 ![] bcast_S_S1 main_c
  let main_v1 : IVec S1 1 := cmpi .sge main_arg1 main_v0
  let main_c_0 : IVec S_ 32 := constantI S_ 32 0#32
  let main_v2 : IVec S1280 32 := broadcastInDim S1280 ![] bcast_S_S1280 main_c_0
  let main_v3 : IVec S1280 1 := cmpi .sge main_arg0 main_v2
  let main_c_1 : IVec S_ 32 := constantI S_ 32 256#32
  let main_v4 : IVec S1280 32 := broadcastInDim S1280 ![] bcast_S_S1280 main_c_1
  let main_v5 : IVec S1280 1 := cmpi .slt main_arg0 main_v4
  (main_v1, main_v3, main_v5)
-- ==== Pre_finite_scores.lean ====
abbrev S16x4096x8x64 : Shape := ⟨4, ![16, 4096, 8, 64]⟩
abbrev S16x256x2x64 : Shape := ⟨4, ![16, 256, 2, 64]⟩
abbrev S16x4096x2x64 : Shape := ⟨4, ![16, 4096, 2, 64]⟩
abbrev S1x512 : Shape := ⟨2, ![1, 512]⟩
abbrev S_ : Shape := ⟨0, ![]⟩

class Facts : Prop where
  bcast_S_S16x4096x8x64 : S_.BroadcastsInDim S16x4096x8x64 (![] : Fin 0 → Fin S16x4096x8x64.rank)
  bcast_S_S16x256x2x64 : S_.BroadcastsInDim S16x256x2x64 (![] : Fin 0 → Fin S16x256x2x64.rank)
  bcast_S_S16x4096x2x64 : S_.BroadcastsInDim S16x4096x2x64 (![] : Fin 0 → Fin S16x4096x2x64.rank)

variable [Facts]

def fn {F : FTy → Type} [FloatOps F] (main_arg0 : FVec F S16x4096x8x64 .f32) (main_arg1 : FVec F S16x256x2x64 .f32) (main_arg2 : FVec F S16x4096x2x64 .f32) (main_arg3 : FVec F S16x256x2x64 .f32) (main_arg4 : FVec F S16x4096x2x64 .f32) (main_arg5 : FVec F S1x512 .f32) : IVec S16x4096x8x64 1 × IVec S16x256x2x64 1 × IVec S16x4096x2x64 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_v3 : FVec F S16x256x2x64 .f32 := Host.absf main_arg1
  let main_cst_0 : FVec F S_ .f32 := constant S_ .f32 0x7F800000#32
  let main_v4 : FVec F S16x256x2x64 .f32 := broadcastInDim S16x256x2x64 ![] bcast_S_S16x256x2x64 main_cst_0
  let main_v5 : IVec S16x256x2x64 1 := cmpf .olt main_v3 main_v4
  let main_v6 : FVec F S16x4096x2x64 .f32 := Host.absf main_arg2
  let main_cst_1 : FVec F S_ .f32 := constant S_ .f32 0x7F800000#32
  let main_v7 : FVec F S16x4096x2x64 .f32 := broadcastInDim S16x4096x2x64 ![] bcast_S_S16x4096x2x64 main_cst_1
  let main_v8 : IVec S16x4096x2x64 1 := cmpf .olt main_v6 main_v7
  (main_v2, main_v5, main_v8)
-- ==== Kernel.lean ====
abbrev S16x4096x8x64 : Shape := ⟨4, ![16, 4096, 8, 64]⟩
abbrev S16x256x2x64 : Shape := ⟨4, ![16, 256, 2, 64]⟩
abbrev S16x4096x2x64 : Shape := ⟨4, ![16, 4096, 2, 64]⟩
abbrev S1x512 : Shape := ⟨2, ![1, 512]⟩
abbrev S512 : Shape := ⟨1, ![512]⟩
abbrev S16x4096x512 : Shape := ⟨3, ![16, 4096, 512]⟩
abbrev S_ : Shape := ⟨0, ![]⟩
abbrev S512x1 : Shape := ⟨2, ![512, 1]⟩
abbrev S16x256x128 : Shape := ⟨3, ![16, 256, 128]⟩
abbrev S16x4096x128 : Shape := ⟨3, ![16, 4096, 128]⟩
abbrev S16x256x256 : Shape := ⟨3, ![16, 256, 256]⟩
abbrev S16x4096x256 : Shape := ⟨3, ![16, 4096, 256]⟩
abbrev S16x4352x128 : Shape := ⟨3, ![16, 4352, 128]⟩
abbrev S16x4352x256 : Shape := ⟨3, ![16, 4352, 256]⟩
abbrev S1x512x512 : Shape := ⟨3, ![1, 512, 512]⟩
abbrev S1x4352x128 : Shape := ⟨3, ![1, 4352, 128]⟩
abbrev S1x4352x256 : Shape := ⟨3, ![1, 4352, 256]⟩
abbrev S1x128 : Shape := ⟨2, ![1, 128]⟩
abbrev S4352x128 : Shape := ⟨2, ![4352, 128]⟩
abbrev S4352x256 : Shape := ⟨2, ![4352, 256]⟩
abbrev S1x128x128 : Shape := ⟨3, ![1, 128, 128]⟩
abbrev S128x128 : Shape := ⟨2, ![128, 128]⟩
abbrev S128x4352 : Shape := ⟨2, ![128, 4352]⟩
abbrev S128 : Shape := ⟨1, ![128]⟩
abbrev S128x1 : Shape := ⟨2, ![128, 1]⟩
abbrev S128x256 : Shape := ⟨2, ![128, 256]⟩
abbrev S128x512 : Shape := ⟨2, ![128, 512]⟩
abbrev S1x128x512 : Shape := ⟨3, ![1, 128, 512]⟩

abbrev nBuf : Space → Nat
  | .hbm => 49
  | .vmem => 9
  | .smem => 0
  | _ => 0

abbrev bufTy : (tb : Table) → Fin (tcTables nBuf tb) → BufTy
  | .hbm, ⟨0, _⟩ => ⟨S16x4096x8x64, .f32⟩
  | .hbm, ⟨1, _⟩ => ⟨S16x256x2x64, .f32⟩
  | .hbm, ⟨2, _⟩ => ⟨S16x4096x2x64, .f32⟩
  | .hbm, ⟨3, _⟩ => ⟨S16x256x2x64, .f32⟩
  | .hbm, ⟨4, _⟩ => ⟨S16x4096x2x64, .f32⟩
  | .hbm, ⟨5, _⟩ => ⟨S1x512, .f32⟩
  | .hbm, ⟨6, _⟩ => ⟨S512, .i32⟩
  | .hbm, ⟨7, _⟩ => ⟨S16x4096x512, .f32⟩
  | .hbm, ⟨8, _⟩ => ⟨S_, .i32⟩
  | .hbm, ⟨9, _⟩ => ⟨S512, .i32⟩
  | .hbm, ⟨10, _⟩ => ⟨S512, .i1⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S512x1, .i32⟩
  | .hbm, ⟨16, _⟩ => ⟨S16x4096x512, .f32⟩
  | .hbm, ⟨17, _⟩ => ⟨S_, .f32⟩
  | .hbm, ⟨18, _⟩ => ⟨S16x4096x512, .f32⟩
  | .hbm, ⟨19, _⟩ => ⟨S16x4096x512, .f32⟩
  | .hbm, ⟨20, _⟩ => ⟨S16x4096x512, .bf16⟩
  | .hbm, ⟨21, _⟩ => ⟨S16x256x128, .f32⟩
  | .hbm, ⟨22, _⟩ => ⟨S16x256x128, .bf16⟩
  | .hbm, ⟨23, _⟩ => ⟨S16x4096x128, .f32⟩
  | .hbm, ⟨24, _⟩ => ⟨S16x4096x128, .bf16⟩
  | .hbm, ⟨25, _⟩ => ⟨S16x256x128, .f32⟩
  | .hbm, ⟨26, _⟩ => ⟨S16x4096x128, .f32⟩
  | .hbm, ⟨27, _⟩ => ⟨S_, .f32⟩
  | .hbm, ⟨28, _⟩ => ⟨S16x256x128, .f32⟩
  | .hbm, ⟨29, _⟩ => ⟨S16x256x256, .f32⟩
  | .hbm, ⟨30, _⟩ => ⟨S16x256x256, .bf16⟩
  | .hbm, ⟨31, _⟩ => ⟨S_, .f32⟩
  | .hbm, ⟨32, _⟩ => ⟨S16x4096x128, .f32⟩
  | .hbm, ⟨33, _⟩ => ⟨S16x4096x256, .f32⟩
  | .hbm, ⟨34, _⟩ => ⟨S16x4096x256, .bf16⟩
  | .hbm, ⟨35, _⟩ => ⟨S16x4352x128, .bf16⟩
  | .hbm, ⟨36, _⟩ => ⟨S16x4352x256, .bf16⟩
  | .hbm, ⟨37, _⟩ => ⟨S512, .f32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S512x1, .i32⟩
  | .hbm, ⟨46, _⟩ => ⟨S512, .f32⟩
  | .hbm, ⟨47, _⟩ => ⟨S1x512, .f32⟩
  | .hbm, ⟨48, _⟩ => ⟨S16x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x512, .f32⟩
  | .local _ .vmem, ⟨7, _⟩ => ⟨S1x512x512, .bf16⟩
  | .local _ .vmem, ⟨8, _⟩ => ⟨S1x512x512, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_c_0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x4096x8x64 : Shape := ⟨4, ![16, 4096, 8, 64]⟩
abbrev S16x256x2x64 : Shape := ⟨4, ![16, 256, 2, 64]⟩
abbrev S16x4096x2x64 : Shape := ⟨4, ![16, 4096, 2, 64]⟩
abbrev S1x512 : Shape := ⟨2, ![1, 512]⟩
abbrev S16x4352x2x64 : Shape := ⟨4, ![16, 4352, 2, 64]⟩
abbrev S16x4096x2x4x64 : Shape := ⟨5, ![16, 4096, 2, 4, 64]⟩
abbrev S16x2x4352x4096x4 : Shape := ⟨5, ![16, 2, 4352, 4096, 4]⟩
abbrev S16x2x4x4096x4352 : Shape := ⟨5, ![16, 2, 4, 4096, 4352]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x64x4x4096 : Shape := ⟨5, ![16, 2, 64, 4, 4096]⟩
abbrev S16x4096x512 : Shape := ⟨3, ![16, 4096, 512]⟩
abbrev S16x4096 : Shape := ⟨2, ![16, 4096]⟩
abbrev S16x4096x1 : Shape := ⟨3, ![16, 4096, 1]⟩
abbrev S512 : Shape := ⟨1, ![512]⟩
abbrev S1x1x512 : Shape := ⟨3, ![1, 1, 512]⟩
abbrev S16x4096x4x2x64 : Shape := ⟨5, ![16, 4096, 4, 2, 64]⟩

abbrev nBuf : Space → Nat
  | .hbm => 52
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x256x2x64, .f32⟩
  | .hbm, ⟨2, _⟩ => ⟨S16x4096x2x64, .f32⟩
  | .hbm, ⟨3, _⟩ => ⟨S16x256x2x64, .f32⟩
  | .hbm, ⟨4, _⟩ => ⟨S16x4096x2x64, .f32⟩
  | .hbm, ⟨5, _⟩ => ⟨S1x512, .f32⟩
  | .hbm, ⟨6, _⟩ => ⟨S16x4352x2x64, .f32⟩
  | .hbm, ⟨7, _⟩ => ⟨S16x4352x2x64, .f32⟩
  | .hbm, ⟨8, _⟩ => ⟨S16x4096x2x4x64, .f32⟩
  | .hbm, ⟨9, _⟩ => ⟨S16x2x4352x4096x4, .f32⟩
  | .hbm, ⟨10, _⟩ => ⟨S16x2x4x4096x4352, .f32⟩
  | .hbm, ⟨11, _⟩ => ⟨S_, .f32⟩
  | .hbm, ⟨12, _⟩ => ⟨S16x2x4x4096x4352, .f32⟩
  | .hbm, ⟨13, _⟩ => ⟨S16x2x4x4096x4352, .f32⟩
  | .hbm, ⟨14, _⟩ => ⟨S_, .f32⟩
  | .hbm, ⟨15, _⟩ => ⟨S16x2x4x4096, .f32⟩
  | .hbm, ⟨16, _⟩ => ⟨S_, .f32⟩
  | .hbm, ⟨17, _⟩ => ⟨S16x2x4x4096, .f32⟩
  | .hbm, ⟨18, _⟩ => ⟨S16x2x4x4096, .f32⟩
  | .hbm, ⟨19, _⟩ => ⟨S16x2x4x4096x1, .f32⟩
  | .hbm, ⟨20, _⟩ => ⟨S16x2x4x4096x4352, .f32⟩
  | .hbm, ⟨21, _⟩ => ⟨S16x2x4x4096x4352, .f32⟩
  | .hbm, ⟨22, _⟩ => ⟨S16x2x4x4096x4352, .f32⟩
  | .hbm, ⟨23, _⟩ => ⟨S_, .f32⟩
  | .hbm, ⟨24, _⟩ => ⟨S16x2x4x4096, .f32⟩
  | .hbm, ⟨25, _⟩ => ⟨S16x2x4x4096x1, .f32⟩
  | .hbm, ⟨26, _⟩ => ⟨S16x2x4x4096x4352, .f32⟩
  | .hbm, ⟨27, _⟩ => ⟨S16x2x4x4096x4352, .f32⟩
  | .hbm, ⟨28, _⟩ => ⟨S16x2x64x4x4096, .f32⟩
  | .hbm, ⟨29, _⟩ => ⟨S16x4096x2x4x64, .f32⟩
  | .hbm, ⟨30, _⟩ => ⟨S16x4096x512, .f32⟩
  | .hbm, ⟨31, _⟩ => ⟨S16x4096x512, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S_, .f32⟩
  | .hbm, ⟨36, _⟩ => ⟨S16x4096x1, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S16x4096x1, .f32⟩
  | .hbm, ⟨42, _⟩ => ⟨S16x4096x512, .f32⟩
  | .hbm, ⟨43, _⟩ => ⟨S16x4096x512, .f32⟩
  | .hbm, ⟨44, _⟩ => ⟨S512, .f32⟩
  | .hbm, ⟨45, _⟩ => ⟨S1x1x512, .f32⟩
  | .hbm, ⟨46, _⟩ => ⟨S16x4096x512, .f32⟩
  | .hbm, ⟨47, _⟩ => ⟨S16x4096x512, .f32⟩
  | .hbm, ⟨48, _⟩ => ⟨S16x4096x2x4x64, .f32⟩
  | .hbm, ⟨49, _⟩ => ⟨S16x4096x4x2x64, .f32⟩
  | .hbm, ⟨50, _⟩ => ⟨S16x4096x512, .f32⟩
  | .hbm, ⟨51, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel2.lean ====
abbrev S1280 : Shape := ⟨1, ![1280]⟩
abbrev S1 : Shape := ⟨1, ![1]⟩
abbrev S655360x1024 : Shape := ⟨2, ![655360, 1024]⟩
abbrev S1x256x1024x256 : Shape := ⟨4, ![1, 256, 1024, 256]⟩
abbrev S1x256x256x1024 : Shape := ⟨4, ![1, 256, 256, 1024]⟩
abbrev S_ : Shape := ⟨0, ![]⟩
abbrev S1280x1 : Shape := ⟨2, ![1280, 1]⟩
abbrev S655360x2x4x128 : Shape := ⟨4, ![655360, 2, 4, 128]⟩
abbrev S655360x4x2x128 : Shape := ⟨4, ![655360, 4, 2, 128]⟩
abbrev S5242880x128 : Shape := ⟨2, ![5242880, 128]⟩
abbrev S256x1024x256 : Shape := ⟨3, ![256, 1024, 256]⟩
abbrev S256x256x1024 : Shape := ⟨3, ![256, 256, 1024]⟩
abbrev S4096x128 : Shape := ⟨2, ![4096, 128]⟩
abbrev S1x1024x256 : Shape := ⟨3, ![1, 1024, 256]⟩
abbrev S1x256x1024 : Shape := ⟨3, ![1, 256, 1024]⟩
abbrev S1024x512 : Shape := ⟨2, ![1024, 512]⟩
abbrev S256x1024 : Shape := ⟨2, ![256, 1024]⟩
abbrev S1024x256 : Shape := ⟨2, ![1024, 256]⟩
abbrev S2048x128 : Shape := ⟨2, ![2048, 128]⟩
abbrev S1024x128 : Shape := ⟨2, ![1024, 128]⟩
abbrev S256x128 : Shape := ⟨2, ![256, 128]⟩
abbrev S2048x2x128 : Shape := ⟨3, ![2048, 2, 128]⟩
abbrev S256x2x128 : Shape := ⟨3, ![256, 2, 128]⟩
abbrev S256x1x128 : Shape := ⟨3, ![256, 1, 128]⟩
abbrev S256x512 : Shape := ⟨2, ![256, 512]⟩
abbrev S256x256 : Shape := ⟨2, ![256, 256]⟩

abbrev nBuf : Space → Nat
  | .hbm => 27
  | .vmem => 12
  | .smem => 2
  | _ => 0

abbrev bufTy : (tb : Table) → Fin (tcTables nBuf tb) → BufTy
  | .hbm, ⟨0, _⟩ => ⟨S1280, .i32⟩
  | .hbm, ⟨1, _⟩ => ⟨S655360x1024, .f32⟩
  | .hbm, ⟨2, _⟩ => ⟨S1x256x1024x256, .f32⟩
  | .hbm, ⟨3, _⟩ => ⟨S1x256x1024x256, .f32⟩
  | .hbm, ⟨4, _⟩ => ⟨S1x256x256x1024, .f32⟩
  | .hbm, ⟨5, _⟩ => ⟨S1280, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1280, .i32⟩
  | .hbm, ⟨10, _⟩ => ⟨S1280, .i32⟩
  | .hbm, ⟨11, _⟩ => ⟨S_, .i32⟩
  | .hbm, ⟨12, _⟩ => ⟨S1280, .i32⟩
  | .hbm, ⟨13, _⟩ => ⟨S1280, .i1⟩
  | .hbm, ⟨14, _⟩ => ⟨S_, .i32⟩
  | .hbm, ⟨15, _⟩ => ⟨S1280, .i32⟩
  | .hbm, ⟨16, _⟩ => ⟨S1280, .i32⟩
  | .hbm, ⟨17, _⟩ => ⟨S1280, .i32⟩
  | .hbm, ⟨18, _⟩ => ⟨S1280x1, .i32⟩
  | .hbm, ⟨19, _⟩ => ⟨S655360x1024, .bf16⟩
  | .hbm, ⟨20, _⟩ => ⟨S655360x2x4x128, .bf16⟩
  | .hbm, ⟨21, _⟩ => ⟨S655360x4x2x128, .bf16⟩
  | .hbm, ⟨22, _⟩ => ⟨S5242880x128, .bf16⟩
  | .hbm, ⟨23, _⟩ => ⟨S256x1024x256, .f32⟩
  | .hbm, ⟨24, _⟩ => ⟨S256x1024x256, .f32⟩
  | .hbm, ⟨25, _⟩ => ⟨S256x256x1024, .f32⟩
  | .hbm, ⟨26, _⟩ => ⟨S5242880x128, .bf16⟩
  | .local _ .vmem, ⟨0, _⟩ => ⟨S4096x128, .bf16⟩
  | .local _ .vmem, ⟨1, _⟩ => ⟨S4096x128, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S4096x128, .bf16⟩
  | .local _ .vmem, ⟨9, _⟩ => ⟨S4096x128, .bf16⟩
  | .local _ .vmem, ⟨10, _⟩ => ⟨S1024x512, .bf16⟩
  | .local _ .vmem, ⟨11, _⟩ => ⟨S256x1024, .bf16⟩
  | .local _ .smem, ⟨0, _⟩ => ⟨S1280, .i32⟩
  | .local _ .smem, ⟨1, _⟩ => ⟨S1, .i32⟩
  | _, _ => ⟨S1280, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![1280], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
abbrev S512x128 : Shape := ⟨2, ![512, 128]⟩
variable {F : FTy → Type} [FloatOps F]
-- ==== Reference2Ideal.lean ====
abbrev S1280 : Shape := ⟨1, ![1280]⟩
abbrev S1 : Shape := ⟨1, ![1]⟩
abbrev S655360x1024 : Shape := ⟨2, ![655360, 1024]⟩
abbrev S1x256x1024x256 : Shape := ⟨4, ![1, 256, 1024, 256]⟩
abbrev S1x256x256x1024 : Shape := ⟨4, ![1, 256, 256, 1024]⟩
abbrev S1280x512x1024 : Shape := ⟨3, ![1280, 512, 1024]⟩
abbrev S256x1024x256 : Shape := ⟨3, ![256, 1024, 256]⟩
abbrev S_ : Shape := ⟨0, ![]⟩
abbrev S1280x1 : Shape := ⟨2, ![1280, 1]⟩
abbrev S1280x1024x256 : Shape := ⟨3, ![1280, 1024, 256]⟩
abbrev S1280x512x256 : Shape := ⟨3, ![1280, 512, 256]⟩
abbrev S256x256x1024 : Shape := ⟨3, ![256, 256, 1024]⟩
abbrev S1280x256x1024 : Shape := ⟨3, ![1280, 256, 1024]⟩
abbrev S655360x2x4x128 : Shape := ⟨4, ![655360, 2, 4, 128]⟩
abbrev S655360x4x2x128 : Shape := ⟨4, ![655360, 4, 2, 128]⟩
abbrev S5242880x128 : Shape := ⟨2, ![5242880, 128]⟩

abbrev nBuf : Space → Nat
  | .hbm => 54
  | .vmem => 0
  | .smem => 0
  | _ => 0

abbrev bufTy : (tb : Table) → Fin (tcTables nBuf tb) → BufTy
  | .hbm, ⟨0, _⟩ => ⟨S1280, .i32⟩
  | .hbm, ⟨1, _⟩ => ⟨S1, .i32⟩
  | .hbm, ⟨2, _⟩ => ⟨S655360x1024, .f32⟩
  | .hbm, ⟨3, _⟩ => ⟨S1x256x1024x256, .f32⟩
  | .hbm, ⟨4, _⟩ => ⟨S1x256x1024x256, .f32⟩
  | .hbm, ⟨5, _⟩ => ⟨S1x256x256x1024, .f32⟩
  | .hbm, ⟨6, _⟩ => ⟨S1280x512x1024, .f32⟩
  | .hbm, ⟨7, _⟩ => ⟨S256x1024x256, .f32⟩
  | .hbm, ⟨8, _⟩ => ⟨S_, .i32⟩
  | .hbm, ⟨9, _⟩ => ⟨S1280, .i32⟩
  | .hbm, ⟨10, _⟩ => ⟨S1280, .i1⟩
  | .hbm, ⟨11, _⟩ => ⟨S_, .i32⟩
  | .hbm, ⟨12, _⟩ => ⟨S1280, .i32⟩
  | .hbm, ⟨13, _⟩ => ⟨S1280, .i32⟩
  | .hbm, ⟨14, _⟩ => ⟨S1280, .i32⟩
  | .hbm, ⟨15, _⟩ => ⟨S1280x1, .i32⟩
  | .hbm, ⟨16, _⟩ => ⟨S1280x1024x256, .f32⟩
  | .hbm, ⟨17, _⟩ => ⟨S1280x512x256, .f32⟩
  | .hbm, ⟨18, _⟩ => ⟨S256x1024x256, .f32⟩
  | .hbm, ⟨19, _⟩ => ⟨S_, .i32⟩
  | .hbm, ⟨20, _⟩ => ⟨S1280, .i32⟩
  | .hbm, ⟨21, _⟩ => ⟨S1280, .i1⟩
  | .hbm, ⟨22, _⟩ => ⟨S_, .i32⟩
  | .hbm, ⟨23, _⟩ => ⟨S1280, .i32⟩
  | .hbm, ⟨24, _⟩ => ⟨S1280, .i32⟩
  | .hbm, ⟨25, _⟩ => ⟨S1280, .i32⟩
  | .hbm, ⟨26, _⟩ => ⟨S1280x1, .i32⟩
  | .hbm, ⟨27, _⟩ => ⟨S1280x1024x256, .f32⟩
  | .hbm, ⟨28, _⟩ => ⟨S1280x512x256, .f32⟩
  | .hbm, ⟨29, _⟩ => ⟨S1280x512x256, .f32⟩
  | .hbm, ⟨30, _⟩ => ⟨S1280x512x256, .f32⟩
  | .hbm, ⟨31, _⟩ => ⟨S_, .f32⟩
  | .hbm, ⟨32, _⟩ => ⟨S1280x512x256, .f32⟩
  | .hbm, ⟨33, _⟩ => ⟨S1280x512x256, .f32⟩
  | .hbm, ⟨34, _⟩ => ⟨S_, .f32⟩
  | .hbm, ⟨35, _⟩ => ⟨S1280x512x256, .f32⟩
  | .hbm, ⟨36, _⟩ => ⟨S1280x512x256, .f32⟩
  | .hbm, ⟨37, _⟩ => ⟨S1280x512x256, .f32⟩
  | .hbm, ⟨38, _⟩ => ⟨S1280x512x256, .f32⟩
  | .hbm, ⟨39, _⟩ => ⟨S256x256x1024, .f32⟩
  | .hbm, ⟨40, _⟩ => ⟨S_, .i32⟩
  | .hbm, ⟨41, _⟩ => ⟨S1280, .i32⟩
  | .hbm, ⟨42, _⟩ => ⟨S1280, .i1⟩
  | .hbm, ⟨43, _⟩ => ⟨S_, .i32⟩
  | .hbm, ⟨44, _⟩ => ⟨S1280, .i32⟩
  | .hbm, ⟨45, _⟩ => ⟨S1280, .i32⟩
  | .hbm, ⟨46, _⟩ => ⟨S1280, .i32⟩
  | .hbm, ⟨47, _⟩ => ⟨S1280x1, .i32⟩
  | .hbm, ⟨48, _⟩ => ⟨S1280x256x1024, .f32⟩
  | .hbm, ⟨49, _⟩ => ⟨S1280x512x1024, .f32⟩
  | .hbm, ⟨50, _⟩ => ⟨S655360x2x4x128, .f32⟩
  | .hbm, ⟨51, _⟩ => ⟨S655360x4x2x128, .f32⟩
  | .hbm, ⟨52, _⟩ => ⟨S5242880x128, .f32⟩
  | .hbm, ⟨53, _⟩ => ⟨S5242880x128, .bf16⟩
  | _, _ => ⟨S1280, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x1x6144 : Shape := ⟨3, ![16, 1, 6144]⟩
abbrev S1x1024 : Shape := ⟨2, ![1, 1024]⟩
abbrev S1x1024x2304 : Shape := ⟨3, ![1, 1024, 2304]⟩
abbrev S1x64 : Shape := ⟨2, ![1, 64]⟩
abbrev S4096x32 : Shape := ⟨2, ![4096, 32]⟩
abbrev S512 : Shape := ⟨1, ![512]⟩
abbrev S2 : Shape := ⟨1, ![2]⟩
abbrev S16x6x1024 : Shape := ⟨3, ![16, 6, 1024]⟩
abbrev S1024x2304 : Shape := ⟨2, ![1024, 2304]⟩
abbrev S1024x512 : Shape := ⟨2, ![1024, 512]⟩
abbrev S_ : Shape := ⟨0, ![]⟩
abbrev S512x1 : Shape := ⟨2, ![512, 1]⟩
abbrev S1024x1792 : Shape := ⟨2, ![1024, 1792]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S64 : Shape := ⟨1, ![64]⟩
abbrev S8x64 : Shape := ⟨2, ![8, 64]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1024 : Shape := ⟨1, ![1024]⟩
abbrev S4096x32x2 : Shape := ⟨3, ![4096, 32, 2]⟩
abbrev S4096x64 : Shape := ⟨2, ![4096, 64]⟩
abbrev S1x2 : Shape := ⟨2, ![1, 2]⟩
abbrev S32x2 : Shape := ⟨2, ![32, 2]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16x4096x512 : Shape := ⟨3, ![16, 4096, 512]⟩
abbrev S16x4096x128 : Shape := ⟨3, ![16, 4096, 128]⟩
abbrev S16x4096x256 : Shape := ⟨3, ![16, 4096, 256]⟩
abbrev S16x4096x1536 : Shape := ⟨3, ![16, 4096, 1536]⟩
abbrev S1x512x1024 : Shape := ⟨3, ![1, 512, 1024]⟩
abbrev S1x6x1024 : Shape := ⟨3, ![1, 6, 1024]⟩
abbrev S512x128 : Shape := ⟨2, ![512, 128]⟩
abbrev S1x512x512 : Shape := ⟨3, ![1, 512, 512]⟩
abbrev S1x512x128 : Shape := ⟨3, ![1, 512, 128]⟩
abbrev S1x512x256 : Shape := ⟨3, ![1, 512, 256]⟩
abbrev S1x512x1536 : Shape := ⟨3, ![1, 512, 1536]⟩
abbrev S512x1024 : Shape := ⟨2, ![512, 1024]⟩
abbrev S1x1x1024 : Shape := ⟨3, ![1, 1, 1024]⟩
abbrev S512x2304 : Shape := ⟨2, ![512, 2304]⟩
abbrev S128x128 : Shape := ⟨2, ![128, 128]⟩
abbrev S512x256 : Shape := ⟨2, ![512, 256]⟩
abbrev S512x1536 : Shape := ⟨2, ![512, 1536]⟩

abbrev nBuf : Space → Nat
  | .hbm => 73
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S16x1x6144, .f32⟩
  | .hbm, ⟨2, _⟩ => ⟨S1x1024, .f32⟩
  | .hbm, ⟨3, _⟩ => ⟨S1x1024x2304, .f32⟩
  | .hbm, ⟨4, _⟩ => ⟨S1x64, .f32⟩
  | .hbm, ⟨5, _⟩ => ⟨S1x64, .f32⟩
  | .hbm, ⟨6, _⟩ => ⟨S4096x32, .f32⟩
  | .hbm, ⟨7, _⟩ => ⟨S4096x32, .f32⟩
  | .hbm, ⟨8, _⟩ => ⟨S512, .i32⟩
  | .hbm, ⟨9, _⟩ => ⟨S2, .f32⟩
  | .hbm, ⟨10, _⟩ => ⟨S16x6x1024, .f32⟩
  | .hbm, ⟨11, _⟩ => ⟨S1024x2304, .f32⟩
  | .hbm, ⟨12, _⟩ => ⟨S1024x512, .f32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S512x1, .i32⟩
  | .hbm, ⟨21, _⟩ => ⟨S1024x512, .f32⟩
  | .hbm, ⟨22, _⟩ => ⟨S1024x1792, .f32⟩
  | .hbm, ⟨23, _⟩ => ⟨S1024x2304, .f32⟩
  | .hbm, ⟨24, _⟩ => ⟨S1024x2304, .bf16⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S_, .f32⟩
  | .hbm, ⟨33, _⟩ => ⟨S64x64, .f32⟩
  | .hbm, ⟨34, _⟩ => ⟨S8x1x8x1, .f32⟩
  | .hbm, ⟨35, _⟩ => ⟨S1x64x1x64, .f32⟩
  | .hbm, ⟨36, _⟩ => ⟨S8x64x8x64, .f32⟩
  | .hbm, ⟨37, _⟩ => ⟨S8x64x8x64, .f32⟩
  | .hbm, ⟨38, _⟩ => ⟨S8x64x8x64, .f32⟩
  | .hbm, ⟨39, _⟩ => ⟨S512x512, .f32⟩
  | .hbm, ⟨40, _⟩ => ⟨S512x512, .bf16⟩
  | .hbm, ⟨41, _⟩ => ⟨S64, .f32⟩
  | .hbm, ⟨42, _⟩ => ⟨S1x64, .f32⟩
  | .hbm, ⟨43, _⟩ => ⟨S8x64, .f32⟩
  | .hbm, ⟨44, _⟩ => ⟨S512, .f32⟩
  | .hbm, ⟨45, _⟩ => ⟨S1x512, .f32⟩
  | .hbm, ⟨46, _⟩ => ⟨S64, .f32⟩
  | .hbm, ⟨47, _⟩ => ⟨S1x64, .f32⟩
  | .hbm, ⟨48, _⟩ => ⟨S2x64, .f32⟩
  | .hbm, ⟨49, _⟩ => ⟨S128, .f32⟩
  | .hbm, ⟨50, _⟩ => ⟨S1x128, .f32⟩
  | .hbm, ⟨51, _⟩ => ⟨S1024, .f32⟩
  | .hbm, ⟨52, _⟩ => ⟨S1x1024, .f32⟩
  | .hbm, ⟨53, _⟩ => ⟨S4096x32x2, .f32⟩
  | .hbm, ⟨54, _⟩ => ⟨S4096x64, .f32⟩
  | .hbm, ⟨55, _⟩ => ⟨S4096x32x2, .f32⟩
  | .hbm, ⟨56, _⟩ => ⟨S4096x64, .f32⟩
  | .hbm, ⟨57, _⟩ => ⟨S1x2, .f32⟩
  | .hbm, ⟨58, _⟩ => ⟨S32x2, .f32⟩
  | .hbm, ⟨59, _⟩ => ⟨S64, .f32⟩
  | .hbm, ⟨60, _⟩ => ⟨S1x4096x1x64, .f32⟩
  | .hbm, ⟨61, _⟩ => ⟨S1x4096x2x64, .f32⟩
  | .hbm, ⟨62, _⟩ => ⟨S4096x128, .f32⟩
  | .hbm, ⟨63, _⟩ => ⟨S1x64, .f32⟩
  | .hbm, ⟨64, _⟩ => ⟨S4096x64, .f32⟩
  | .hbm, ⟨65, _⟩ => ⟨S4096x64, .f32⟩
  | .hbm, ⟨66, _⟩ => ⟨S1x4096x1x64, .f32⟩
  | .hbm, ⟨67, _⟩ => ⟨S1x4096x2x64, .f32⟩
  | .hbm, ⟨68, _⟩ => ⟨S4096x128, .f32⟩
  | .hbm, ⟨69, _⟩ => ⟨S16x4096x512, .bf16⟩
  | .hbm, ⟨70, _⟩ => ⟨S16x4096x128, .bf16⟩
  | .hbm, ⟨71, _⟩ => ⟨S16x4096x256, .bf16⟩
  | .hbm, ⟨72, _⟩ => ⟨S16x4096x1536, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2304, .bf16⟩
  | .local _ .vmem, ⟨6, _⟩ => ⟨S512x512, .bf16⟩
  | .local _ .vmem, ⟨7, _⟩ => ⟨S1x512, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x512x512, .bf16⟩
  | .local _ .vmem, ⟨14, _⟩ => ⟨S1x512x512, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x1536, .bf16⟩
  | .local _ .vmem, ⟨20, _⟩ => ⟨S1x512x1536, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50_0 : Ref sig .tc := ⟨.hbm, 69, rfl⟩
abbrev main_v50_1 : Ref sig .tc := ⟨.hbm, 70, rfl⟩
abbrev main_v50_2 : Ref sig .tc := ⟨.hbm, 71, rfl⟩
abbrev main_v50_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S16x4096x1024 : Shape := ⟨3, ![16, 4096, 1024]⟩
abbrev S16x1x6144 : Shape := ⟨3, ![16, 1, 6144]⟩
abbrev S1x1024 : Shape := ⟨2, ![1, 1024]⟩
abbrev S1x1024x2304 : Shape := ⟨3, ![1, 1024, 2304]⟩
abbrev S1x64 : Shape := ⟨2, ![1, 64]⟩
abbrev S4096x32 : Shape := ⟨2, ![4096, 32]⟩
abbrev S16x1x1024 : Shape := ⟨3, ![16, 1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x2304 : Shape := ⟨2, ![1024, 2304]⟩
abbrev S16x4096x2304 : Shape := ⟨3, ![16, 4096, 2304]⟩
abbrev S16x4096x512 : Shape := ⟨3, ![16, 4096, 512]⟩
abbrev S16x4096x8x64 : Shape := ⟨4, ![16, 4096, 8, 64]⟩
abbrev S64 : Shape := ⟨1, ![64]⟩
abbrev S16x4096x8 : Shape := ⟨3, ![16, 4096, 8]⟩
abbrev S16x4096x8x1 : Shape := ⟨4, ![16, 4096, 8, 1]⟩
abbrev S1x1x1x64 : Shape := ⟨4, ![1, 1, 1, 64]⟩
abbrev S16x4096x8x32x2 : Shape := ⟨5, ![16, 4096, 8, 32, 2]⟩
abbrev S16x4096x8x32x1 : Shape := ⟨5, ![16, 4096, 8, 32, 1]⟩
abbrev S16x4096x8x32 : Shape := ⟨4, ![16, 4096, 8, 32]⟩
abbrev S1x4096x1x32 : Shape := ⟨4, ![1, 4096, 1, 32]⟩
abbrev S16x4096x128 : Shape := ⟨3, ![16, 4096, 128]⟩
abbrev S16x4096x2x64 : Shape := ⟨4, ![16, 4096, 2, 64]⟩
abbrev S16x4096x2 : Shape := ⟨3, ![16, 4096, 2]⟩
abbrev S16x4096x2x1 : Shape := ⟨4, ![16, 4096, 2, 1]⟩
abbrev S16x4096x2x32x2 : Shape := ⟨5, ![16, 4096, 2, 32, 2]⟩
abbrev S16x4096x2x32x1 : Shape := ⟨5, ![16, 4096, 2, 32, 1]⟩
abbrev S16x4096x2x32 : Shape := ⟨4, ![16, 4096, 2, 32]⟩
abbrev S16x4096x2x4x64 : Shape := ⟨5, ![16, 4096, 2, 4, 64]⟩
abbrev S16x4096x4x2x64 : Shape := ⟨5, ![16, 4096, 4, 2, 64]⟩
abbrev S16x4096x256 : Shape := ⟨3, ![16, 4096, 256]⟩
abbrev S16x4096x1536 : Shape := ⟨3, ![16, 4096, 1536]⟩

abbrev nBuf : Space → Nat
  | .hbm => 134
  | .vmem => 0
  | .smem => 0
  | _ => 0

abbrev hbmTy0_0 (i : Nat) : BufTy := match i % 128 with
  | 0 => ⟨S16x4096x1024, .f32⟩
  | 1 => ⟨S16x1x6144, .f32⟩
  | 2 => ⟨S1x1024, .f32⟩
  | 3 => ⟨S1x1024x2304, .f32⟩
  | 4 => ⟨S1x64, .f32⟩
  | 5 => ⟨S1x64, .f32⟩
  | 6 => ⟨S4096x32, .f32⟩
  | 7 => ⟨S4096x32, .f32⟩
  | 8 => ⟨S16x1x1024, .f32⟩
  | 9 => ⟨S16x1x1024, .f32⟩
  | 10 => ⟨S1024, .f32⟩
  | 11 => ⟨S16x4096x1024, .f32⟩
  | 12 => ⟨S_, .f32⟩
  | 13 => ⟨S16x4096, .f32⟩
  | 14 => ⟨S16x4096x1, .f32⟩
  | 15 => ⟨S_, .f32⟩
  | 16 => ⟨S16x4096x1, .f32⟩
  | 17 => ⟨S16x4096x1, .f32⟩
  | 18 => ⟨S_, .f32⟩
  | 19 => ⟨S16x4096x1, .f32⟩
  | 20 => ⟨S16x4096x1, .f32⟩
  | 21 => ⟨S16x4096x1, .f32⟩
  | 22 => ⟨S16x4096x1024, .f32⟩
  | 23 => ⟨S16x4096x1024, .f32⟩
  | 24 => ⟨S1x1x1024, .f32⟩
  | 25 => ⟨S16x4096x1024, .f32⟩
  | 26 => ⟨S16x4096x1024, .f32⟩
  | 27 => ⟨S_, .f32⟩
  | 28 => ⟨S16x1x1024, .f32⟩
  | 29 => ⟨S16x1x1024, .f32⟩
  | 30 => ⟨S16x4096x1024, .f32⟩
  | 31 => ⟨S16x4096x1024, .f32⟩
  | 32 => ⟨S16x4096x1024, .f32⟩
  | 33 => ⟨S16x4096x1024, .f32⟩
  | 34 => ⟨S1024x2304, .f32⟩
  | 35 => ⟨S16x4096x2304, .f32⟩
  | 36 => ⟨S16x4096x512, .f32⟩
  | 37 => ⟨S16x4096x8x64, .f32⟩
  | 38 => ⟨S64, .f32⟩
  | 39 => ⟨S16x4096x8x64, .f32⟩
  | 40 => ⟨S_, .f32⟩
  | 41 => ⟨S16x4096x8, .f32⟩
  | 42 => ⟨S16x4096x8x1, .f32⟩
  | 43 => ⟨S_, .f32⟩
  | 44 => ⟨S16x4096x8x1, .f32⟩
  | 45 => ⟨S16x4096x8x1, .f32⟩
  | 46 => ⟨S_, .f32⟩
  | 47 => ⟨S16x4096x8x1, .f32⟩
  | 48 => ⟨S16x4096x8x1, .f32⟩
  | 49 => ⟨S16x4096x8x1, .f32⟩
  | 50 => ⟨S16x4096x8x64, .f32⟩
  | 51 => ⟨S16x4096x8x64, .f32⟩
  | 52 => ⟨S1x1x1x64, .f32⟩
  | 53 => ⟨S16x4096x8x64, .f32⟩
  | 54 => ⟨S16x4096x8x64, .f32⟩
  | 55 => ⟨S16x4096x8x32x2, .f32⟩
  | 56 => ⟨S16x4096x8x32x1, .f32⟩
  | 57 => ⟨S16x4096x8x32, .f32⟩
  | 58 => ⟨S16x4096x8x32x2, .f32⟩
  | 59 => ⟨S16x4096x8x32x1, .f32⟩
  | 60 => ⟨S16x4096x8x32, .f32⟩
  | 61 => ⟨S1x4096x1x32, .f32⟩
  | 62 => ⟨S1x4096x1x32, .f32⟩
  | 63 => ⟨S16x4096x8x32, .f32⟩
  | 64 => ⟨S16x4096x8x32, .f32⟩
  | 65 => ⟨S16x4096x8x32, .f32⟩
  | 66 => ⟨S16x4096x8x32, .f32⟩
  | 67 => ⟨S16x4096x8x32, .f32⟩
  | 68 => ⟨S16x4096x8x32, .f32⟩
  | 69 => ⟨S16x4096x8x32, .f32⟩
  | 70 => ⟨S16x4096x8x32, .f32⟩
  | 71 => ⟨S16x4096x8x32, .f32⟩
  | 72 => ⟨S16x4096x8x32, .f32⟩
  | 73 => ⟨S16x4096x8x32x1, .f32⟩
  | 74 => ⟨S16x4096x8x32x1, .f32⟩
  | 75 => ⟨S16x4096x8x32x2, .f32⟩
  | 76 => ⟨S16x4096x8x64, .f32⟩
  | 77 => ⟨S_, .f32⟩
  | 78 => ⟨S16x4096x8x64, .f32⟩
  | 79 => ⟨S16x4096x8x64, .f32⟩
  | 80 => ⟨S16x4096x128, .f32⟩
  | 81 => ⟨S16x4096x2x64, .f32⟩
  | 82 => ⟨S64, .f32⟩
  | 83 => ⟨S16x4096x2x64, .f32⟩
  | 84 => ⟨S_, .f32⟩
  | 85 => ⟨S16x4096x2, .f32⟩
  | 86 => ⟨S16x4096x2x1, .f32⟩
  | 87 => ⟨S_, .f32⟩
  | 88 => ⟨S16x4096x2x1, .f32⟩
  | 89 => ⟨S16x4096x2x1, .f32⟩
  | 90 => ⟨S_, .f32⟩
  | 91 => ⟨S16x4096x2x1, .f32⟩
  | 92 => ⟨S16x4096x2x1, .f32⟩
  | 93 => ⟨S16x4096x2x1, .f32⟩
  | 94 => ⟨S16x4096x2x64, .f32⟩
  | 95 => ⟨S16x4096x2x64, .f32⟩
  | 96 => ⟨S1x1x1x64, .f32⟩
  | 97 => ⟨S16x4096x2x64, .f32⟩
  | 98 => ⟨S16x4096x2x64, .f32⟩
  | 99 => ⟨S16x4096x2x32x2, .f32⟩
  | 100 => ⟨S16x4096x2x32x1, .f32⟩
  | 101 => ⟨S16x4096x2x32, .f32⟩
  | 102 => ⟨S16x4096x2x32x2, .f32⟩
  | 103 => ⟨S16x4096x2x32x1, .f32⟩
  | 104 => ⟨S16x4096x2x32, .f32⟩
  | 105 => ⟨S1x4096x1x32, .f32⟩
  | 106 => ⟨S1x4096x1x32, .f32⟩
  | 107 => ⟨S16x4096x2x32, .f32⟩
  | 108 => ⟨S16x4096x2x32, .f32⟩
  | 109 => ⟨S16x4096x2x32, .f32⟩
  | 110 => ⟨S16x4096x2x32, .f32⟩
  | 111 => ⟨S16x4096x2x32, .f32⟩
  | 112 => ⟨S16x4096x2x32, .f32⟩
  | 113 => ⟨S16x4096x2x32, .f32⟩
  | 114 => ⟨S16x4096x2x32, .f32⟩
  | 115 => ⟨S16x4096x2x32, .f32⟩
  | 116 => ⟨S16x4096x2x32, .f32⟩
  | 117 => ⟨S16x4096x2x32x1, .f32⟩
  | 118 => ⟨S16x4096x2x32x1, .f32⟩
  | 119 => ⟨S16x4096x2x32x2, .f32⟩
  | 120 => ⟨S16x4096x2x64, .f32⟩
  | 121 => ⟨S16x4096x128, .f32⟩
  | 122 => ⟨S16x4096x2x4x64, .f32⟩
  | 123 => ⟨S16x4096x4x2x64, .f32⟩
  | 124 => ⟨S16x4096x512, .f32⟩
  | 125 => ⟨S_, .f32⟩
  | 126 => ⟨S16x4096x128, .f32⟩
  | 127 => ⟨S16x4096x256, .f32⟩
  | _ => ⟨S16x4096x1024, .f32⟩

abbrev hbmTy0_1 (i : Nat) : BufTy := match i % 128 with
  | 0 => ⟨S16x4096x1536, .f32⟩
  | 1 => ⟨S16x4096x512, .bf16⟩
  | 2 => ⟨S16x4096x128, .f32⟩
  | 3 => ⟨S16x4096x128, .bf16⟩
  | 4 => ⟨S16x4096x256, .bf16⟩
  | 5 => ⟨S16x4096x1536, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_10 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩

abbrev nD : Nat := 1
abbrev τ : Topo := Topo.v7x

variable {F : FTy → Type} [FloatOps F]
-- ==== Proof.Attn.Host.lean ====
module

public import proofs.«01_k».proof.Proof.Gen.KernelIdeal.Value
public import Idealize.ShloMosaic.Lib.Pipeline.ValueKit
public import Idealize.ShloMosaic.Lib.Pointwise
public import Idealize.ShloMosaic.Lib.Claim

/-! The arrays that the host code lays out for the call, read at an index from the arguments. -/

@[expose] public section

set_option maxRecDepth 16384

noncomputable section

namespace Cert.Proof.Attn

open Idealize.ShloMosaic Idealize.ShloMosaic.TcCoe Idealize.SL.Sem
open Cert.KernelIdeal Cert.KernelIdeal.Gen

variable (m : (ℓ : Loc nD τ sig) → Buf (Elt Ideal) ℓ)

/-- The queries, by batch, row, head and lane. -/
abbrev aq (c : Dev nD) : FVec Ideal S16x4096x8x64 .f32 := m ((c : Thread nD τ).loc main_arg0)
/-- The context's keys, by batch, position, head and lane. -/
abbrev akc (c : Dev nD) : FVec Ideal S16x256x2x64 .f32 := m ((c : Thread nD τ).loc main_arg1)
/-- The sequence's keys. -/
abbrev ak (c : Dev nD) : FVec Ideal S16x4096x2x64 .f32 := m ((c : Thread nD τ).loc main_arg2)
/-- The context's values. -/
abbrev avc (c : Dev nD) : FVec Ideal S16x256x2x64 .f32 := m ((c : Thread nD τ).loc main_arg3)
/-- The sequence's values. -/
abbrev av (c : Dev nD) : FVec Ideal S16x4096x2x64 .f32 := m ((c : Thread nD τ).loc main_arg4)
/-- The norm's weights. -/
abbrev aw (c : Dev nD) : FVec Ideal S1x512 .f32 := m ((c : Thread nD τ).loc main_arg5)

/-- The column that the table of head pairs holds for a column of the call's order: pair `x / 128` of the heads
    `j` and `j + 4`, then the lane in the head. -/
def perm (x : ℕ) : ℕ := (x / 64 % 2 * 4 + x / 128) * 64 + x % 64

theorem perm_lt (x : Fin 512) : perm x.val < 512 := by unfold perm; omega

/-- The table's entries. -/
theorem table_entry : ∀ x : Fin 512, lit0 x = BitVec.ofNat 32 (perm x.val) := by decide +kernel

/-- The start indices (negative ones wrapped, of which there are none) are the table. -/
theorem table_start : ∀ x : Fin 512,
    Scalar.select (IntOp.cmpi .slt (lit0 x) 0#32) (lit0 x + 512#32) (lit0 x) = BitVec.ofNat 32 (perm x.val) := by
  decide +kernel

theorem table_nat : ∀ x : Fin 512, min (BitVec.ofNat 32 (perm x.val)).toInt.toNat (512 - 1) = perm x.val := by
  decide +kernel

/-- The gather of whole columns along the last axis of a rank-3 array. -/
theorem gather_cols (x : FVec Ideal S16x4096x512 .f32) (i : IVec S512x1 32) (b : Fin 16) (l : Fin 4096) (e : Fin 512) (p : Fin 512)
    (hp : min (i (ix2 e 0)).toInt.toNat (512 - 1) = p.val) :
    Host.gather gather_S16x4096x512_S512x1_S16x4096x512_01_2_n_n_2_1_1640961 x i (ix3 b l e) = x (ix3 b l p) := by
  unfold Host.gather
  congr 1
  funext a
  refine Fin.ext ?_
  show GatherDims.start gather_S16x4096x512_S512x1_S16x4096x512_01_2_n_n_2_1_1640961 (ix3 b l e) i a
    + GatherDims.batchCoord gather_S16x4096x512_S512x1_S16x4096x512_01_2_n_n_2_1_1640961 (ix3 b l e) a
    + GatherDims.offCoord gather_S16x4096x512_S512x1_S16x4096x512_01_2_n_n_2_1_1640961 (ix3 b l e) a = _
  rw [GatherDims.batchCoord_eq_zero _ _ _ List.not_mem_nil]
  have h : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h with rfl | rfl | rfl
  · unfold GatherDims.start
    rw [dif_neg (show ¬(0 : Fin 3) ∈ GatherDims.startIndexMap gather_S16x4096x512_S512x1_S16x4096x512_01_2_n_n_2_1_1640961 by decide)]
    simp only [Nat.zero_add]
    rfl
  · unfold GatherDims.start
    rw [dif_neg (show ¬(1 : Fin 3) ∈ GatherDims.startIndexMap gather_S16x4096x512_S512x1_S16x4096x512_01_2_n_n_2_1_1640961 by decide)]
    simp only [Nat.zero_add]
    rfl
  · rw [GatherDims.offCoord_eq_zero _ _ _ (fun h => ((GatherDims.mem_sKept _ _).mp h).1 (List.mem_singleton.mpr rfl))]
    unfold GatherDims.start
    rw [dif_pos (show (2 : Fin 3) ∈ GatherDims.startIndexMap gather_S16x4096x512_S512x1_S16x4096x512_01_2_n_n_2_1_1640961 by decide)]
    have hsi : GatherDims.siIdx gather_S16x4096x512_S512x1_S16x4096x512_01_2_n_n_2_1_1640961 (ix3 b l e)
        ⟨List.idxOf (2 : Fin 3) (GatherDims.startIndexMap gather_S16x4096x512_S512x1_S16x4096x512_01_2_n_n_2_1_1640961),
          List.idxOf_lt_length_iff.2 (List.mem_singleton.mpr rfl)⟩ = ix2 e 0 := by
      funext b; refine Fin.ext ?_
      match b with
      | ⟨0, _⟩ => rfl
      | ⟨1, _⟩ => rfl
    rw [hsi]
    exact hp

/-- The gather of entries of a vector. -/
theorem gather_vec (x : FVec Ideal S512 .f32) (i : IVec S512x1 32) (e : Fin 512) (p : Fin 512)
    (hp : min (i (ix2 e 0)).toInt.toNat (512 - 1) = p.val) :
    Host.gather gather_S512_S512x1_S512_n_0_n_n_0_1_1 x i (ix1 e) = x (ix1 p) := by
  unfold Host.gather
  congr 1
  funext a
  obtain rfl : a = (0 : Fin 1) := Subsingleton.elim _ _
  refine Fin.ext ?_
  show GatherDims.start gather_S512_S512x1_S512_n_0_n_n_0_1_1 (ix1 e) i 0
    + GatherDims.batchCoord gather_S512_S512x1_S512_n_0_n_n_0_1_1 (ix1 e) 0
    + GatherDims.offCoord gather_S512_S512x1_S512_n_0_n_n_0_1_1 (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ GatherDims.startIndexMap gather_S512_S512x1_S512_n_0_n_n_0_1_1 by decide)]
  have hsi : GatherDims.siIdx gather_S512_S512x1_S512_n_0_n_n_0_1_1 (ix1 e)
      ⟨List.idxOf (0 : Fin 1) (GatherDims.startIndexMap gather_S512_S512x1_S512_n_0_n_n_0_1_1),
        List.idxOf_lt_length_iff.2 (List.mem_singleton.mpr rfl)⟩ = ix2 e 0 := by
    funext b; refine Fin.ext ?_
    match b with
    | ⟨0, _⟩ => rfl
    | ⟨1, _⟩ => rfl
  rw [hsi]
  exact hp

/-- The start indices as the host code computes them. -/
theorem start_nat (x : Fin 512) :
    min (BitVec.toInt
          (broadcastInDim S512x1 ![0] bcast_S512_S512x1_0
            (select
              (cmpi CmpIPredicate.slt (fun i => lit0 (S512.rowMajor i))
                (broadcastInDim S512 ![] bcast_S_S512 (constantI S_ 32 0#32)))
              (addi (fun i => lit0 (S512.rowMajor i)) (broadcastInDim S512 ![] bcast_S_S512 (constantI S_ 32 512#32)))
              fun i => lit0 (S512.rowMajor i))
            (ix2 x 0))).toNat
      (512 - 1) = perm x.val := by
  pointwise
  have h : S512.rowMajor (ix1 x) = x := by
    apply Fin.ext
    rw [Shape.rowMajor_val_one]
    rfl
  rw [h]
  show min (Scalar.select (IntOp.cmpi .slt (lit0 x) 0#32) (lit0 x + 512#32) (lit0 x)).toInt.toNat (512 - 1) = _
  rw [table_start, table_nat]

/-- The start indices as an array. -/
abbrev starts : IVec S512x1 32 :=
  broadcastInDim S512x1 ![0] bcast_S512_S512x1_0
    (select
      (cmpi CmpIPredicate.slt (fun i => lit0 (S512.rowMajor i)) (broadcastInDim S512 ![] bcast_S_S512 (constantI S_ 32 0#32)))
      (addi (fun i => lit0 (S512.rowMajor i)) (broadcastInDim S512 ![] bcast_S_S512 (constantI S_ 32 512#32)))
      fun i => lit0 (S512.rowMajor i))

theorem q_eq (c : Dev nD) :
    (V m c main_v10 : FVec Ideal S16x4096x512 .bf16)
      = (truncf .bf16 (mulf (Host.gather gather_S16x4096x512_S512x1_S16x4096x512_01_2_n_n_2_1_1640961
          (shapeCast S16x4096x512 (aq m c) shapeCasts_S16x4096x8x64_S16x4096x512 : FVec Ideal S16x4096x512 .f32)
          starts : FVec Ideal S16x4096x512 .f32)
        (broadcastInDim S16x4096x512 ![] bcast_S_S16x4096x512 (constant S_ .f32 0x3E000000#32 : FVec Ideal S_ .f32) : FVec Ideal S16x4096x512 .f32)) bitsLt_bf16_f32 : FVec Ideal S16x4096x512 .bf16) := by
  unfold V
  after_results
  rfl

/-- The queries laid out for the call: column `x` is the table's, times an eighth. -/
theorem q_at (c : Dev nD) (b : Fin 16) (l : Fin 4096) (x : Fin 512) :
    (V m c main_v10 : FVec Ideal S16x4096x512 .bf16) (ix3 b l x)
      = aq m c (ix4 b l ⟨perm x.val / 64, by have := perm_lt x; omega⟩ ⟨perm x.val % 64, by omega⟩)
        * Ideal.ofBits FTy.f32 0x3E000000#32 := by
  rw [q_eq]
  rw [ValueIdx.truncf_apply, ValueIdx.mulf_apply, gather_cols _ _ b l x ⟨perm x.val, perm_lt x⟩ (start_nat x)]
  pointwise

theorem w_eq (c : Dev nD) :
    (V m c main_v33 : FVec Ideal S1x512 .f32)
      = (broadcastInDim S1x512 ![1] bcast_S512_S1x512_1 (Host.gather gather_S512_S512x1_S512_n_0_n_n_0_1_1
          (shapeCast S512 (aw m c) shapeCasts_S1x512_S512 : FVec Ideal S512 .f32)
          starts : FVec Ideal S512 .f32) : FVec Ideal S1x512 .f32) := by
  unfold V
  after_results
  rfl

/-- The norm's weights in the call's order of columns. -/
theorem w_at (c : Dev nD) (x : Fin 512) :
    (V m c main_v33 : FVec Ideal S1x512 .f32) (ix2 0 x)
      = (aw m c) (ix2 0 ⟨perm x.val, perm_lt x⟩) := by
  rw [w_eq]
  have h : ∀ y : FVec Ideal S512 .f32, broadcastInDim S1x512 ![1] bcast_S512_S1x512_1 y (ix2 0 x) = y (ix1 x) := by
    intro y; pointwise
  rw [h, gather_vec _ _ x ⟨perm x.val, perm_lt x⟩ (start_nat x)]
  pointwise

theorem k_eq (c : Dev nD)  :
    (V m c main_v23 : FVec Ideal S16x4352x128 .bf16) = (concatenate S16x4352x128 1
      [⟨S16x256x128, (truncf .bf16 (shapeCast S16x256x128 (akc m c) shapeCasts_S16x256x2x64_S16x256x128) bitsLt_bf16_f32 : FVec Ideal S16x256x128 .bf16)⟩,
       ⟨S16x4096x128, (truncf .bf16 (shapeCast S16x4096x128 (ak m c) shapeCasts_S16x4096x2x64_S16x4096x128) bitsLt_bf16_f32 : FVec Ideal S16x4096x128 .bf16)⟩]
      concatenates_S16x256x128_S16x4096x128_S16x4352x128_d1 : FVec Ideal S16x4352x128 .bf16) := by
  unfold V
  after_results
  rfl

/-- The keys laid out for the call: the context's first, then the sequence's, the two heads side by side. -/
theorem k_at (c : Dev nD) (b : Fin 16) (k : Fin 4352) (x : Fin 128) :
    (V m c main_v23 : FVec Ideal S16x4352x128 .bf16) (ix3 b k x)
      = if h : k.val < 256 then (akc m c)
            (ix4 b ⟨k.val, h⟩ ⟨x.val / 64, by omega⟩ ⟨x.val % 64, by omega⟩)
        else (ak m c)
            (ix4 b ⟨k.val - 256, by omega⟩ ⟨x.val / 64, by omega⟩ ⟨x.val % 64, by omega⟩) := by
  rw [k_eq]
  pointwise

theorem v_eq (c : Dev nD)  :
    (V m c main_v24 : FVec Ideal S16x4352x256 .bf16) = (concatenate S16x4352x256 1
      [⟨S16x256x256, (truncf .bf16 (concatenate S16x256x256 2 [⟨S16x256x128, (shapeCast S16x256x128 (avc m c) shapeCasts_S16x256x2x64_S16x256x128 : FVec Ideal S16x256x128 .f32)⟩,
          ⟨S16x256x128, (broadcastInDim S16x256x128 ![] bcast_S_S16x256x128 (constant S_ .f32 0x3F800000#32 : FVec Ideal S_ .f32) : FVec Ideal S16x256x128 .f32)⟩] concatenates_S16x256x128_S16x256x128_S16x256x256_d2 : FVec Ideal S16x256x256 .f32) bitsLt_bf16_f32 : FVec Ideal S16x256x256 .bf16)⟩,
       ⟨S16x4096x256, (truncf .bf16 (concatenate S16x4096x256 2 [⟨S16x4096x128, (shapeCast S16x4096x128 (av m c) shapeCasts_S16x4096x2x64_S16x4096x128 : FVec Ideal S16x4096x128 .f32)⟩,
          ⟨S16x4096x128, (broadcastInDim S16x4096x128 ![] bcast_S_S16x4096x128 (constant S_ .f32 0x3F800000#32 : FVec Ideal S_ .f32) : FVec Ideal S16x4096x128 .f32)⟩] concatenates_S16x4096x128_S16x4096x128_S16x4096x256_d2 : FVec Ideal S16x4096x256 .f32) bitsLt_bf16_f32 : FVec Ideal S16x4096x256 .bf16)⟩]
      concatenates_S16x256x256_S16x4096x256_S16x4352x256_d1 : FVec Ideal S16x4352x256 .bf16) := by
  unfold V
  after_results
  rfl

/-- The values laid out for the call, in the first 128 columns. -/
theorem v_at (c : Dev nD) (b : Fin 16) (k : Fin 4352) (x : Fin 256) (hx : x.val < 128) :
    (V m c main_v24 : FVec Ideal S16x4352x256 .bf16) (ix3 b k x)
      = if h : k.val < 256 then (avc m c)
            (ix4 b ⟨k.val, h⟩ ⟨x.val / 64, by omega⟩ ⟨x.val % 64, by omega⟩)
        else (av m c)
            (ix4 b ⟨k.val - 256, by omega⟩ ⟨x.val / 64, by omega⟩ ⟨x.val % 64, by omega⟩) := by
  rw [v_eq]
  pointwise
  simp only [hx, dif_pos]

/-- The remaining 128 columns hold ones. -/
theorem one_at (c : Dev nD) (b : Fin 16) (k : Fin 4352) (x : Fin 256) (hx : 128 ≤ x.val) :
    (V m c main_v24 : FVec Ideal S16x4352x256 .bf16) (ix3 b k x) = (1 : EReal) := by
  rw [v_eq]
  pointwise
  have hx' : ¬ x.val < 128 := by omega
  simp only [hx', dif_neg, not_false_eq_true]
  exact (by split <;> rfl)

end Cert.Proof.Attn
-- ==== Proof.Attn.Spec.lean ====
module

public import Idealize.ShloMosaic.Lib.Pipeline.ValueKit
public import Idealize.ShloMosaic.Lib.Pointwise
public import Idealize.ShloMosaic.Lib.Claim

/-! The attention as a function of its arguments on the extended reals, and the two rearrangements that separate the
    call from it: a division taken out of a sum, and a scale taken out of one. -/

@[expose] public section

set_option maxRecDepth 16384

noncomputable section

namespace Cert.Proof.Attn

open Idealize.ShloMosaic

/-- Queries `[16, 4096, 8, 64]`. -/
abbrev TQ := FVec Ideal ⟨4, ![16, 4096, 8, 64]⟩ .f32
/-- Keys or values of the context `[16, 256, 2, 64]`. -/
abbrev TC := FVec Ideal ⟨4, ![16, 256, 2, 64]⟩ .f32
/-- Keys or values of the sequence `[16, 4096, 2, 64]`. -/
abbrev TK := FVec Ideal ⟨4, ![16, 4096, 2, 64]⟩ .f32
/-- The norm's weights `[1, 512]`. -/
abbrev TW := FVec Ideal ⟨2, ![1, 512]⟩ .f32

/-- A key (or a value): the context's 256, then the sequence's. -/
def key (kc : TC) (k : TK) (b : Fin 16) (i : Fin 4352) (g : Fin 2) (d : Fin 64) : EReal :=
  if h : i.val < 256 then kc (ix4 b ⟨i.val, h⟩ g d) else k (ix4 b ⟨i.val - 256, by omega⟩ g d)

/-- One eighth, as the programs write it. -/
abbrev eighth : EReal := Ideal.ofBits FTy.f32 0x3E000000#32

/-- The score of a query head against a key, scaled. -/
def score (q : TQ) (kc : TC) (k : TK) (b : Fin 16) (l : Fin 4096) (h : Fin 8) (i : Fin 4352) : EReal :=
  (∑ d : Fin 64, key kc k b i ⟨h.val / 4, by omega⟩ d * q (ix4 b l h d)) * eighth

/-- The exponentials of a row of scores, less the row's greatest. -/
def pexp (s : Fin 4352 → EReal) (i : Fin 4352) : EReal :=
  Ideal.exp (s i - Finset.univ.fold max (Ideal.ofBits FTy.f32 0xFF800000#32) s)

/-- The attention before its norm, at column `n` (head `n / 64`, lane `n % 64`). -/
def heads (q : TQ) (kc : TC) (k : TK) (vc : TC) (v : TK) (b : Fin 16) (l : Fin 4096) (n : Fin 512) : EReal :=
  ∑ i : Fin 4352, key vc v b i ⟨n.val / 256, by omega⟩ ⟨n.val % 64, by omega⟩
    * Ideal.div (pexp (score q kc k b l ⟨n.val / 64, by omega⟩) i) (∑ i, pexp (score q kc k b l ⟨n.val / 64, by omega⟩) i)

/-- Its norm: the row over the root of its mean square, times the weights. -/
def normed (a : Fin 512 → EReal) (w : Fin 512 → EReal) (n : Fin 512) : EReal :=
  a n * Ideal.rsqrt (Ideal.div (∑ y, a y * a y) (Ideal.ofBits FTy.f32 0x44000000#32) + Ideal.ofBits FTy.f32 0x358637BD#32) * w n

/-- The column of the heads' own order that the call's order has at `x`: pair `x / 128` of the heads `j` and `j + 4`. -/
def hperm (x : Fin 512) : Fin 512 := ⟨(x.val / 64 % 2 * 4 + x.val / 128) * 64 + x.val % 64, by omega⟩

theorem hperm_head : ∀ x : Fin 512, (hperm x).val / 64 = x.val / 64 % 2 * 4 + x.val / 128 := by decide +kernel

theorem hperm_lane : ∀ x : Fin 512, (hperm x).val % 64 = x.val % 64 := by decide +kernel

theorem hperm_half : ∀ x : Fin 512, (hperm x).val / 256 = x.val / 64 % 2 := by decide +kernel

theorem hperm_left (x : Fin 512) :
    (⟨(hperm x).val / 64 % 4 * 128 + (hperm x).val / 256 * 64 + (hperm x).val % 64, by have := (hperm x).isLt; omega⟩ : Fin 512) = x := by
  revert x
  decide +kernel

theorem hperm_bijective : Function.Bijective hperm := by
  refine (Finite.injective_iff_bijective).mp fun x y h => ?_
  refine (hperm_left x).symm.trans (Eq.trans ?_ (hperm_left y))
  simp only [h]

/-- The norm in the call's order of columns is the norm, read in that order. -/
theorem normed_perm (a w : Fin 512 → EReal) (x : Fin 512) :
    normed (fun y => a (hperm y)) (fun y => w (hperm y)) x = normed a w (hperm x) := by
  unfold normed
  rw [hperm_bijective.sum_comp fun y => a y * a y]

/-- A constant that is a number at least zero goes into a sum. -/
theorem sum_mul_coe {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

theorem eighth_eq : eighth = ((1 / 8 : ℝ) : EReal) := by
  simp [eighth, Ideal.ofBits, Ideal.ieee, -EReal.coe_mul]; norm_num

/-- Finite numbers are reals. -/
theorem exists_real {x : EReal} (h : max x (-x) < ⊤) : ∃ r : ℝ, x = (r : EReal) := by
  induction x using EReal.rec with
  | bot => simp at h
  | top => simp at h
  | coe r => exact ⟨r, rfl⟩

theorem fold_bot : Ideal.ofBits FTy.f32 0xFF800000#32 = (⊥ : EReal) := by
  simp [Ideal.ofBits, Ideal.ieee]

/-- The exponentials of a row of real scores are positive reals. -/
theorem pexp_real (s : Fin 4352 → EReal) (hs : ∀ i, ∃ r : ℝ, s i = (r : EReal)) :
    ∃ p : Fin 4352 → ℝ, (∀ i, 0 < p i) ∧ ∀ i, pexp s i = (p i : EReal) := by
  choose f hf using hs
  obtain ⟨M, hM⟩ : ∃ M : ℝ, Finset.univ.fold max (Ideal.ofBits FTy.f32 0xFF800000#32) s = (M : EReal) := by
    have h1 : Finset.univ.fold max (Ideal.ofBits FTy.f32 0xFF800000#32) s ≠ ⊤ := by
      refine ne_of_lt ((Finset.fold_max_lt _).mpr ⟨?_, fun i _ => ?_⟩)
      · rw [fold_bot]; exact bot_lt_top
      · rw [hf]; exact EReal.coe_lt_top _
    have h2 : Finset.univ.fold max (Ideal.ofBits FTy.f32 0xFF800000#32) s ≠ ⊥ := by
      have : s 0 ≤ Finset.univ.fold max (Ideal.ofBits FTy.f32 0xFF800000#32) s :=
        (Finset.le_fold_max _).mpr (Or.inr ⟨0, Finset.mem_univ _, le_rfl⟩)
      intro h
      rw [h, hf] at this
      exact absurd (le_bot_iff.mp this) (EReal.coe_ne_bot _)
    exact ⟨_, (EReal.coe_toReal h1 h2).symm⟩
  refine ⟨fun i => Real.exp (f i - M), fun i => Real.exp_pos _, fun i => ?_⟩
  unfold pexp
  rw [hM, hf, ← EReal.coe_sub]
  rfl

theorem coe_sum {ι : Type} (t : Finset ι) (p : ι → ℝ) : (∑ i ∈ t, (p i : EReal)) = ((∑ i ∈ t, p i : ℝ) : EReal) := by
  classical
  induction t using Finset.induction_on with
  | empty => simp
  | insert a t ha ih => rw [Finset.sum_insert ha, Finset.sum_insert ha, ih, EReal.coe_add]

/-- Dividing the products' sum is dividing each weight first. -/
theorem div_out (s : Fin 4352 → EReal) (hs : ∀ i, ∃ r : ℝ, s i = (r : EReal)) (v : Fin 4352 → EReal) :
    Ideal.div (∑ i, pexp s i * v i) (∑ i, pexp s i) = ∑ i, v i * Ideal.div (pexp s i) (∑ i, pexp s i) := by
  obtain ⟨p, hp, h⟩ := pexp_real s hs
  have hS : (∑ i, pexp s i) = ((∑ i, p i : ℝ) : EReal) := by
    rw [← coe_sum]; exact Finset.sum_congr rfl fun i _ => h i
  have hpos : 0 < ∑ i, p i := Finset.sum_pos (fun i _ => hp i) ⟨0, Finset.mem_univ _⟩
  rw [hS, Ideal.div_coe hpos.ne', sum_mul_coe _ _ _ (by positivity)]
  refine Finset.sum_congr rfl fun i _ => ?_
  rw [Ideal.div_coe hpos.ne', mul_comm (pexp s i) (v i), mul_assoc]

/-- Real queries and keys have real scores. -/
theorem score_real (q : TQ) (kc : TC) (k : TK) (hq : ∀ i, ∃ r : ℝ, q i = (r : EReal)) (hkc : ∀ i, ∃ r : ℝ, kc i = (r : EReal))
    (hk : ∀ i, ∃ r : ℝ, k i = (r : EReal)) (b : Fin 16) (l : Fin 4096) (h : Fin 8) (i : Fin 4352) :
    ∃ r : ℝ, score q kc k b l h i = (r : EReal) := by
  have hkey : ∀ d, ∃ r : ℝ, key kc k b i ⟨h.val / 4, by omega⟩ d = (r : EReal) := by
    intro d
    unfold key
    split
    · exact hkc _
    · exact hk _
  choose f hf using hkey
  choose g hg using hq
  refine ⟨(∑ d : Fin 64, f d * g (ix4 b l h d)) * (1 / 8), ?_⟩
  unfold score
  rw [eighth_eq, EReal.coe_mul, ← coe_sum]
  congr 1
  exact Finset.sum_congr rfl fun d _ => by rw [hf, hg, EReal.coe_mul]

end Cert.Proof.Attn
-- ==== Proof.Attn.Block.lean ====
module

public import proofs.«01_k».proof.Proof.Gen.KernelIdeal.Value
public import proofs.«01_k».proof.Proof.Attn.Spec
public import Idealize.ShloMosaic.Lib.Pipeline.ValueKit
public import Idealize.ShloMosaic.Lib.Pointwise
public import Idealize.ShloMosaic.Lib.Claim

/-! One block of 128 rows of the call's result, at a row and a column. -/

@[expose] public section

set_option maxRecDepth 16384

noncomputable section

namespace Cert.Proof.Attn

open Idealize.ShloMosaic Idealize.ShloMosaic.TcCoe Idealize.SL.Sem
open Cert.KernelIdeal Cert.KernelIdeal.Gen

/-- The two heads of a pair, from the keys `K`, the values with their ones `U` and the pair's queries. -/
abbrev pair (K : FVec Ideal S4352x128 .bf16) (U : FVec Ideal S4352x256 .bf16) (q : Vec Ideal S1x128x128 .bf16) :
    FVec Ideal S128x128 .f32 := k0_pay6 k0_pay2 K U q

/-- One block of 128 rows of the call's result. -/
def piece (K : FVec Ideal S4352x128 .bf16) (U : FVec Ideal S4352x256 .bf16) (q0 q1 q2 q3 : Vec Ideal S1x128x128 .bf16)
    (wn : Vec Ideal S1x512 .f32) : FVec Ideal S1x128x512 .bf16 :=
  k0_pay44 (pair K U q0) (pair K U q1) (pair K U q2) (pair K U q3) wn

/-- The body's four stores are that block, at four runs of rows. -/
theorem out_eq (x0 : Vec Ideal S1x512x512 .bf16) (x1 : Vec Ideal S1x4352x128 .bf16) (x2 : Vec Ideal S1x4352x256 .bf16)
    (x3 : Vec Ideal S1x512 .f32) :
    out0_4 x0 x1 x2 x3 = View.canon [
      ⟨r0_22, piece (k0_pay3 (View.ld x1 r0_0)) (k0_pay4 (View.ld x2 r0_1)) (View.ld x0 r0_18) (View.ld x0 r0_19) (View.ld x0 r0_20) (View.ld x0 r0_21) (View.ld x3 r0_6)⟩,
      ⟨r0_17, piece (k0_pay3 (View.ld x1 r0_0)) (k0_pay4 (View.ld x2 r0_1)) (View.ld x0 r0_13) (View.ld x0 r0_14) (View.ld x0 r0_15) (View.ld x0 r0_16) (View.ld x3 r0_6)⟩,
      ⟨r0_12, piece (k0_pay3 (View.ld x1 r0_0)) (k0_pay4 (View.ld x2 r0_1)) (View.ld x0 r0_8) (View.ld x0 r0_9) (View.ld x0 r0_10) (View.ld x0 r0_11) (View.ld x3 r0_6)⟩,
      ⟨r0_7, piece (k0_pay3 (View.ld x1 r0_0)) (k0_pay4 (View.ld x2 r0_1)) (View.ld x0 r0_2) (View.ld x0 r0_3) (View.ld x0 r0_4) (View.ld x0 r0_5) (View.ld x3 r0_6)⟩] := rfl

/-- The lane test that splits a pair. -/
theorem lane_lt : ∀ x : Fin 128, IntOp.cmpi .slt (BitVec.ofNat 32 x.val) 64#32 = if x.val < 64 then 1#1 else 0#1 := by
  decide +kernel

theorem sel_lane (x : Fin 128) (a b : EReal) :
    Scalar.select (IntOp.cmpi .slt (BitVec.ofNat 32 x.val) 64#32) a b = if x.val < 64 then a else b := by
  rw [lane_lt]
  split <;> rfl

/-- A sum over a pair's lanes, those of the first head alone. -/
theorem sum_lo (f : Fin 128 → EReal) :
    (∑ y : Fin 128, if y.val < 64 then f y else 0) = ∑ d : Fin 64, f ⟨d.val, by omega⟩ := by
  rw [show (∑ y : Fin 128, if y.val < 64 then f y else 0)
    = ∑ y : Fin (64 + 64), (fun y : Fin 128 => if y.val < 64 then f y else 0) y from rfl, Fin.sum_univ_add]
  rw [show (∑ i : Fin 64, (fun y : Fin 128 => if y.val < 64 then f y else 0) (Fin.natAdd 64 i)) = 0 from
    Finset.sum_eq_zero fun i _ => if_neg (by simp [Fin.natAdd]), add_zero]
  exact Finset.sum_congr rfl fun i _ => if_pos (by simp [Fin.castAdd])

/-- Those of the second head alone. -/
theorem sum_hi (f : Fin 128 → EReal) :
    (∑ y : Fin 128, if y.val < 64 then 0 else f y) = ∑ d : Fin 64, f ⟨64 + d.val, by omega⟩ := by
  rw [show (∑ y : Fin 128, if y.val < 64 then 0 else f y)
    = ∑ y : Fin (64 + 64), (fun y : Fin 128 => if y.val < 64 then 0 else f y) y from rfl, Fin.sum_univ_add]
  rw [show (∑ i : Fin 64, (fun y : Fin 128 => if y.val < 64 then 0 else f y) (Fin.castAdd 64 i)) = 0 from
    Finset.sum_eq_zero fun i _ => if_pos (by simp [Fin.castAdd]), zero_add]
  exact Finset.sum_congr rfl fun i _ => if_neg (by simp [Fin.natAdd])

/-- The scores of head `g` of a pair, for a row of queries. -/
def pscore (K : FVec Ideal S4352x128 .bf16) (q : Vec Ideal S1x128x128 .bf16) (l : Fin 128) (g : Fin 2) (i : Fin 4352) : EReal :=
  ∑ d : Fin 64, q (ix3 0 l ⟨64 * g.val + d.val, by omega⟩) * K (ix2 i ⟨64 * g.val + d.val, by omega⟩)

/-- A pair's result at a row and a lane: the exponentials' products with the values over those with the ones. -/
theorem pair_at (K : FVec Ideal S4352x128 .bf16) (U : FVec Ideal S4352x256 .bf16) (q : Vec Ideal S1x128x128 .bf16)
    (l : Fin 128) (g : Fin 2) (d : Fin 64) :
    pair K U q (ix2 l ⟨64 * g.val + d.val, by omega⟩)
      = Ideal.div (∑ i, pexp (pscore K q l g) i * U (ix2 i ⟨64 * g.val + d.val, by omega⟩))
          (∑ i, pexp (pscore K q l g) i * U (ix2 i ⟨128 + (64 * g.val + d.val), by omega⟩)) := by
  unfold pair k0_pay6 k0_pay2
  pointwise
  refine (sel_lane ⟨64 * g.val + d.val, by omega⟩ _ _).trans ?_
  simp only [sel_lane, sum_lo, sum_hi]
  unfold pexp pscore
  by_cases hg : g = 0
  · subst hg
    rw [if_pos (by simp)]
    simp
  · have hg1 : g = 1 := by omega
    subst hg1
    rw [if_neg (by simp)]
    simp

/-- A block's result at a row and a column, over the four pairs of heads. -/
theorem piece_at (K : FVec Ideal S4352x128 .bf16) (U : FVec Ideal S4352x256 .bf16) (q0 q1 q2 q3 : Vec Ideal S1x128x128 .bf16)
    (wn : Vec Ideal S1x512 .f32) (l : Fin 128) (x : Fin 512) (a : Fin 512 → EReal)
    (h0 : ∀ e : Fin 128, pair K U q0 (ix2 l e) = a ⟨e.val, by omega⟩)
    (h1 : ∀ e : Fin 128, pair K U q1 (ix2 l e) = a ⟨128 + e.val, by omega⟩)
    (h2 : ∀ e : Fin 128, pair K U q2 (ix2 l e) = a ⟨256 + e.val, by omega⟩)
    (h3 : ∀ e : Fin 128, pair K U q3 (ix2 l e) = a ⟨384 + e.val, by omega⟩) :
    piece K U q0 q1 q2 q3 wn (ix3 0 l x)
      = normed a (fun y => wn (ix2 0 y)) x := by
  unfold piece
  generalize pair K U q0 = p0 at *
  generalize pair K U q1 = p1 at *
  generalize pair K U q2 = p2 at *
  generalize pair K U q3 = p3 at *
  have hcat : ∀ y : Fin 512, (if h : y.val < 128 then p0 (ix2 l ⟨y.val, h⟩) else
      if h : y.val - 128 < 128 then p1 (ix2 l ⟨y.val - 128, h⟩) else
      if h : y.val - 128 - 128 < 128 then p2 (ix2 l ⟨y.val - 128 - 128, h⟩) else
      p3 (ix2 l ⟨y.val - 128 - 128 - 128, by omega⟩)) = a y := by
    intro y
    split
    · rw [h0]
    · split
      · rw [h1]; congr 1; apply Fin.ext; show 128 + (y.val - 128) = y.val; omega
      · split
        · rw [h2]; congr 1; apply Fin.ext; show 256 + (y.val - 128 - 128) = y.val; omega
        · rw [h3]; congr 1; apply Fin.ext; show 384 + (y.val - 128 - 128 - 128) = y.val; omega
  unfold k0_pay44
  pointwise
  simp only [hcat]
  rfl

end Cert.Proof.Attn
-- ==== Proof.Attn.Value.lean ====
module

public import proofs.«01_k».proof.Proof.Attn.Host
public import proofs.«01_k».proof.Proof.Attn.Block
public import Idealize.ShloMosaic.Lib.Pipeline.ValueKit
public import Idealize.ShloMosaic.Lib.Pointwise
public import Idealize.ShloMosaic.Lib.Claim

/-! The array the call leaves, as a function of its arguments. -/

@[expose] public section

set_option maxRecDepth 16384

noncomputable section

namespace Cert.Proof.Attn

open Idealize.ShloMosaic Idealize.ShloMosaic.TcCoe Idealize.SL.Sem
open Cert.KernelIdeal Cert.KernelIdeal.Gen

/-- A block's scores: row `l`, the head whose lanes hold column `y`. -/
def bscore (x0 : Vec Ideal S1x512x512 .bf16) (x1 : Vec Ideal S1x4352x128 .bf16) (l : Fin 512) (y : Fin 512) (i : Fin 4352) : EReal :=
  ∑ d : Fin 64, x0 (ix3 0 l ⟨y.val / 64 * 64 + d.val, by omega⟩) * x1 (ix3 0 i ⟨y.val / 64 % 2 * 64 + d.val, by omega⟩)

/-- A block's attention before its norm. -/
def bheads (x0 : Vec Ideal S1x512x512 .bf16) (x1 : Vec Ideal S1x4352x128 .bf16) (x2 : Vec Ideal S1x4352x256 .bf16)
    (l : Fin 512) (y : Fin 512) : EReal :=
  Ideal.div (∑ i, pexp (bscore x0 x1 l y) i * x2 (ix3 0 i ⟨y.val % 128, by omega⟩))
    (∑ i, pexp (bscore x0 x1 l y) i * x2 (ix3 0 i ⟨128 + y.val % 128, by omega⟩))

theorem keys_at (x1 : Vec Ideal S1x4352x128 .bf16) (i : Fin 4352) (e : Fin 128) :
    k0_pay3 (View.ld x1 r0_0) (ix2 i e) = x1 (ix3 0 i e) := by
  unfold k0_pay3
  pointwise
  blk_ext

theorem vals_at (x2 : Vec Ideal S1x4352x256 .bf16) (i : Fin 4352) (e : Fin 256) :
    k0_pay4 (View.ld x2 r0_1) (ix2 i e) = x2 (ix3 0 i e) := by
  unfold k0_pay4
  pointwise
  blk_ext

theorem wts_at (x3 : Vec Ideal S1x512 .f32) (y : Fin 512) : View.ld x3 r0_6 (ix2 0 y) = x3 (ix2 0 y) := by
  pointwise
  blk_ext

/-- One pair of heads of a row. -/
theorem pair_row (x0 : Vec Ideal S1x512x512 .bf16) (x1 : Vec Ideal S1x4352x128 .bf16) (x2 : Vec Ideal S1x4352x256 .bf16)
    (q : Vec Ideal S1x128x128 .bf16) (j : Fin 4) (l : Fin 128) (L : Fin 512)
    (hq : ∀ e : Fin 128, q (ix3 0 l e) = x0 (ix3 0 L ⟨128 * j.val + e.val, by omega⟩)) (e : Fin 128) :
    pair (k0_pay3 (View.ld x1 r0_0)) (k0_pay4 (View.ld x2 r0_1)) q (ix2 l e)
      = bheads x0 x1 x2 L ⟨128 * j.val + e.val, by omega⟩ := by
  have hg : (e.val / 64) < 2 := by omega
  have he : e = ⟨64 * (⟨e.val / 64, hg⟩ : Fin 2).val + (⟨e.val % 64, by omega⟩ : Fin 64).val, by change 64 * (e.val / 64) + e.val % 64 < 128; omega⟩ :=
    Fin.ext (by change e.val = 64 * (e.val / 64) + e.val % 64; omega)
  refine (congrArg (fun e => pair (k0_pay3 (View.ld x1 r0_0)) (k0_pay4 (View.ld x2 r0_1)) q (ix2 l e)) he).trans ?_
  refine (pair_at _ _ q l ⟨e.val / 64, hg⟩ ⟨e.val % 64, by omega⟩).trans ?_
  have hs : pscore (k0_pay3 (View.ld x1 r0_0)) q l ⟨e.val / 64, hg⟩ = bscore x0 x1 L ⟨128 * j.val + e.val, by omega⟩ := by
    funext i
    unfold pscore bscore
    refine Finset.sum_congr rfl fun d _ => ?_
    rw [keys_at, hq]
    congr 3 <;> · apply Fin.ext; dsimp only; omega
  rw [hs]
  unfold bheads
  congr 1
  · refine Finset.sum_congr rfl fun i _ => ?_
    rw [vals_at]
    congr 3; apply Fin.ext; dsimp only; omega
  · refine Finset.sum_congr rfl fun i _ => ?_
    rw [vals_at]
    congr 3; apply Fin.ext; dsimp only; omega

/-- A row of a block's result. -/
theorem piece_row (x0 : Vec Ideal S1x512x512 .bf16) (x1 : Vec Ideal S1x4352x128 .bf16) (x2 : Vec Ideal S1x4352x256 .bf16)
    (x3 : Vec Ideal S1x512 .f32) (q0 q1 q2 q3 : Vec Ideal S1x128x128 .bf16) (l : Fin 128) (L : Fin 512)
    (h0 : ∀ e : Fin 128, q0 (ix3 0 l e) = x0 (ix3 0 L ⟨e.val, by omega⟩))
    (h1 : ∀ e : Fin 128, q1 (ix3 0 l e) = x0 (ix3 0 L ⟨128 + e.val, by omega⟩))
    (h2 : ∀ e : Fin 128, q2 (ix3 0 l e) = x0 (ix3 0 L ⟨256 + e.val, by omega⟩))
    (h3 : ∀ e : Fin 128, q3 (ix3 0 l e) = x0 (ix3 0 L ⟨384 + e.val, by omega⟩)) (x : Fin 512) :
    piece (k0_pay3 (View.ld x1 r0_0)) (k0_pay4 (View.ld x2 r0_1)) q0 q1 q2 q3 (View.ld x3 r0_6) (ix3 0 l x)
      = normed (bheads x0 x1 x2 L) (fun y => x3 (ix2 0 y)) x := by
  refine (piece_at _ _ q0 q1 q2 q3 _ l x (bheads x0 x1 x2 L)
    (fun e => (pair_row x0 x1 x2 q0 0 l L (fun e => (h0 e).trans ?_) e).trans ?_)
    (fun e => (pair_row x0 x1 x2 q1 1 l L (fun e => (h1 e).trans ?_) e).trans ?_)
    (fun e => (pair_row x0 x1 x2 q2 2 l L (fun e => (h2 e).trans ?_) e).trans ?_)
    (fun e => (pair_row x0 x1 x2 q3 3 l L (fun e => (h3 e).trans ?_) e).trans ?_)).trans ?_
  any_goals exact congrArg (fun z => x0 (ix3 0 L z)) (Fin.ext (by simp))
  any_goals exact congrArg (bheads x0 x1 x2 L) (Fin.ext (by simp))
  exact congrArg (fun w => normed (bheads x0 x1 x2 L) w x) (funext fun y => wts_at x3 y)

/-- A block of the result, at a row and a column. -/
theorem block_at (x0 : Vec Ideal S1x512x512 .bf16) (x1 : Vec Ideal S1x4352x128 .bf16) (x2 : Vec Ideal S1x4352x256 .bf16)
    (x3 : Vec Ideal S1x512 .f32) (y : S1x512x512.Idx) :
    out0_4 x0 x1 x2 x3 y = normed (bheads x0 x1 x2 (y 1)) (fun e => x3 (ix2 0 e)) (y 2) := by
  rw [out_eq]
  canon_tiles z h
  all_goals
    have hz : z = ix3 0 (z 1) (z 2) := by blk_ext
    refine (congrArg _ hz).trans ((piece_row x0 x1 x2 x3 _ _ _ _ (z 1) (y 1) (fun e => ?_) (fun e => ?_) (fun e => ?_) (fun e => ?_) (z 2)).trans ?_)
  all_goals first
    | (pointwise; blk_ext; done)
    | exact congrArg _ (Fin.ext h2.symm)

variable (m : (ℓ : Loc nD τ sig) → Buf (Elt Ideal) ℓ)

/-- Which blocks a grid point works on: batch row `t / 8`, queries from `512 (t % 8)`. -/
theorem idx : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![t.val / 8, t.val % 8, 0]
    ∧ t.val / 8 < 16 :=
  (by decide +kernel : ∀ t : Fin grid0.N, _)

/-- The result: the attention with its norm, in the call's order of columns. -/
def GA (c : Dev nD) : FVec Ideal S16x4096x512 .bf16 := fun i =>
  normed (heads (aq m c) (akc m c) (ak m c) (avc m c) (av m c) (i 0) (i 1)) (fun y => aw m c (ix2 0 y)) (hperm (i 2))

/-- The batch row of a grid point. -/
abbrev row (t : Fin cfg0.N) : Fin 16 := ⟨t.val / 8, (idx t).2.2.2.2.2⟩
/-- The position of a row of a grid point's block. -/
abbrev pos (t : Fin cfg0.N) (l : Fin 512) : Fin 4096 := ⟨t.val % 8 * 512 + l.val, by omega⟩

theorem q_blk (c : Dev nD) (t : Fin cfg0.N) (l x : Fin 512) :
    (iblk m c 0 t : Vec Ideal S1x512x512 .bf16) (ix3 0 l x)
      = aq m c (ix4 (row t) (pos t l) ⟨(hperm x).val / 64, by omega⟩ ⟨(hperm x).val % 64, by omega⟩) * eighth := by
  refine Eq.trans ?_ (q_at m c (row t) (pos t l) x)
  blk_ext [iblk, idx t]

theorem k_blk (c : Dev nD) (t : Fin cfg0.N) (i : Fin 4352) (x : Fin 128) :
    (iblk m c 1 t : Vec Ideal S1x4352x128 .bf16) (ix3 0 i x)
      = key (akc m c) (ak m c) (row t) i ⟨x.val / 64, by omega⟩ ⟨x.val % 64, by omega⟩ := by
  refine Eq.trans ?_ (k_at m c (row t) i x)
  blk_ext [iblk, idx t]

theorem v_blk (c : Dev nD) (t : Fin cfg0.N) (i : Fin 4352) (x : Fin 256) (hx : x.val < 128) :
    (iblk m c 2 t : Vec Ideal S1x4352x256 .bf16) (ix3 0 i x)
      = key (avc m c) (av m c) (row t) i ⟨x.val / 64, by omega⟩ ⟨x.val % 64, by omega⟩ := by
  refine Eq.trans ?_ (v_at m c (row t) i x hx)
  blk_ext [iblk, idx t]

theorem one_blk (c : Dev nD) (t : Fin cfg0.N) (i : Fin 4352) (x : Fin 256) (hx : 128 ≤ x.val) :
    (iblk m c 2 t : Vec Ideal S1x4352x256 .bf16) (ix3 0 i x) = (1 : EReal) := by
  refine Eq.trans ?_ (one_at m c (row t) i x hx)
  blk_ext [iblk, idx t]

theorem w_blk (c : Dev nD) (t : Fin cfg0.N) (x : Fin 512) :
    (iblk m c 3 t : Vec Ideal S1x512 .f32) (ix2 0 x) = aw m c (ix2 0 (hperm x)) := by
  refine Eq.trans ?_ (w_at m c x)
  blk_ext [iblk, idx t]

/-- A block's scores are the attention's. -/
theorem bscore_eq (c : Dev nD) (t : Fin cfg0.N) (l y : Fin 512) :
    bscore (iblk m c 0 t) (iblk m c 1 t) l y
      = score (aq m c) (akc m c) (ak m c) (row t) (pos t l) ⟨(hperm y).val / 64, by omega⟩ := by
  funext i
  unfold bscore score
  rw [eighth_eq, sum_mul_coe _ _ _ (by norm_num), ← eighth_eq]
  refine Finset.sum_congr rfl fun d _ => ?_
  rw [q_blk, k_blk, mul_comm (key _ _ _ _ _ _), mul_assoc, mul_assoc, mul_comm eighth]
  have hy := y.isLt
  have e1 : (hperm ⟨y.val / 64 * 64 + d.val, by omega⟩).val / 64 = (hperm y).val / 64 := by
    rw [hperm_head, hperm_head]; dsimp only; omega
  have e2 : (hperm ⟨y.val / 64 * 64 + d.val, by omega⟩).val % 64 = d.val := by
    rw [hperm_lane]; dsimp only; omega
  have e3 : (y.val / 64 % 2 * 64 + d.val) / 64 = (hperm y).val / 64 / 4 := by
    rw [hperm_head]; omega
  have e4 : (y.val / 64 % 2 * 64 + d.val) % 64 = d.val := by omega
  simp only [e1, e2, e3, e4]

/-- A block's attention is the attention, where the queries and the keys are real. -/
theorem bheads_eq (c : Dev nD) (hq : ∀ i, ∃ r : ℝ, aq m c i = (r : EReal)) (hkc : ∀ i, ∃ r : ℝ, akc m c i = (r : EReal))
    (hk : ∀ i, ∃ r : ℝ, ak m c i = (r : EReal)) (t : Fin cfg0.N) (l y : Fin 512) :
    bheads (iblk m c 0 t) (iblk m c 1 t) (iblk m c 2 t) l y
      = heads (aq m c) (akc m c) (ak m c) (avc m c) (av m c) (row t) (pos t l) (hperm y) := by
  unfold bheads heads
  rw [bscore_eq]
  have hv : ∀ i : Fin 4352, (iblk m c 2 t : Vec Ideal S1x4352x256 .bf16) (ix3 0 i ⟨y.val % 128, by omega⟩)
      = key (avc m c) (av m c) (row t) i ⟨(hperm y).val / 256, by omega⟩ ⟨(hperm y).val % 64, by omega⟩ := by
    intro i
    rw [v_blk m c t i _ (by dsimp only; omega)]
    have e1 : y.val % 128 / 64 = (hperm y).val / 256 := by rw [hperm_half]; omega
    have e2 : y.val % 128 % 64 = (hperm y).val % 64 := by rw [hperm_lane]; omega
    simp only [e1, e2]
  have h1 : ∀ i : Fin 4352, (iblk m c 2 t : Vec Ideal S1x4352x256 .bf16) (ix3 0 i ⟨128 + y.val % 128, by omega⟩) = (1 : EReal) :=
    fun i => one_blk m c t i _ (by dsimp only; omega)
  simp only [hv, h1, mul_one]
  exact div_out _ (fun i => score_real _ _ _ hq hkc hk _ _ _ i) _

/-- The array after the call. -/
theorem final (c : Dev nD) (hq : ∀ i, ∃ r : ℝ, aq m c i = (r : EReal)) (hkc : ∀ i, ∃ r : ℝ, akc m c i = (r : EReal))
    (hk : ∀ i, ∃ r : ℝ, ak m c i = (r : EReal)) : (dats m 0 c).arrAt 4 cfg0.N = GA m c := by
  refine (dats m 0 c).arrAt_eq_of_covers 4 _ (by decide +kernel) fun t _ y => ?_
  blk_simp
  rw [after0_4]
  refine (block_at _ _ _ _ y).trans ?_
  have ha : bheads (iblk m c 0 t) (iblk m c 1 t) (iblk m c 2 t) (y 1)
      = fun x => heads (aq m c) (akc m c) (ak m c) (avc m c) (av m c) (row t) (pos t (y 1)) (hperm x) :=
    funext fun x => bheads_eq m c hq hkc hk t (y 1) x
  have hw : (fun e => (iblk m c 3 t : Vec Ideal S1x512 .f32) (ix2 0 e)) = fun x => aw m c (ix2 0 (hperm x)) :=
    funext fun x => w_blk m c t x
  refine (congrArg₂ (fun a w => normed a w (y 2)) ha hw).trans ?_
  refine (normed_perm _ (fun x => aw m c (ix2 0 x)) _).trans ?_
  unfold GA
  have hy0 : (y 0).val < 1 := (y 0).isLt
  have e0 : (win0_4.blk t).view.emb y 0 = row t := by
    apply Fin.ext; blk_simp [idx t]
  have e1 : (win0_4.blk t).view.emb y 1 = pos t (y 1) := by
    apply Fin.ext; blk_simp [idx t]
  have e2 : (win0_4.blk t).view.emb y 2 = y 2 := by
    apply Fin.ext; blk_simp [idx t]
  rw [e0, e1, e2]

end Cert.Proof.Attn
-- ==== Proof.Attn.Ref.lean ====
module

public import proofs.«01_k».proof.Proof.Gen.ReferenceIdeal.Run
public import proofs.«01_k».proof.Proof.Gen.ReferenceIdeal.Read
public import proofs.«01_k».proof.Proof.Attn.Spec
public import Idealize.ShloMosaic.Lib.Pipeline.ValueKit
public import Idealize.ShloMosaic.Lib.Pointwise
public import Idealize.ShloMosaic.Lib.Claim

/-! The reference read at an index. -/

@[expose] public section

set_option maxRecDepth 16384

noncomputable section

namespace Cert.Proof.Attn.Ref

open Idealize.ShloMosaic Idealize.ShloMosaic.TcCoe Idealize.SL.Sem
open Cert.ReferenceIdeal Cert.ReferenceIdeal.Gen Cert.ReferenceIdeal.Read

variable (x0 : FVec Ideal S16x4096x8x64 .f32) (x1 : FVec Ideal S16x256x2x64 .f32) (x2 : FVec Ideal S16x4096x2x64 .f32)
  (x3 : FVec Ideal S16x256x2x64 .f32) (x4 : FVec Ideal S16x4096x2x64 .f32) (x5 : FVec Ideal S1x512 .f32)

/-- The reference's scores. -/
theorem score_at (b : Fin 16) (g : Fin 2) (r : Fin 4) (l : Fin 4096) (i : Fin 4352) :
    val_main_v6 (F := Ideal) x0 x1 x2 (ix5 b g r l i) = score x0 x1 x2 b l ⟨g.val * 4 + r.val, by omega⟩ i := by
  pointwise [val_main_v6, val_main_v5, val_main_v4, val_main_v3, val_main_v2, val_main_v1, val_main_v0, val_main_cst]
  unfold score key
  have hg : (⟨(g.val * 4 + r.val) / 4, by omega⟩ : Fin 2) = g := Fin.ext (by change (g.val * 4 + r.val) / 4 = g.val; omega)
  simp only [hg]

/-- The greatest along the last axis. -/
theorem max_at (y : FVec Ideal S16x2x4x4096x4352 .f32) (b : Fin 16) (g : Fin 2) (r : Fin 4) (l : Fin 4096) :
    Host.reduce (FloatOps.maximumf (F := Ideal) (φ := .f32)) y (constant (F := Ideal) S_ .f32 0xFF800000#32)
        reducesTo_S16x2x4x4096x4352_S16x2x4x4096_d4 h_S_ (ix4 b g r l)
      = (Finset.univ.fold max (Ideal.ofBits FTy.f32 0xFF800000#32) fun i => y (ix5 b g r l i) : EReal) := by
  pointwise

/-- The sum along the last axis. -/
theorem sum_at (y : FVec Ideal S16x2x4x4096x4352 .f32) (b : Fin 16) (g : Fin 2) (r : Fin 4) (l : Fin 4096) :
    Host.reduceAdd y (constant (F := Ideal) S_ .f32 0x00000000#32) reducesTo_S16x2x4x4096x4352_S16x2x4x4096_d4 h_S_ (ix4 b g r l)
      = (∑ i, y (ix5 b g r l i) : EReal) := by
  pointwise

/-- A number for each row, laid along the row. -/
theorem row_at (y : FVec Ideal S16x2x4x4096 .f32) (b : Fin 16) (g : Fin 2) (r : Fin 4) (l : Fin 4096) (i : Fin 4352) :
    broadcastInDim S16x2x4x4096x4352 ![0, 1, 2, 3, 4] bcast_S16x2x4x4096x1_S16x2x4x4096x4352_0_1_2_3_4
      (broadcastInDim S16x2x4x4096x1 ![0, 1, 2, 3] bcast_S16x2x4x4096_S16x2x4x4096x1_0_1_2_3 y) (ix5 b g r l i) = y (ix4 b g r l) := by
  pointwise

/-- The reference's exponentials. -/
theorem exp_at (b : Fin 16) (g : Fin 2) (r : Fin 4) (l : Fin 4096) (i : Fin 4352) :
    val_main_v13 (F := Ideal) x0 x1 x2 (ix5 b g r l i) = pexp (score x0 x1 x2 b l ⟨g.val * 4 + r.val, by omega⟩) i := by
  have hs : score x0 x1 x2 b l ⟨g.val * 4 + r.val, by omega⟩ = fun i => val_main_v6 (F := Ideal) x0 x1 x2 (ix5 b g r l i) :=
    funext fun i => (score_at x0 x1 x2 b g r l i).symm
  rw [hs, val_main_v13_apply, val_main_v12_apply]
  unfold val_main_v11 val_main_v10
  rw [row_at, val_main_v9_apply]
  unfold val_main_v7 val_main_cst_0
  rw [max_at]
  unfold pexp
  beta_reduce
  generalize hz : Finset.univ.fold max (Ideal.ofBits FTy.f32 0xFF800000#32) (fun i => val_main_v6 (F := Ideal) x0 x1 x2 (ix5 b g r l i)) = z
  generalize val_main_v6 (F := Ideal) x0 x1 x2 (ix5 b g r l i) = w
  rw [val_main_v8_apply, val_main_cst_1_apply]
  change Ideal.exp (w - max (Ideal.ofBits FTy.f32 0xFF800000#32) z) = _
  rw [fold_bot, bot_sup_eq]

/-- The reference's weights: its exponentials over their sum. -/
theorem prob_at (b : Fin 16) (g : Fin 2) (r : Fin 4) (l : Fin 4096) (i : Fin 4352) :
    val_main_v17 (F := Ideal) x0 x1 x2 (ix5 b g r l i)
      = Ideal.div (pexp (score x0 x1 x2 b l ⟨g.val * 4 + r.val, by omega⟩) i)
          (∑ i, pexp (score x0 x1 x2 b l ⟨g.val * 4 + r.val, by omega⟩) i) := by
  rw [val_main_v17_apply]
  unfold val_main_v16 val_main_v15
  rw [row_at]
  unfold val_main_v14 val_main_cst_2
  rw [sum_at]
  simp only [exp_at]
  rfl

/-- A product of values and weights, with the heads beside each other. -/
theorem product_at (y0 : FVec Ideal S16x4352x2x64 .f32) (y1 : FVec Ideal S16x2x4x4096x4352 .f32) (b : Fin 16) (l : Fin 4096) (n : Fin 512) :
    shapeCast S16x4096x512 (transpose S16x4096x2x4x64 [0, 4, 1, 3, 2]
      (Host.dotGeneral (F := Ideal) dot_S16x4352x2x64_S16x2x4x4096x4352_S16x2x64x4x4096_1_4_3_23_02_01 none y0 y1)
      transposes_S16x2x64x4x4096_S16x4096x2x4x64_0_4_1_3_2) shapeCasts_S16x4096x2x4x64_S16x4096x512 (ix3 b l n)
      = (∑ k : Fin 4352, y0 (ix4 b k ⟨n.val / 256, by omega⟩ ⟨n.val % 64, by omega⟩)
          * y1 (ix5 b ⟨n.val / 256, by omega⟩ ⟨n.val / 64 % 4, by omega⟩ l k) : EReal) := by
  pointwise

/-- The reference's values. -/
theorem value_at (b : Fin 16) (k : Fin 4352) (g : Fin 2) (d : Fin 64) :
    val_main_v1 (F := Ideal) x3 x4 (ix4 b k g d) = key x3 x4 b k g d := by
  pointwise [val_main_v1]
  rfl

theorem heads_at (b : Fin 16) (l : Fin 4096) (n : Fin 512) :
    val_main_v20 (F := Ideal) x0 x1 x2 x3 x4 (ix3 b l n) = heads x0 x1 x2 x3 x4 b l n := by
  unfold val_main_v20 val_main_v19 val_main_v18
  refine (product_at _ _ b l n).trans ?_
  unfold heads
  refine Finset.sum_congr rfl fun k _ => ?_
  rw [value_at, prob_at]
  have hg : (⟨n.val / 256 * 4 + n.val / 64 % 4, by omega⟩ : Fin 8) = ⟨n.val / 64, by omega⟩ :=
    Fin.ext (by change n.val / 256 * 4 + n.val / 64 % 4 = n.val / 64; omega)
  simp only [hg]

/-- The reference's result. -/
theorem result_at (b : Fin 16) (l : Fin 4096) (n : Fin 512) :
    val_main_v38 (F := Ideal) x0 x1 x2 x3 x4 x5 (ix3 b l n)
      = normed (heads x0 x1 x2 x3 x4 b l) (fun y => x5 (ix2 0 y)) (hperm n) := by
  have ha : (fun n => val_main_v20 (F := Ideal) x0 x1 x2 x3 x4 (ix3 b l n)) = heads x0 x1 x2 x3 x4 b l :=
    funext fun n => heads_at x0 x1 x2 x3 x4 b l n
  rw [← ha]
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_cst_3, val_main_cst_4, val_main_cst_5]
  have hp : (⟨n.val / 64 % 2 * 256 + n.val / 128 * 64 + n.val % 64, by omega⟩ : Fin 512) = hperm n :=
    Fin.ext (by change n.val / 64 % 2 * 256 + n.val / 128 * 64 + n.val % 64 = (n.val / 64 % 2 * 4 + n.val / 128) * 64 + n.val % 64; omega)
  simp only [hp]
  rfl

end Cert.Proof.Attn.Ref
-- ==== Proof.Attn.Pre.lean ====
module

public import proofs.«01_k».proof.Pre_finite_scores
public import proofs.«01_k».proof.Proof.Attn.Spec
public import Idealize.ShloMosaic.Lib.Pipeline.ValueKit
public import Idealize.ShloMosaic.Lib.Pointwise
public import Idealize.ShloMosaic.Lib.Claim

/-! What the precondition says: the queries and the keys are real numbers. -/

@[expose] public section

set_option maxRecDepth 16384

noncomputable section

namespace Cert.Proof.Attn

open Idealize.ShloMosaic

/-- The side conditions of the precondition's operations. -/
theorem pre_facts : Cert.Pre_finite_scores.Facts :=
  ⟨by decide, by decide, by decide⟩

theorem inf_eq : Ideal.ofBits FTy.f32 0x7F800000#32 = (⊤ : EReal) := by
  simp [Ideal.ofBits, Ideal.ieee]

/-- A number whose size is below infinity is real. -/
theorem real_of_cmp (x : EReal)
    (h : BitVec.ofBool (decide (FloatOps.absf (F := Ideal) (φ := .f32) x < Ideal.ofBits FTy.f32 0x7F800000#32)) = 1#1) :
    ∃ r : ℝ, x = (r : EReal) := by
  rw [inf_eq] at h
  have h1 : max x (-x) < (⊤ : EReal) := by
    by_contra hn
    rw [show decide (FloatOps.absf (F := Ideal) (φ := .f32) x < (⊤ : EReal)) = false from decide_eq_false hn] at h
    exact absurd h (by decide)
  exact exists_real h1

theorem real_of_pre [Cert.Pre_finite_scores.Facts] (q : TQ) (kc : TC) (k : TK) (vc : TC) (v : TK) (w : TW) :
    ((Cert.Pre_finite_scores.fn (F := Ideal) q kc k vc v w).1 = (fun _ => 1#1) → ∀ i, ∃ r : ℝ, q i = (r : EReal))
    ∧ ((Cert.Pre_finite_scores.fn (F := Ideal) q kc k vc v w).2.1 = (fun _ => 1#1) → ∀ i, ∃ r : ℝ, kc i = (r : EReal))
    ∧ ((Cert.Pre_finite_scores.fn (F := Ideal) q kc k vc v w).2.2 = (fun _ => 1#1) → ∀ i, ∃ r : ℝ, k i = (r : EReal)) := by
  refine ⟨fun h i => real_of_cmp (q i) (Eq.trans ?_ (congrFun h i)), fun h i => real_of_cmp (kc i) (Eq.trans ?_ (congrFun h i)),
    fun h i => real_of_cmp (k i) (Eq.trans ?_ (congrFun h i))⟩
  all_goals
    unfold Cert.Pre_finite_scores.fn
    pointwise

end Cert.Proof.Attn
-- ==== Proof.Experts.IdealStep.lean ====
module

public import proofs.«01_k».proof.Proof.Gen.Kernel2Ideal.Launch
public import proofs.«01_k».proof.Proof.Gen.Kernel2Ideal.Skeleton
public import Idealize.ShloMosaic.Lib.Tactic
public import Idealize.ShloMosaic.Lib.Pipeline.Frame
public import Idealize.ShloMosaic.Lib.Pipeline.FrameBody
public import Idealize.ShloMosaic.Lib.Pipeline.Value

/-! What one grid step of the experts kernel leaves in its buffers, as functions of what it finds there: the expert's two
    first weights side by side, its third weight, and the block of results. -/

@[expose] public section

set_option maxRecDepth 16384

noncomputable section

namespace Cert.Proof.ExpIdeal

open Idealize.ShloMosaic Idealize.ShloMosaic.TcCoe
open Idealize.SL Idealize.SL.RA Idealize.SL.BI
open scoped Idealize.SL.BI
open Idealize.SL.BI.BIBase Idealize.SL.Sem
open Cert.Kernel2Ideal Cert.Kernel2Ideal.Gen

variable {F : FTy → Type} [FloatOps F] [∀ e, Nonempty (Elt F e)]

/-- The two first weights of an expert, rounded and laid side by side. -/
def joined (wg wu : Vec F S1x1024x256 .f32) : Vec F S1024x512 .bf16 :=
  View.canon [⟨Rect.unit (s := S1024x512) ![0, 256] S1024x256.size inb_S1024x512_S1024x256_0_256, k0_pay2 wu⟩,
    ⟨Rect.unit (s := S1024x512) ![0, 0] S1024x256.size inb_S1024x512_S1024x256_0_0, k0_pay1 wg⟩]

/-- A block of rows read as pairs of rows. -/
def paired (x : Vec F S4096x128 .bf16) : Vec F S2048x2x128 .bf16 :=
  fun y => x (Shape.reshapeEquiv reshapes_S4096x128_S2048x2x128.1 y)

/-- Every fourth pair of rows. -/
def every (x : Vec F S4096x128 .bf16) (r : LoadRect S2048x2x128) : r.shape.Idx → Elt F .bf16 := fun j => paired x (r.idx j)

/-- The rows of one parity among pairs of rows, widened. -/
def rows (p : Fin 2) (v : Vec F S256x2x128 .bf16) : FVec F S256x128 .f32 :=
  extf .f32 (show FVec F S256x128 .bf16 from shapeCast S256x128 (rowsOfParity p S256x1x128 v bitcasts_S256x2x128_w16_S256x1x128_w32) shapeCasts_S256x1x128_S256x128) bitsLt_bf16_f32

/-- 256 tokens of a block side by side, from the eight rows each is stored in. -/
def tokens (v0 v1 v2 v3 : Vec F S256x2x128 .bf16) : FVec F S256x1024 .bf16 :=
  truncf .bf16 (show FVec F S256x1024 .f32 from concatenate S256x1024 1 [⟨S256x128, rows 0 v0⟩, ⟨S256x128, rows 0 v1⟩, ⟨S256x128, rows 0 v2⟩, ⟨S256x128, rows 0 v3⟩, ⟨S256x128, rows 1 v0⟩, ⟨S256x128, rows 1 v1⟩, ⟨S256x128, rows 1 v2⟩, ⟨S256x128, rows 1 v3⟩] concatenates_S256x128_S256x128_S256x128_S256x128_S256x128_S256x128_S256x128_S256x128_S256x1024_d1) bitsLt_bf16_f32

/-- The gated hidden layer of 256 tokens, from the product with the two first weights. -/
def gated (h : FVec F S256x512 .f32) : FVec F S256x256 .bf16 :=
  have g : FVec F S256x256 .f32 := extractStridedSlice S256x256 ![0, 0] h slices_S256x512_o0_0_S256x256
  have z : F .f32 := Scalar.ofBits .f32 0x00000000#32
  have one : F .f32 := Scalar.ofBits .f32 0x3F800000#32
  have d : FVec F S256x256 .f32 := addf (broadcast S256x256 one) (exp (subf (broadcast S256x256 z) g))
  have u : FVec F S256x256 .f32 := extractStridedSlice S256x256 ![0, 256] h slices_S256x512_o0_256_S256x256
  truncf .bf16 (mulf (mulf g (divf (broadcast S256x256 one) d)) u) bitsLt_bf16_f32

/-- The expert applied to 256 tokens. -/
def applied (x : FVec F S256x1024 .bf16) (sg : Vec F S1024x512 .bf16) (sd : Vec F S256x1024 .bf16) : FVec F S256x1024 .f32 :=
  matmul dot_S256x256_S256x1024_S256x1024_1_0_0_1_n_n none
    (gated (matmul dot_S256x1024_S1024x512_S256x512_1_0_0_1_n_n none x sg (constant S256x512 .f32 0x00000000#32))) sd
    (constant S256x1024 .f32 0x00000000#32)

/-- Two columns of 128 results, rounded, as the even and the odd rows of pairs. -/
def woven (v : FVec F S256x1024 .f32) (o o' : Fin S256x1024.rank → ℕ) (h : S256x1024.Slices o S256x128) (h' : S256x1024.Slices o' S256x128) : Vec F S256x2x128 .bf16 :=
  have a : FVec F S256x128 .f32 := extf .f32 (show FVec F S256x128 .bf16 from truncf .bf16 (show FVec F S256x128 .f32 from extractStridedSlice S256x128 o v h) bitsLt_bf16_f32) bitsLt_bf16_f32
  have b : FVec F S256x128 .f32 := extf .f32 (show FVec F S256x128 .bf16 from truncf .bf16 (show FVec F S256x128 .f32 from extractStridedSlice S256x128 o' v h') bitsLt_bf16_f32) bitsLt_bf16_f32
  interleaveRows S256x2x128 (shapeCast S256x1x128 (truncf .bf16 a) shapeCasts_S256x128_S256x1x128) (shapeCast S256x1x128 (truncf .bf16 b) shapeCasts_S256x128_S256x1x128) bitcasts_S256x2x128_w16_S256x1x128_w32

abbrev at0 : LoadRect S2048x2x128 := ⟨![0, 0, 0], S256x2x128.size, ![4, 1, 1], inb_S2048x2x128_S256x2x128_0_0_0_s_4_1_1⟩
abbrev at1 : LoadRect S2048x2x128 := ⟨![1, 0, 0], S256x2x128.size, ![4, 1, 1], inb_S2048x2x128_S256x2x128_1_0_0_s_4_1_1⟩
abbrev at2 : LoadRect S2048x2x128 := ⟨![2, 0, 0], S256x2x128.size, ![4, 1, 1], inb_S2048x2x128_S256x2x128_2_0_0_s_4_1_1⟩
abbrev at3 : LoadRect S2048x2x128 := ⟨![3, 0, 0], S256x2x128.size, ![4, 1, 1], inb_S2048x2x128_S256x2x128_3_0_0_s_4_1_1⟩
abbrev at1024 : LoadRect S2048x2x128 := ⟨![1024, 0, 0], S256x2x128.size, ![4, 1, 1], inb_S2048x2x128_S256x2x128_1024_0_0_s_4_1_1⟩
abbrev at1025 : LoadRect S2048x2x128 := ⟨![1025, 0, 0], S256x2x128.size, ![4, 1, 1], inb_S2048x2x128_S256x2x128_1025_0_0_s_4_1_1⟩
abbrev at1026 : LoadRect S2048x2x128 := ⟨![1026, 0, 0], S256x2x128.size, ![4, 1, 1], inb_S2048x2x128_S256x2x128_1026_0_0_s_4_1_1⟩
abbrev at1027 : LoadRect S2048x2x128 := ⟨![1027, 0, 0], S256x2x128.size, ![4, 1, 1], inb_S2048x2x128_S256x2x128_1027_0_0_s_4_1_1⟩

/-- The expert applied to the first and to the second half of a block. -/
def first (x : Vec F S4096x128 .bf16) (sg : Vec F S1024x512 .bf16) (sd : Vec F S256x1024 .bf16) : FVec F S256x1024 .f32 :=
  applied (tokens (every x at0) (every x at1) (every x at2) (every x at3)) sg sd
def second (x : Vec F S4096x128 .bf16) (sg : Vec F S1024x512 .bf16) (sd : Vec F S256x1024 .bf16) : FVec F S256x1024 .f32 :=
  applied (tokens (every x at1024) (every x at1025) (every x at1026) (every x at1027)) sg sd

/-- The eight stores of a step, the last one first. -/
def stores (a b : FVec F S256x1024 .f32) : List (View.Piece (Elt F) S2048x2x128 .bf16) :=
  [⟨⟨at1027, spos_4_1_1⟩, woven b ![0, 384] ![0, 896] slices_S256x1024_o0_384_S256x128 slices_S256x1024_o0_896_S256x128⟩,
    ⟨⟨at1026, spos_4_1_1⟩, woven b ![0, 256] ![0, 768] slices_S256x1024_o0_256_S256x128 slices_S256x1024_o0_768_S256x128⟩,
    ⟨⟨at1025, spos_4_1_1⟩, woven b ![0, 128] ![0, 640] slices_S256x1024_o0_128_S256x128 slices_S256x1024_o0_640_S256x128⟩,
    ⟨⟨at1024, spos_4_1_1⟩, woven b ![0, 0] ![0, 512] slices_S256x1024_o0_0_S256x128 slices_S256x1024_o0_512_S256x128⟩,
    ⟨⟨at3, spos_4_1_1⟩, woven a ![0, 384] ![0, 896] slices_S256x1024_o0_384_S256x128 slices_S256x1024_o0_896_S256x128⟩,
    ⟨⟨at2, spos_4_1_1⟩, woven a ![0, 256] ![0, 768] slices_S256x1024_o0_256_S256x128 slices_S256x1024_o0_768_S256x128⟩,
    ⟨⟨at1, spos_4_1_1⟩, woven a ![0, 128] ![0, 640] slices_S256x1024_o0_128_S256x128 slices_S256x1024_o0_640_S256x128⟩,
    ⟨⟨at0, spos_4_1_1⟩, woven a ![0, 0] ![0, 512] slices_S256x1024_o0_0_S256x128 slices_S256x1024_o0_512_S256x128⟩]

/-- The block of results a step leaves. -/
def result (x : Vec F S4096x128 .bf16) (sg : Vec F S1024x512 .bf16) (sd : Vec F S256x1024 .bf16) : Vec F S4096x128 .bf16 :=
  fun y => View.canon (stores (first x sg sd) (second x sg sd)) ((Shape.reshapeEquiv reshapes_S4096x128_S2048x2x128.1).symm y)

end Cert.Proof.ExpIdeal
-- ==== Proof.Experts.ValStep.lean ====
module

public import proofs.«01_k».proof.Proof.Experts.IdealStep
public import Idealize.ShloMosaic.Lib.Pipeline.ValueKit
public import Idealize.ShloMosaic.Lib.Pointwise
public import Idealize.ShloMosaic.Lib.Claim

/-! What a grid step of the experts kernel leaves, at a row and a lane. -/

@[expose] public section

set_option maxRecDepth 16384

noncomputable section

namespace Cert.Proof.ExpIdeal

open Idealize.ShloMosaic Idealize.ShloMosaic.TcCoe Idealize.SL.Sem
open Cert.Kernel2Ideal Cert.Kernel2Ideal.Gen

/-- The gate of a hidden unit: the unit times its logistic. -/
def swish (g : EReal) : EReal := g * Ideal.div 1 (1 + Ideal.exp (0 - g))

/-- An expert's result for a token: the gated hidden layer times the third weight. -/
def ffn (x : Fin 1024 → EReal) (wg wu : Fin 1024 → Fin 256 → EReal) (wd : Fin 256 → Fin 1024 → EReal) (n : Fin 1024) : EReal :=
  ∑ f : Fin 256, swish (∑ d : Fin 1024, x d * wg d f) * (∑ d : Fin 1024, x d * wu d f) * wd f n

theorem ffn_congr {x x' : Fin 1024 → EReal} {wg wg' wu wu' : Fin 1024 → Fin 256 → EReal} {wd wd' : Fin 256 → Fin 1024 → EReal}
    {n : Fin 1024} (hx : ∀ d, x d = x' d) (hg : wg = wg') (hu : wu = wu') (hd : wd = wd') :
    ffn x wg wu wd n = ffn x' wg' wu' wd' n := by
  rw [funext hx, hg, hu, hd]

theorem rows_at (p : Fin 2) (v : Vec Ideal S256x2x128 .bf16) (r : Fin 256) (l : Fin 128) :
    rows p v (ix2 r l) = v (ix3 r p l) := by
  unfold rows
  pointwise

theorem applied_at (x : FVec Ideal S256x1024 .bf16) (sg : Vec Ideal S1024x512 .bf16) (sd : Vec Ideal S256x1024 .bf16)
    (r : Fin 256) (n : Fin 1024) :
    applied x sg sd (ix2 r n) = ffn (fun d => x (ix2 r d)) (fun d f => sg (ix2 d ⟨f.val, by omega⟩))
      (fun d f => sg (ix2 d ⟨256 + f.val, by omega⟩)) (fun f n => sd (ix2 f n)) n := by
  unfold applied gated
  pointwise
  unfold ffn swish
  rfl

theorem tokens_at (v0 v1 v2 v3 : Vec Ideal S256x2x128 .bf16) (r : Fin 256) (n : Fin 1024) (w : Vec Ideal S256x2x128 .bf16)
    (h0 : n.val / 128 % 4 = 0 → w = v0) (h1 : n.val / 128 % 4 = 1 → w = v1)
    (h2 : n.val / 128 % 4 = 2 → w = v2) (h3 : n.val / 128 % 4 = 3 → w = v3) :
    tokens v0 v1 v2 v3 (ix2 r n) = w (ix3 r ⟨n.val / 512, by omega⟩ ⟨n.val % 128, by omega⟩) := by
  unfold tokens
  pointwise
  simp only [rows_at]
  have key : ∀ (v : Vec Ideal S256x2x128 .bf16) (p p' : Fin 2) (e e' : Fin 128), w = v → p = p' → e = e' →
      v (ix3 r p e) = w (ix3 r p' e') := by
    intro v p p' e e' hw hp he; subst hw hp he; rfl
  repeat' split
  all_goals first
    | exact key _ _ _ _ _ (h0 (by omega)) (Fin.ext (by simp; omega)) (Fin.ext (by simp; omega))
    | exact key _ _ _ _ _ (h1 (by omega)) (Fin.ext (by simp; omega)) (Fin.ext (by simp; omega))
    | exact key _ _ _ _ _ (h2 (by omega)) (Fin.ext (by simp; omega)) (Fin.ext (by simp; omega))
    | exact key _ _ _ _ _ (h3 (by omega)) (Fin.ext (by simp; omega)) (Fin.ext (by simp; omega))

theorem woven_at (v : FVec Ideal S256x1024 .f32) (o o' : ℕ) (h : S256x1024.Slices ![0, o] S256x128) (h' : S256x1024.Slices ![0, o'] S256x128)
    (ho : o + 128 ≤ 1024) (ho' : o' + 128 ≤ 1024) (r : Fin 256) (p : Fin 2) (l : Fin 128) :
    woven v ![0, o] ![0, o'] h h' (ix3 r p l)
      = if p = 0 then v (ix2 r ⟨o + l.val, by omega⟩) else v (ix2 r ⟨o' + l.val, by omega⟩) := by
  unfold woven
  pointwise
  match p with
  | 0 => rfl
  | 1 => rfl

/-- What the eight stores hold, at a pair of rows, a parity and a lane. -/
def stored (a b : FVec Ideal S256x1024 .f32) : S2048x2x128.Idx → EReal := fun z =>
  (if (z 0).val < 1024 then a else b) (ix2 ⟨(z 0).val % 1024 / 4, by omega⟩
      ⟨(z 1).val * 512 + 128 * ((z 0).val % 4) + (z 2).val, by have h1 : (z 1).val < 2 := (z 1).isLt; have h2 : (z 2).val < 128 := (z 2).isLt; omega⟩)

theorem stored_at (a b : FVec Ideal S256x1024 .f32) (q : Fin 2048) (p : Fin 2) (l : Fin 128) :
    stored a b (ix3 q p l) = (if q.val < 1024 then a else b) (ix2 ⟨q.val % 1024 / 4, by omega⟩ ⟨p.val * 512 + 128 * (q.val % 4) + l.val, by omega⟩) := rfl

theorem stored_of (a b v : FVec Ideal S256x1024 .f32) (z : S2048x2x128.Idx) (r : Fin 256) (n : Fin 1024)
    (hv : (if (z 0).val < 1024 then a else b) = v) (hr : (z 0).val % 1024 / 4 = r.val)
    (hn : (z 1).val * 512 + 128 * ((z 0).val % 4) + (z 2).val = n.val) : v (ix2 r n) = stored a b z := by
  unfold stored
  rw [hv]
  exact congrArg v (by congr 1 <;> exact Fin.ext (by simp [hr, hn]))

theorem piece_stored (a b v : FVec Ideal S256x1024 .f32) (O j : ℕ) (h : S256x1024.Slices ![0, 128 * j] S256x128)
    (h' : S256x1024.Slices ![0, 512 + 128 * j] S256x128) (hj : j < 4) (x : S256x2x128.Idx) (z : S2048x2x128.Idx)
    (hO : (O = j ∧ v = a) ∨ (O = 1024 + j ∧ v = b))
    (e0 : (z 0).val = O + 4 * (x 0).val) (e1 : (z 1).val = (x 1).val) (e2 : (z 2).val = (x 2).val) :
    woven v ![0, 128 * j] ![0, 512 + 128 * j] h h' x = stored a b z := by
  have hx : x = ix3 (x 0) (x 1) (x 2) := by blk_ext
  have hx0 : (x 0).val < 256 := (x 0).isLt
  have hx2 : (x 2).val < 128 := (x 2).isLt
  rw [hx]
  refine (woven_at v _ _ h h' (by omega) (by omega) (x 0) (x 1) (x 2)).trans ?_
  have hv : (if (z 0).val < 1024 then a else b) = v := by
    rcases hO with ⟨h1, h2⟩ | ⟨h1, h2⟩
    · rw [if_pos (by omega), h2]
    · rw [if_neg (by omega), h2]
  split
  · rename_i hp
    refine stored_of a b v z (x 0) _ hv ?_ ?_
    · omega
    · have : (x 1).val = 0 := congrArg Fin.val hp
      dsimp only
      omega
  · rename_i hp
    refine stored_of a b v z (x 0) _ hv ?_ ?_
    · omega
    · have h1 : (x 1).val < 2 := (x 1).isLt
      have : (x 1).val ≠ 0 := fun h => hp (Fin.ext h)
      dsimp only
      omega

/-- A pair of rows lies in the rectangle of its residue. -/
theorem mem_pairs (r : LoadRect S2048x2x128) (z : S2048x2x128.Idx) (O : ℕ) (h0 : r.off = ![O, 0, 0]) (hs : r.size = ![256, 2, 128])
    (ht : r.stride = ![4, 1, 1]) (hz : ∃ q < 256, (z 0).val = O + 4 * q) : z ∈ r.set := by
  rw [LoadRect.mem_set, h0, hs, ht]
  intro a
  match a with
  | ⟨0, _⟩ => exact hz
  | ⟨1, _⟩ => exact ⟨(z 1).val, (z 1).isLt, by simp⟩
  | ⟨2, _⟩ => exact ⟨(z 2).val, (z 2).isLt, by simp⟩

theorem stores_at (a b : FVec Ideal S256x1024 .f32) (z : S2048x2x128.Idx) : View.canon (stores a b) z = stored a b z := by
  refine View.canon_apply_of_pieces (stored a b) (stores a b) ?_ z ?_
  · intro p hp x
    simp only [stores, List.mem_cons, List.not_mem_nil, or_false] at hp
    rcases hp with rfl | rfl | rfl | rfl | rfl | rfl | rfl | rfl
    · exact piece_stored a b b 1027 3 _ _ (by omega) x _ (Or.inr ⟨rfl, rfl⟩) (LoadRect.idx_apply _ _ _) ((LoadRect.idx_apply _ _ _).trans (by simp)) ((LoadRect.idx_apply _ _ _).trans (by simp))
    · exact piece_stored a b b 1026 2 _ _ (by omega) x _ (Or.inr ⟨rfl, rfl⟩) (LoadRect.idx_apply _ _ _) ((LoadRect.idx_apply _ _ _).trans (by simp)) ((LoadRect.idx_apply _ _ _).trans (by simp))
    · exact piece_stored a b b 1025 1 _ _ (by omega) x _ (Or.inr ⟨rfl, rfl⟩) (LoadRect.idx_apply _ _ _) ((LoadRect.idx_apply _ _ _).trans (by simp)) ((LoadRect.idx_apply _ _ _).trans (by simp))
    · exact piece_stored a b b 1024 0 _ _ (by omega) x _ (Or.inr ⟨rfl, rfl⟩) (LoadRect.idx_apply _ _ _) ((LoadRect.idx_apply _ _ _).trans (by simp)) ((LoadRect.idx_apply _ _ _).trans (by simp))
    · exact piece_stored a b a 3 3 _ _ (by omega) x _ (Or.inl ⟨rfl, rfl⟩) (LoadRect.idx_apply _ _ _) ((LoadRect.idx_apply _ _ _).trans (by simp)) ((LoadRect.idx_apply _ _ _).trans (by simp))
    · exact piece_stored a b a 2 2 _ _ (by omega) x _ (Or.inl ⟨rfl, rfl⟩) (LoadRect.idx_apply _ _ _) ((LoadRect.idx_apply _ _ _).trans (by simp)) ((LoadRect.idx_apply _ _ _).trans (by simp))
    · exact piece_stored a b a 1 1 _ _ (by omega) x _ (Or.inl ⟨rfl, rfl⟩) (LoadRect.idx_apply _ _ _) ((LoadRect.idx_apply _ _ _).trans (by simp)) ((LoadRect.idx_apply _ _ _).trans (by simp))
    · exact piece_stored a b a 0 0 _ _ (by omega) x _ (Or.inl ⟨rfl, rfl⟩) (LoadRect.idx_apply _ _ _) ((LoadRect.idx_apply _ _ _).trans (by simp)) ((LoadRect.idx_apply _ _ _).trans (by simp))
  · have hz : (z 0).val < 2048 := (z 0).isLt
    have hq : ∀ O, O ≤ (z 0).val → (z 0).val - O < 1024 → ((z 0).val - O) % 4 = 0 → ∃ q < 256, (z 0).val = O + 4 * q := by
      intro O h1 h2 h3
      exact ⟨((z 0).val - O) / 4, by omega, by omega⟩
    unfold stores
    by_cases hb : (z 0).val < 1024
    · obtain h | h | h | h : (z 0).val % 4 = 0 ∨ (z 0).val % 4 = 1 ∨ (z 0).val % 4 = 2 ∨ (z 0).val % 4 = 3 := by omega
      · exact ⟨_, .tail _ (.tail _ (.tail _ (.tail _ (.tail _ (.tail _ (.tail _ (.head _))))))), mem_pairs _ z 0 rfl rfl rfl (hq _ (by omega) (by omega) (by omega))⟩
      · exact ⟨_, .tail _ (.tail _ (.tail _ (.tail _ (.tail _ (.tail _ (.head _)))))), mem_pairs _ z 1 rfl rfl rfl (hq _ (by omega) (by omega) (by omega))⟩
      · exact ⟨_, .tail _ (.tail _ (.tail _ (.tail _ (.tail _ (.head _))))), mem_pairs _ z 2 rfl rfl rfl (hq _ (by omega) (by omega) (by omega))⟩
      · exact ⟨_, .tail _ (.tail _ (.tail _ (.tail _ (.head _)))), mem_pairs _ z 3 rfl rfl rfl (hq _ (by omega) (by omega) (by omega))⟩
    · obtain h | h | h | h : (z 0).val % 4 = 0 ∨ (z 0).val % 4 = 1 ∨ (z 0).val % 4 = 2 ∨ (z 0).val % 4 = 3 := by omega
      · exact ⟨_, .tail _ (.tail _ (.tail _ (.head _))), mem_pairs _ z 1024 rfl rfl rfl (hq _ (by omega) (by omega) (by omega))⟩
      · exact ⟨_, .tail _ (.tail _ (.head _)), mem_pairs _ z 1025 rfl rfl rfl (hq _ (by omega) (by omega) (by omega))⟩
      · exact ⟨_, .tail _ (.head _), mem_pairs _ z 1026 rfl rfl rfl (hq _ (by omega) (by omega) (by omega))⟩
      · exact ⟨_, .head _, mem_pairs _ z 1027 rfl rfl rfl (hq _ (by omega) (by omega) (by omega))⟩

/-- Row `p` of pair `q` is row `2 q + p`. -/
theorem pair_row (q : Fin 2048) (p : Fin 2) (l : Fin 128) :
    Shape.reshapeEquiv reshapes_S4096x128_S2048x2x128.1 (ix3 q p l) = (ix2 ⟨2 * q.val + p.val, by omega⟩ l : S4096x128.Idx) := by
  have h : shapeCast S2048x2x128 (fun i : S4096x128.Idx => i) reshapes_S4096x128_S2048x2x128.1 (ix3 q p l)
      = (ix2 ⟨q.val * 2 + p.val, by omega⟩ l : S4096x128.Idx) := by pointwise
  refine Eq.trans (show _ = _ from h) ?_
  congr 1
  exact Fin.ext (by simp; omega)

theorem every_at (x : Vec Ideal S4096x128 .bf16) (r : LoadRect S2048x2x128) (O : ℕ) (t : Fin 256) (p : Fin 2) (l : Fin 128)
    (hO : O + 4 * 255 < 2048) (j : r.shape.Idx) (e0 : (r.idx j 0).val = O + 4 * t.val) (e1 : (r.idx j 1).val = p.val) (e2 : (r.idx j 2).val = l.val) :
    every x r j = x (ix2 ⟨2 * (O + 4 * t.val) + p.val, by omega⟩ l) := by
  unfold every paired
  refine congrArg x (Eq.trans (congrArg _ ?_) (pair_row ⟨O + 4 * t.val, by omega⟩ p l))
  funext a
  match a with
  | ⟨0, _⟩ => exact Fin.ext e0
  | ⟨1, _⟩ => exact Fin.ext e1
  | ⟨2, _⟩ => exact Fin.ext e2

/-- The first half of a block's tokens. -/
theorem tokens_first (x : Vec Ideal S4096x128 .bf16) (r : Fin 256) (d : Fin 1024) :
    tokens (every x at0) (every x at1) (every x at2) (every x at3) (ix2 r d)
      = x (ix2 ⟨0 + 8 * r.val + 2 * (d.val / 128 % 4) + d.val / 512, by omega⟩ ⟨d.val % 128, by omega⟩) := by
  have fit : ∀ (v : Vec Ideal S256x2x128 .bf16) (k : ℕ) (hk : k < 4) (hd : d.val / 128 % 4 = k)
      (hv : v (ix3 r ⟨d.val / 512, by omega⟩ ⟨d.val % 128, by omega⟩) = x (ix2 ⟨2 * (0 + k + 4 * r.val) + d.val / 512, by omega⟩ ⟨d.val % 128, by omega⟩)),
      v (ix3 r ⟨d.val / 512, by omega⟩ ⟨d.val % 128, by omega⟩)
        = x (ix2 ⟨0 + 8 * r.val + 2 * (d.val / 128 % 4) + d.val / 512, by omega⟩ ⟨d.val % 128, by omega⟩) := by
    intro v k hk hd hv
    refine hv.trans (congrArg x ?_)
    congr 1
    exact Fin.ext (by dsimp only; omega)
  obtain h | h | h | h : d.val / 128 % 4 = 0 ∨ d.val / 128 % 4 = 1 ∨ d.val / 128 % 4 = 2 ∨ d.val / 128 % 4 = 3 := by omega
  · refine (tokens_at _ _ _ _ r d (every x at0) (by intro _; rfl) (by omega) (by omega) (by omega)).trans (fit _ 0 (by omega) h ?_)
    exact every_at x at0 0 r ⟨d.val / 512, by omega⟩ ⟨d.val % 128, by omega⟩ (by omega) _ (LoadRect.idx_apply _ _ _) ((LoadRect.idx_apply _ _ _).trans (by simp)) ((LoadRect.idx_apply _ _ _).trans (by simp))
  · refine (tokens_at _ _ _ _ r d (every x at1) (by omega) (by intro _; rfl) (by omega) (by omega)).trans (fit _ 1 (by omega) h ?_)
    exact every_at x at1 1 r ⟨d.val / 512, by omega⟩ ⟨d.val % 128, by omega⟩ (by omega) _ (LoadRect.idx_apply _ _ _) ((LoadRect.idx_apply _ _ _).trans (by simp)) ((LoadRect.idx_apply _ _ _).trans (by simp))
  · refine (tokens_at _ _ _ _ r d (every x at2) (by omega) (by omega) (by intro _; rfl) (by omega)).trans (fit _ 2 (by omega) h ?_)
    exact every_at x at2 2 r ⟨d.val / 512, by omega⟩ ⟨d.val % 128, by omega⟩ (by omega) _ (LoadRect.idx_apply _ _ _) ((LoadRect.idx_apply _ _ _).trans (by simp)) ((LoadRect.idx_apply _ _ _).trans (by simp))
  · refine (tokens_at _ _ _ _ r d (every x at3) (by omega) (by omega) (by omega) (by intro _; rfl)).trans (fit _ 3 (by omega) h ?_)
    exact every_at x at3 3 r ⟨d.val / 512, by omega⟩ ⟨d.val % 128, by omega⟩ (by omega) _ (LoadRect.idx_apply _ _ _) ((LoadRect.idx_apply _ _ _).trans (by simp)) ((LoadRect.idx_apply _ _ _).trans (by simp))

/-- The second half of a block's tokens. -/
theorem tokens_second (x : Vec Ideal S4096x128 .bf16) (r : Fin 256) (d : Fin 1024) :
    tokens (every x at1024) (every x at1025) (every x at1026) (every x at1027) (ix2 r d)
      = x (ix2 ⟨2048 + 8 * r.val + 2 * (d.val / 128 % 4) + d.val / 512, by omega⟩ ⟨d.val % 128, by omega⟩) := by
  have fit : ∀ (v : Vec Ideal S256x2x128 .bf16) (k : ℕ) (hk : k < 4) (hd : d.val / 128 % 4 = k)
      (hv : v (ix3 r ⟨d.val / 512, by omega⟩ ⟨d.val % 128, by omega⟩) = x (ix2 ⟨2 * (1024 + k + 4 * r.val) + d.val / 512, by omega⟩ ⟨d.val % 128, by omega⟩)),
      v (ix3 r ⟨d.val / 512, by omega⟩ ⟨d.val % 128, by omega⟩)
        = x (ix2 ⟨2048 + 8 * r.val + 2 * (d.val / 128 % 4) + d.val / 512, by omega⟩ ⟨d.val % 128, by omega⟩) := by
    intro v k hk hd hv
    refine hv.trans (congrArg x ?_)
    congr 1
    exact Fin.ext (by dsimp only; omega)
  obtain h | h | h | h : d.val / 128 % 4 = 0 ∨ d.val / 128 % 4 = 1 ∨ d.val / 128 % 4 = 2 ∨ d.val / 128 % 4 = 3 := by omega
  · refine (tokens_at _ _ _ _ r d (every x at1024) (by intro _; rfl) (by omega) (by omega) (by omega)).trans (fit _ 0 (by omega) h ?_)
    exact every_at x at1024 1024 r ⟨d.val / 512, by omega⟩ ⟨d.val % 128, by omega⟩ (by omega) _ (LoadRect.idx_apply _ _ _) ((LoadRect.idx_apply _ _ _).trans (by simp)) ((LoadRect.idx_apply _ _ _).trans (by simp))
  · refine (tokens_at _ _ _ _ r d (every x at1025) (by omega) (by intro _; rfl) (by omega) (by omega)).trans (fit _ 1 (by omega) h ?_)
    exact every_at x at1025 1025 r ⟨d.val / 512, by omega⟩ ⟨d.val % 128, by omega⟩ (by omega) _ (LoadRect.idx_apply _ _ _) ((LoadRect.idx_apply _ _ _).trans (by simp)) ((LoadRect.idx_apply _ _ _).trans (by simp))
  · refine (tokens_at _ _ _ _ r d (every x at1026) (by omega) (by omega) (by intro _; rfl) (by omega)).trans (fit _ 2 (by omega) h ?_)
    exact every_at x at1026 1026 r ⟨d.val / 512, by omega⟩ ⟨d.val % 128, by omega⟩ (by omega) _ (LoadRect.idx_apply _ _ _) ((LoadRect.idx_apply _ _ _).trans (by simp)) ((LoadRect.idx_apply _ _ _).trans (by simp))
  · refine (tokens_at _ _ _ _ r d (every x at1027) (by omega) (by omega) (by omega) (by intro _; rfl)).trans (fit _ 3 (by omega) h ?_)
    exact every_at x at1027 1027 r ⟨d.val / 512, by omega⟩ ⟨d.val % 128, by omega⟩ (by omega) _ (LoadRect.idx_apply _ _ _) ((LoadRect.idx_apply _ _ _).trans (by simp)) ((LoadRect.idx_apply _ _ _).trans (by simp))

/-- The block of results a step leaves, at a row and a lane: the expert applied to the token that the row belongs to. -/
theorem result_at (x : Vec Ideal S4096x128 .bf16) (sg : Vec Ideal S1024x512 .bf16) (sd : Vec Ideal S256x1024 .bf16)
    (k : Fin 4096) (l : Fin 128) :
    result x sg sd (ix2 k l) = ffn
      (fun d => x (ix2 ⟨k.val / 8 * 8 + 2 * (d.val / 128 % 4) + d.val / 512, by omega⟩ ⟨d.val % 128, by omega⟩))
      (fun d f => sg (ix2 d ⟨f.val, by omega⟩)) (fun d f => sg (ix2 d ⟨256 + f.val, by omega⟩)) (fun f n => sd (ix2 f n))
      ⟨k.val % 2 * 512 + 128 * (k.val / 2 % 4) + l.val, by omega⟩ := by
  have hz : (Shape.reshapeEquiv reshapes_S4096x128_S2048x2x128.1).symm (ix2 k l : S4096x128.Idx)
      = (ix3 (⟨k.val / 2, by omega⟩ : Fin 2048) (⟨k.val % 2, by omega⟩ : Fin 2) l : S2048x2x128.Idx) := by
    rw [Equiv.symm_apply_eq, pair_row]
    congr 1
    exact Fin.ext (by dsimp only; omega)
  unfold result
  rw [hz, stores_at, stored_at]
  by_cases hk : k.val / 2 < 1024
  · rw [if_pos hk]
    unfold first
    rw [applied_at]
    refine ffn_congr (fun d => ?_) rfl rfl rfl
    rw [tokens_first]
    refine congrArg x (congrArg (fun e => (ix2 e _ : S4096x128.Idx)) (Fin.ext ?_))
    dsimp only
    omega
  · rw [if_neg hk]
    unfold second
    rw [applied_at]
    refine ffn_congr (fun d => ?_) rfl rfl rfl
    rw [tokens_second]
    refine congrArg x (congrArg (fun e => (ix2 e _ : S4096x128.Idx)) (Fin.ext ?_))
    dsimp only
    omega

/-- A first weight as the step lays it down. -/
theorem gate_part (w : Vec Ideal S1x1024x256 .f32) (d : Fin 1024) (f : Fin 256) : k0_pay1 w (ix2 d f) = w (ix3 0 d f) := by
  unfold k0_pay1
  pointwise

theorem up_part (w : Vec Ideal S1x1024x256 .f32) (d : Fin 1024) (f : Fin 256) : k0_pay2 w (ix2 d f) = w (ix3 0 d f) := by
  unfold k0_pay2
  pointwise

/-- The joined first weights: the gate's columns, then the other's. -/
theorem joined_gate (wg wu : Vec Ideal S1x1024x256 .f32) (d : Fin 1024) (f : Fin 256) :
    joined wg wu (ix2 d ⟨f.val, by omega⟩) = wg (ix3 0 d f) := by
  unfold joined
  canon_tiles z h
  · exact absurd h1 (by change f.val ≠ _; omega)
  · refine Eq.trans (congrArg (k0_pay1 wg) ?_) (gate_part wg d f)
    funext a
    match a with
    | ⟨0, _⟩ => exact Fin.ext h0.symm
    | ⟨1, _⟩ => exact Fin.ext h1.symm

theorem joined_up (wg wu : Vec Ideal S1x1024x256 .f32) (d : Fin 1024) (f : Fin 256) :
    joined wg wu (ix2 d ⟨256 + f.val, by omega⟩) = wu (ix3 0 d f) := by
  unfold joined
  canon_tiles z h
  · refine Eq.trans (congrArg (k0_pay2 wu) ?_) (up_part wu d f)
    funext a
    match a with
    | ⟨0, _⟩ => exact Fin.ext h0.symm
    | ⟨1, _⟩ => exact Fin.ext (show (z 1).val = f.val by change 256 + f.val = _ at h1; omega)
  · exact absurd h1 (by change 256 + f.val ≠ _; omega)

theorem third_at (wd : Vec Ideal S1x256x1024 .f32) (f : Fin 256) (n : Fin 1024) : k0_pay3 wd (ix2 f n) = wd (ix3 0 f n) := by
  unfold k0_pay3
  pointwise

end Cert.Proof.ExpIdeal
-- ==== Proof.Experts.Words.lean ====
module

public import proofs.«01_k».proof.Pre_experts_named
public import Idealize.ShloMosaic.Lib.Pipeline.ValueKit
public import Idealize.ShloMosaic.Lib.Pointwise
public import Idealize.ShloMosaic.Lib.WordArith
public import Idealize.ShloMosaic.Lib.WordCmp
public import Idealize.ShloMosaic.Lib.StableHlo.Predicate
public import Idealize.ShloMosaic.Lib.Claim

/-! The words of the experts call: the number of blocks in use, the block a grid step works on, and what the
    precondition says of them. -/

@[expose] public section

set_option maxRecDepth 16384

noncomputable section

namespace Cert.Proof.Experts

open Idealize.ShloMosaic Idealize.ShloMosaic.WordArith Idealize.ShloMosaic.WordCmp

/-- A word at least one as a signed number, as a natural number. -/
theorem pos_word (w : BitVec 32) (h : 1 ≤ w.toInt) : 1 ≤ w.toNat ∧ w.toNat < 2 ^ 31 := by
  rw [BitVec.toInt_eq_toNat_cond] at h
  split at h <;> omega

/-- The last block in use. -/
theorem last_word (w : BitVec 32) (h : 1 ≤ w.toInt) : (w - 1#32).toNat = w.toNat - 1 := by
  have := pos_word w h
  rw [BitVec.toNat_sub]
  simp only [BitVec.toNat_ofNat]
  omega

/-- The block a step works on: its own, and past the last block in use the last one. -/
theorem min_word (i : ℕ) (hi : i < 1280) (w : BitVec 32) (h : 1 ≤ w.toInt) :
    (IntOp.minsi (BitVec.ofNat 32 i) (w - 1#32)).toNat = min i (w.toNat - 1) := by
  have h1 := pos_word w h
  have h2 := last_word w h
  have h3 : (BitVec.ofNat 32 i).toNat = i := by rw [BitVec.toNat_ofNat]; omega
  rw [toNat_minsi_of_lt _ _ (by omega) (by omega), h2, h3]

/-- A word whose natural number is small is that number as a signed number. -/
theorem toInt_small (w : BitVec 32) (h : w.toNat < 2 ^ 31) : w.toInt = (w.toNat : ℤ) := by
  rw [BitVec.toInt_eq_toNat_cond]; split <;> omega

/-- The host code's guard against a negative index does nothing to it. -/
theorem guard_word (i : ℕ) (hi : i < 1280) (w : BitVec 32) (h : 1 ≤ w.toInt) :
    Scalar.select (IntOp.cmpi .slt (IntOp.minsi (BitVec.ofNat 32 i) (IntOp.subi w 1#32)) 0#32)
      (IntOp.addi (IntOp.minsi (BitVec.ofNat 32 i) (IntOp.subi w 1#32)) 1280#32)
      (IntOp.minsi (BitVec.ofNat 32 i) (IntOp.subi w 1#32)) = IntOp.minsi (BitVec.ofNat 32 i) (IntOp.subi w 1#32) := by
  have h1 := min_word i hi w h
  have h2 : (IntOp.minsi (BitVec.ofNat 32 i) (IntOp.subi w 1#32)).toNat = min i (w.toNat - 1) := h1
  unfold Scalar.select
  rw [if_neg]
  rw [cmpi_slt_zero, h2, show decide (2 ^ (32 - 1) ≤ min i (w.toNat - 1)) = false from decide_eq_false (by omega)]
  decide

/-- The same of a whole array of indices, read at one of them. -/
theorem guard_at (A : IVec ⟨1, ![1280]⟩ 32) (hb : (⟨0, ![]⟩ : Shape).BroadcastsInDim ⟨1, ![1280]⟩ (![] : Fin 0 → Fin 1))
    (j : (⟨1, ![1280]⟩ : Shape).Idx) (i : ℕ) (hi : i < 1280) (w : BitVec 32) (h : 1 ≤ w.toInt)
    (hA : A j = IntOp.minsi (BitVec.ofNat 32 i) (IntOp.subi w 1#32)) :
    select (cmpi CmpIPredicate.slt A (broadcastInDim ⟨1, ![1280]⟩ ![] hb (constantI ⟨0, ![]⟩ 32 0#32)))
        (addi A (broadcastInDim ⟨1, ![1280]⟩ ![] hb (constantI ⟨0, ![]⟩ 32 1280#32))) A j
      = IntOp.minsi (BitVec.ofNat 32 i) (IntOp.subi w 1#32) := by
  rw [← guard_word i hi w h, ← hA]
  rfl

/-- A one-element array has one index. -/
theorem idx_one (j : (⟨1, ![1]⟩ : Shape).Idx) : j = Shape.Idx.ofFin 0 := by
  funext a
  have ha : a = 0 := Subsingleton.elim _ _
  subst ha
  exact Subsingleton.elim (α := Fin 1) _ _

/-- An index of the table of experts is its one coordinate. -/
theorem idx_eq (j : (⟨1, ![1280]⟩ : Shape).Idx) (p : Fin 1280) (h : (j 0).val = p.val) : j = Shape.Idx.ofFin p := by
  funext a
  have ha : a = 0 := Subsingleton.elim _ _
  subst ha
  exact Fin.ext h

/-- A small index is within the table as it stands. -/
theorem clamp_word (w : BitVec 32) (k : ℕ) (h : w.toNat = k) (hk : k < 1280) : min w.toInt.toNat (1280 - 1) = k := by
  rw [toInt_small w (by omega), Int.toNat_natCast]
  omega

/-- A step's number as a word. -/
theorem step_word (i : ℕ) (hi : i < 1280) : (BitVec.ofNat 32 i).toNat = i := by
  rw [BitVec.toNat_ofNat]; omega

/-- The side conditions of the precondition's operations. -/
theorem named_facts : Cert.Pre_experts_named.Facts := ⟨by decide, by decide⟩

/-- What the precondition says: at least one block is in use, and every block names one of the 256 experts. -/
theorem of_named [Cert.Pre_experts_named.Facts] {F : FTy → Type} [FloatOps F] (be : IVec ⟨1, ![1280]⟩ 32) (nu : IVec ⟨1, ![1]⟩ 32)
    (xs : FVec F ⟨2, ![655360, 1024]⟩ .f32) (wg wu : FVec F ⟨4, ![1, 256, 1024, 256]⟩ .f32) (wd : FVec F ⟨4, ![1, 256, 256, 1024]⟩ .f32)
    (h : (Cert.Pre_experts_named.fn be nu xs wg wu wd).1 = (fun _ => 1#1)
      ∧ (Cert.Pre_experts_named.fn be nu xs wg wu wd).2.1 = (fun _ => 1#1)
      ∧ (Cert.Pre_experts_named.fn be nu xs wg wu wd).2.2 = (fun _ => 1#1)) :
    (∀ j, 1 ≤ (nu j).toInt) ∧ ∀ j, (be j).toNat < 256 := by
  have e : ∀ b : Bool, BitVec.ofBool b = 1#1 → b = true := by decide
  refine ⟨fun j => ?_, fun j => ?_⟩
  · have h1 : IntOp.cmpi .sge (nu j) 1#32 = 1#1 := congrFun h.1 j
    rw [cmpi_sge_eq] at h1
    have := of_decide_eq_true (e _ h1)
    simpa using this
  · have h1 : IntOp.cmpi .sge (be j) 0#32 = 1#1 := congrFun h.2.1 j
    have h2 : IntOp.cmpi .slt (be j) 256#32 = 1#1 := congrFun h.2.2 j
    rw [cmpi_sge_eq] at h1
    rw [cmpi_slt_eq] at h2
    have h3 := of_decide_eq_true (e _ h1)
    have h4 := of_decide_eq_true (e _ h2)
    have e0 : (0#32 : BitVec 32).toInt = 0 := by decide
    have e256 : (256#32 : BitVec 32).toInt = 256 := by decide
    rw [e0] at h3; rw [e256] at h4
    rw [BitVec.toInt_eq_toNat_cond] at h3 h4
    split at h3 <;> omega

/-- A step's number against the number of blocks in use. -/
theorem slt_word (i : ℕ) (hi : i < 1280) (w : BitVec 32) (h : 1 ≤ w.toInt) :
    IntOp.cmpi .slt (BitVec.ofNat 32 i) w = BitVec.ofBool (decide (i < w.toNat)) := by
  have h1 := pos_word w h
  have h3 := step_word i hi
  rw [cmpi_slt_of_lt (by rw [h3]; omega) (by omega), h3]

/-- A bit widened to a word is not zero when it is one. -/
theorem bit_word (b : BitVec 1) : Scalar.cmpi CmpIPredicate.ne (Scalar.extui b : BitVec 32) 0#32 = b := by
  revert b; decide

/-- The step before, as a word. -/
theorem prev_word (i : ℕ) (hi : i < 1280) (h0 : 0 < i) :
    (IntOp.maxsi (IntOp.subi (BitVec.ofNat 32 i) 1#32) 0#32).toNat = i - 1 := by
  have h1 : (IntOp.subi (BitVec.ofNat 32 i) 1#32).toNat = i - 1 := by
    show (BitVec.ofNat 32 i - 1#32).toNat = _
    rw [BitVec.toNat_sub]
    simp only [BitVec.toNat_ofNat]
    omega
  have h2 := toInt_small (IntOp.subi (BitVec.ofNat 32 i) 1#32) (by omega)
  unfold IntOp.maxsi
  split
  · exact h1
  · next h =>
    rw [BitVec.slt_iff_toInt_lt, h2, h1] at h
    simp only [BitVec.toInt_zero] at h
    simp only [BitVec.toNat_ofNat]
    omega

end Cert.Proof.Experts
-- ==== Proof.Experts.IdealTable.lean ====
module

public import proofs.«01_k».proof.Proof.Gen.Kernel2Ideal.Launch
public import proofs.«01_k».proof.Proof.Experts.Words
public import Idealize.ShloMosaic.Lib.Pipeline.Frame
public import Idealize.ShloMosaic.Lib.StableHlo.Predicate

/-! The tables of the experts call: how many blocks are in use, and which expert each step takes. -/

@[expose] public section

set_option maxRecDepth 16384

noncomputable section

namespace Cert.Proof.ExpIdeal

open Idealize.ShloMosaic Idealize.ShloMosaic.TcCoe Idealize.SL.Sem
open Cert.Kernel2Ideal Cert.Kernel2Ideal.Gen

variable {F : FTy → Type} [FloatOps F]

variable (m : (ℓ : Loc nD τ sig) → Buf (Elt F) ℓ)

/-- The contents of a core's buffers as the pipeline starts: the launch's, and what the host code has computed. -/
def V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]
  repeat' apply And.intro
  all_goals rfl

abbrev be (c : Dev nD) : IVec S1280 32 := m ((c : Thread nD τ).loc main_arg0)
abbrev nu (c : Dev nD) : IVec S1 32 := m ((c : Thread nD τ).loc main_arg1)

theorem V_arg1 (c : Dev nD) : (V m c main_arg1 : IVec S1 32) = nu m c := by
  unfold V; after_results <;> rfl

/-- The blocks the steps work on, as the host code computes them. -/
def own (c : Dev nD) : IVec S1280 32 :=
  minsi (iotaInDim S1280 32 0) (broadcastInDim S1280 ![] bcast_S_S1280
    (subi (shapeCast S_ (nu m c) shapeCasts_S1_S_) (constantI S_ 32 1#32)))

theorem own_at (c : Dev nD) (p : Fin 1280) :
    own m c (Shape.Idx.ofFin p) = IntOp.minsi (BitVec.ofNat 32 p.val) (IntOp.subi (nu m c (Shape.Idx.ofFin 0)) 1#32) := by
  show IntOp.minsi (BitVec.ofNat 32 p.val) (IntOp.subi (nu m c _) 1#32) = _
  rw [Experts.idx_one (Shape.reshapeEquiv _ _)]

/-- The same behind the host code's guard against a negative index. -/
def col (c : Dev nD) : IVec S1280 32 :=
  select (cmpi CmpIPredicate.slt (own m c) (broadcastInDim S1280 ![] bcast_S_S1280 (constantI S_ 32 0#32)))
    (addi (own m c) (broadcastInDim S1280 ![] bcast_S_S1280 (constantI S_ 32 1280#32))) (own m c)

theorem V_v11_eq (c : Dev nD) : (V m c main_v11 : IVec S1280 32)
    = Host.gather gather_S1280_S1280x1_S1280_n_0_n_n_0_1_1 (be m c)
        (broadcastInDim S1280x1 ![0] bcast_S1280_S1280x1_0 (col m c)) := by
  unfold V; after_results; rfl

/-- The entry of the table of experts that the call is handed for step `p`. -/
theorem V_v11 (c : Dev nD) (hu : 1 ≤ (nu m c (Shape.Idx.ofFin 0)).toInt) (p : Fin 1280) :
    (V m c main_v11 : IVec S1280 32) (Shape.Idx.ofFin p)
      = be m c (Shape.Idx.ofFin ⟨min p.val ((nu m c (Shape.Idx.ofFin 0)).toNat - 1), by omega⟩) := by
  have h1 : (IntOp.minsi (BitVec.ofNat 32 p.val) (IntOp.subi (nu m c (Shape.Idx.ofFin 0)) 1#32)).toNat
      = min p.val ((nu m c (Shape.Idx.ofFin 0)).toNat - 1) := Experts.min_word p.val p.isLt _ hu
  rw [V_v11_eq]
  have e2 : broadcastInDim S1280x1 ![0] bcast_S1280_S1280x1_0 (col m c) (StableHlo.Predicate.ixP p)
      = IntOp.minsi (BitVec.ofNat 32 p.val) (IntOp.subi (nu m c (Shape.Idx.ofFin 0)) 1#32) := by
    rw [StableHlo.Predicate.bcast_col1]
    exact Experts.guard_at _ _ _ p.val p.isLt _ hu (own_at m c p)
  rw [StableHlo.Predicate.gather_take _ rfl rfl rfl rfl _ _ p (by norm_num)]
  refine congrArg (fun q => be m c (Shape.Idx.ofFin q)) (Fin.ext ?_)
  show min (broadcastInDim S1280x1 ![0] bcast_S1280_S1280x1_0 (col m c) (StableHlo.Predicate.ixP p)).toInt.toNat (1280 - 1) = _
  rw [e2]
  have := p.isLt
  exact Experts.clamp_word _ _ h1 (by omega)

/-! ## The tables the call is handed -/

/-- The two tables' contents. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The number of blocks in use, and the precondition's content: it is at least one, and every block names one of
    the 256 experts. -/
abbrev used : BitVec 32 := nu m 0 (Shape.Idx.ofFin 0)
structure Named : Prop where
  used : 1 ≤ (used m).toInt
  expert : ∀ j, (be m 0 j).toNat < 256

theorem at_one : (tbl m).at 1 (Rect.unit (s := S1) ![0] S1.size inb_S1_S1_0) numel1_S1 = used m := by
  exact (congrFun (V_arg1 m 0) _).trans (congrArg (nu m 0) (Experts.idx_one _))

theorem atD_one : (tbl m).atD 1 ![0] = used m := by
  exact (dif_pos (by decide)).trans ((congrFun (V_arg1 m 0) _).trans (congrArg (nu m 0) (Experts.idx_one _)))

/-- The step's number. -/
abbrev num (i : grid0.Coords) : Fin 1280 := i 0

/-- The expert the call looks up for a step. -/
theorem at_zero (hn : Named m) (i : grid0.Coords) :
    (tbl m).at 0 (Rect.unit (s := S1280) (k0_off1 i) S1.size (k0_off1_inb i)) numel1_S1
      = be m 0 (Shape.Idx.ofFin ⟨min (num i).val ((used m).toNat - 1), by omega⟩) := by
  refine Eq.trans ?_ (V_v11 m 0 hn.used (num i))
  refine congrArg (V m 0 main_v11 : IVec S1280 32) (Experts.idx_eq _ (num i) ?_)
  exact Experts.step_word _ (num i).isLt

theorem transform_x (hn : Named m) (i : grid0.Coords) :
    cc0_transform_0 inb_S1_S1_0 numel1_S1 (tbl m) i = ![min (num i).val ((used m).toNat - 1), 0] := by
  have h : (IntOp.minsi (BitVec.ofNat 32 (num i).val) (used m - 1#32)).toNat = _ := Experts.min_word _ (num i).isLt _ hn.used
  rw [← h, ← at_one m]
  rfl

theorem transform_w (hn : Named m) (i : grid0.Coords) :
    cc0_transform_1 k0_off1_inb numel1_S1 (tbl m) i
      = ![(be m 0 (Shape.Idx.ofFin ⟨min (num i).val ((used m).toNat - 1), by omega⟩)).toNat, 0, 0] := by
  rw [← at_zero m hn i]
  rfl

/-- Every block the call takes lies inside its array. -/
theorem ok (hn : Named m) : ok0 (tbl m) := by
  have hx : ∀ i : grid0.Coords, ∀ a, (cc0_transform_0 inb_S1_S1_0 numel1_S1 (tbl m) i a + 1) * S4096x128.size a ≤ S5242880x128.size a := by
    intro i a
    rw [transform_x m hn]
    have := (num i).isLt
    fin_cases a
    · show (min (num i).val ((used m).toNat - 1) + 1) * 4096 ≤ 5242880
      omega
    · show (0 + 1) * 128 ≤ 128
      omega
  have hw : ∀ i : grid0.Coords, ∀ a, (cc0_transform_1 k0_off1_inb numel1_S1 (tbl m) i a + 1) * S1x1024x256.size a ≤ S256x1024x256.size a := by
    intro i a
    rw [transform_w m hn]
    have h1 := hn.expert (Shape.Idx.ofFin ⟨min (num i).val ((used m).toNat - 1), by omega⟩)
    fin_cases a
    · show ((be m 0 _).toNat + 1) * 1 ≤ 256
      omega
    · show (0 + 1) * 1024 ≤ 1024
      omega
    · show (0 + 1) * 256 ≤ 256
      omega
  have hd : ∀ i : grid0.Coords, ∀ a, (cc0_transform_1 k0_off1_inb numel1_S1 (tbl m) i a + 1) * S1x256x1024.size a ≤ S256x256x1024.size a := by
    intro i a
    rw [transform_w m hn]
    have h1 := hn.expert (Shape.Idx.ofFin ⟨min (num i).val ((used m).toNat - 1), by omega⟩)
    fin_cases a
    · show ((be m 0 _).toNat + 1) * 1 ≤ 256
      omega
    · show (0 + 1) * 256 ≤ 256
      omega
    · show (0 + 1) * 1024 ≤ 1024
      omega
  exact ⟨fun i => ⟨hx i, .inr (Affine.block_words_dvd (of_decide_eq_true rfl) (by decide))⟩,
    fun i => ⟨hw i, .inl rfl⟩, fun i => ⟨hw i, .inl rfl⟩, fun i => ⟨hd i, .inl rfl⟩,
    fun i => ⟨hx i, .inr (Affine.block_words_dvd (of_decide_eq_true rfl) (by decide))⟩⟩

end Cert.Proof.ExpIdeal
-- ==== Proof.Experts.IdealBody.lean ====
module

public import proofs.«01_k».proof.Proof.Experts.IdealStep

/-! One grid step of the experts kernel: from the buffers it is handed to what it leaves in them. -/

@[expose] public section

set_option maxRecDepth 16384

noncomputable section

namespace Cert.Proof.ExpIdeal

open Idealize.ShloMosaic Idealize.ShloMosaic.TcCoe
open Idealize.SL Idealize.SL.RA Idealize.SL.BI
open scoped Idealize.SL.BI
open Idealize.SL.BI.BIBase Idealize.SL.Sem
open Cert.Kernel2Ideal Cert.Kernel2Ideal.Gen

variable {F : FTy → Type} [FloatOps F] [∀ e, Nonempty (Elt F e)]

local notation "𝕄" => MT nD τ sig Unit (Elt F) ℕ (UR sig nD τ) ℕ

/-- The two stores of a step that takes up a new expert fill the buffer of the first two weights. -/
theorem joined_covers (a b : S1024x256.Idx → Elt F .bf16) (y : S1024x512.Idx) :
    ∃ p ∈ ([⟨Rect.unit (s := S1024x512) ![0, 256] S1024x256.size inb_S1024x512_S1024x256_0_256, a⟩,
      ⟨Rect.unit (s := S1024x512) ![0, 0] S1024x256.size inb_S1024x512_S1024x256_0_0, b⟩] : List (View.Piece (Elt F) S1024x512 .bf16)), y ∈ p.1.set := by
  have h0 : (y 0).val < 1024 := (y 0).isLt
  have h1 : (y 1).val < 512 := (y 1).isLt
  by_cases h : (y 1).val < 256
  · refine ⟨_, List.mem_cons_of_mem _ List.mem_cons_self, ?_⟩
    refine (LoadRect.mem_set _).mpr fun a => ?_
    match a with
    | ⟨0, _⟩ => exact ⟨(y 0).val, h0, show (y 0).val = 0 + 1 * _ by omega⟩
    | ⟨1, _⟩ => exact ⟨(y 1).val, h, show (y 1).val = 0 + 1 * _ by omega⟩
  · refine ⟨_, List.mem_cons_self, ?_⟩
    refine (LoadRect.mem_set _).mpr fun a => ?_
    match a with
    | ⟨0, _⟩ => exact ⟨(y 0).val, h0, show (y 0).val = 0 + 1 * _ by omega⟩
    | ⟨1, _⟩ => exact ⟨(y 1).val - 256, show (y 1).val - 256 < 256 by omega, show (y 1).val = 256 + 1 * _ by omega⟩

theorem pair_mem (o k : ℕ) (h : ∀ a, S256x2x128.size a = 0 ∨ (![o, 0, 0] : Fin 3 → ℕ) a + (![4, 1, 1] : Fin 3 → ℕ) a * (S256x2x128.size a - 1) < S2048x2x128.size a)
    (y : S2048x2x128.Idx) (hk : k < 256) (hy : (y 0).val = o + 4 * k) :
    y ∈ (⟨![o, 0, 0], S256x2x128.size, ![4, 1, 1], h⟩ : LoadRect S2048x2x128).set := by
  have h1 : (y 1).val < 2 := (y 1).isLt
  have h2 : (y 2).val < 128 := (y 2).isLt
  refine (LoadRect.mem_set _).mpr fun a => ?_
  match a with
  | ⟨0, _⟩ => exact ⟨k, hk, hy⟩
  | ⟨1, _⟩ => exact ⟨(y 1).val, h1, show (y 1).val = 0 + 1 * _ by omega⟩
  | ⟨2, _⟩ => exact ⟨(y 2).val, h2, show (y 2).val = 0 + 1 * _ by omega⟩

/-- The eight stores of a step fill the block of results. -/
theorem stores_cover (a b : FVec F S256x1024 .f32) (y : S2048x2x128.Idx) : ∃ p ∈ stores a b, y ∈ p.1.set := by
  have h0 : (y 0).val < 2048 := (y 0).isLt
  have hc : (y 0).val % 4 = 0 ∨ (y 0).val % 4 = 1 ∨ (y 0).val % 4 = 2 ∨ (y 0).val % 4 = 3 := by omega
  unfold stores
  by_cases hb : (y 0).val < 1024
  · rcases hc with h | h | h | h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), pair_mem 0 ((y 0).val / 4) _ y (by omega) (by omega)⟩
    · exact ⟨_, List.mem_cons_of_mem _ (List.mem_cons_of_mem _ (List.mem_cons_of_mem _ (List.mem_cons_of_mem _ (List.mem_cons_of_mem _ (List.mem_cons_of_mem _ (List.mem_cons_self)))))), pair_mem 1 ((y 0).val / 4) _ y (by omega) (by omega)⟩
    · exact ⟨_, List.mem_cons_of_mem _ (List.mem_cons_of_mem _ (List.mem_cons_of_mem _ (List.mem_cons_of_mem _ (List.mem_cons_of_mem _ (List.mem_cons_self))))), pair_mem 2 ((y 0).val / 4) _ y (by omega) (by omega)⟩
    · exact ⟨_, List.mem_cons_of_mem _ (List.mem_cons_of_mem _ (List.mem_cons_of_mem _ (List.mem_cons_of_mem _ (List.mem_cons_self)))), pair_mem 3 ((y 0).val / 4) _ y (by omega) (by omega)⟩
  · rcases hc with h | h | h | h
    · exact ⟨_, List.mem_cons_of_mem _ (List.mem_cons_of_mem _ (List.mem_cons_of_mem _ (List.mem_cons_self))), pair_mem 1024 (((y 0).val - 1024) / 4) _ y (by omega) (by omega)⟩
    · exact ⟨_, List.mem_cons_of_mem _ (List.mem_cons_of_mem _ (List.mem_cons_self)), pair_mem 1025 (((y 0).val - 1024) / 4) _ y (by omega) (by omega)⟩
    · exact ⟨_, List.mem_cons_of_mem _ (List.mem_cons_self), pair_mem 1026 (((y 0).val - 1024) / 4) _ y (by omega) (by omega)⟩
    · exact ⟨_, List.mem_cons_self, pair_mem 1027 (((y 0).val - 1024) / 4) _ y (by omega) (by omega)⟩

/-- Stores through the pairs of rows of a buffer that fill it leave in it what they name, read as rows. -/
theorem read_pairs {sp : Space} (v : View sig .tc sp S4096x128 .bf16) (f : v.ty.Contents (Elt F)) (L : List (View.Piece (Elt F) S2048x2x128 .bf16))
    (h : ∀ y, ∃ p ∈ L, y ∈ p.1.set) :
    v.read (Elt F) ((v.reshape S2048x2x128 reshapes_S4096x128_S2048x2x128.1).writes (Elt F) f L)
      = fun y => View.canon L ((Shape.reshapeEquiv reshapes_S4096x128_S2048x2x128.1).symm y) := by
  funext y
  obtain ⟨x, rfl⟩ := (Shape.reshapeEquiv reshapes_S4096x128_S2048x2x128.1).surjective y
  rw [Equiv.symm_apply_apply]
  exact congrFun (View.read_writes_eq_canon (v.reshape S2048x2x128 reshapes_S4096x128_S2048x2x128.1) f L h) x

/-- A word of the table of experts. -/
abbrev word (T : Vec F S1280 .i32) (o : Fin S1280.rank → ℕ) (h : ∀ a, o a + S1.size a ≤ S1280.size a) : BitVec 32 :=
  T ((Rect.unit (s := S1280) o S1.size h).toLoadRect.idx (Shape.Idx.first (show 0 < S1.numel by decide)))

/-- The number of blocks in use. -/
abbrev count (N : Vec F S1 .i32) : BitVec 32 :=
  N ((Rect.unit (s := S1) ![0] S1.size inb_S1_S1_0).toLoadRect.idx (Shape.Idx.first (show 0 < S1.numel by decide)))

/-- A step takes up a new expert: its block is in use, and it is the first step or its expert is not the last step's. -/
abbrev renews (i : grid0.Coords) (T : Vec F S1280 .i32) (N : Vec F S1 .i32) : Prop :=
  Scalar.cmpi CmpIPredicate.ne (Scalar.extui (Scalar.andi (Scalar.cmpi CmpIPredicate.slt (BitVec.ofNat 32 (i 0).val) (count N))
    (Scalar.ori (Scalar.cmpi CmpIPredicate.eq (BitVec.ofNat 32 (i 0).val) 0#32)
      (Scalar.cmpi CmpIPredicate.ne (word T (k0_off1 i) (k0_off1_inb i)) (word T (k0_off2 i) (k0_off2_inb i)))))) 0#32 = 1#1

/-- What a step leaves in the buffer of the first two weights, in that of the third, and in the block of results. -/
def weights (i : grid0.Coords) (T : Vec F S1280 .i32) (N : Vec F S1 .i32) (wg wu : Vec F S1x1024x256 .f32) (sg : Vec F S1024x512 .bf16) : Vec F S1024x512 .bf16 :=
  if renews i T N then joined wg wu else sg
def third (i : grid0.Coords) (T : Vec F S1280 .i32) (N : Vec F S1 .i32) (wd : Vec F S1x256x1024 .f32) (sd : Vec F S256x1024 .bf16) : Vec F S256x1024 .bf16 :=
  if renews i T N then k0_pay3 wd else sd
def block (i : grid0.Coords) (N : Vec F S1 .i32) (x : Vec F S4096x128 .bf16) (sg : Vec F S1024x512 .bf16) (sd : Vec F S256x1024 .bf16) (d : Vec F S4096x128 .bf16) : Vec F S4096x128 .bf16 :=
  if k0_cond2 i (count N) = 1#1 then result x sg sd else d

theorem read_whole {S : Shape} {e : EltTy} {sp : Space} (v : View sig .tc sp S e) (f : v.ty.Contents (Elt F)) {off : Fin S.rank → ℕ}
    (h : off = fun _ => 0) (inb : ∀ a, off a + S.size a ≤ S.size a) :
    v.readAt (Elt F) (Rect.unit (s := S) off S.size inb).toLoadRect f = v.read (Elt F) f :=
  View.ld_unit_zero h inb (v.read (Elt F) f)

theorem zero2 : (![0, 0] : Fin 2 → ℕ) = fun _ => 0 := by funext a; fin_cases a <;> rfl
theorem zero3 : (![0, 0, 0] : Fin 3 → ℕ) = fun _ => 0 := by funext a; fin_cases a <;> rfl

section Left

variable (a4 a5 : Memref sig .tc .vmem S1x1024x256 .f32) (a6 : Memref sig .tc .vmem S1x256x1024 .f32)
  (a8 : Memref sig .tc .vmem S1024x512 .bf16) (a9 : Memref sig .tc .vmem S256x1024 .bf16)
  (f4 : a4.view.ty.Contents (Elt F)) (f5 : a5.view.ty.Contents (Elt F)) (f6 : a6.view.ty.Contents (Elt F))
  (f8 : a8.view.ty.Contents (Elt F)) (f9 : a9.view.ty.Contents (Elt F)) (i : grid0.Coords) (T : Vec F S1280 .i32) (N : Vec F S1 .i32)

/-- What a step that takes up an expert stores in the buffers of the weights. -/
abbrev left8 : a8.view.ty.Contents (Elt F) := a8.view.writes (Elt F) f8
  [⟨Rect.unit (s := S1024x512) ![0, 256] S1024x256.size inb_S1024x512_S1024x256_0_256,
      k0_pay2 (a5.view.readAt (Elt F) (Rect.unit (s := S1x1024x256) ![0, 0, 0] S1x1024x256.size inb_S1x1024x256_S1x1024x256_0_0_0).toLoadRect f5)⟩,
    ⟨Rect.unit (s := S1024x512) ![0, 0] S1024x256.size inb_S1024x512_S1024x256_0_0,
      k0_pay1 (a4.view.readAt (Elt F) (Rect.unit (s := S1x1024x256) ![0, 0, 0] S1x1024x256.size inb_S1x1024x256_S1x1024x256_0_0_0).toLoadRect f4)⟩]

abbrev left9 : a9.view.ty.Contents (Elt F) := a9.view.writes (Elt F) f9
  [⟨Rect.unit (s := S256x1024) ![0, 0] S256x1024.size inb_S256x1024_S256x1024_0_0,
      k0_pay3 (a6.view.readAt (Elt F) (Rect.unit (s := S1x256x1024) ![0, 0, 0] S1x256x1024.size inb_S1x256x1024_S1x256x1024_0_0_0).toLoadRect f6)⟩]

theorem left8_read : a8.view.read (Elt F) (left8 a4 a5 a8 f4 f5 f8) = joined (a4.view.read (Elt F) f4) (a5.view.read (Elt F) f5) := by
  rw [View.read_writes_eq_canon _ _ _ (joined_covers _ _), read_whole _ _ zero3, read_whole _ _ zero3]
  rfl

theorem left9_read : a9.view.read (Elt F) (left9 a6 a9 f6 f9) = k0_pay3 (a6.view.read (Elt F) f6) := by
  rw [View.read_writes_eq_canon _ _ _ (fun y => ⟨_, List.mem_singleton_self _, View.mem_set_unit_zero zero2 inb_S256x1024_S256x1024_0_0 y⟩), read_whole _ _ zero3,
    View.canon_unit_zero zero2]

theorem load8 : a8.view.readAt (Elt F) (Rect.unit (s := S1024x512) ![0, 0] S1024x512.size inb_S1024x512_S1024x512_0_0).toLoadRect
      (if _ : renews i T N then left8 a4 a5 a8 f4 f5 f8 else f8)
    = weights i T N (a4.view.read (Elt F) f4) (a5.view.read (Elt F) f5) (a8.view.read (Elt F) f8) := by
  rw [read_whole _ _ zero2]
  unfold weights
  split
  · exact left8_read a4 a5 a8 f4 f5 f8
  · rfl

theorem load9 : a9.view.readAt (Elt F) (Rect.unit (s := S256x1024) ![0, 0] S256x1024.size inb_S256x1024_S256x1024_0_0).toLoadRect
      (if _ : renews i T N then left9 a6 a9 f6 f9 else f9)
    = third i T N (a6.view.read (Elt F) f6) (a9.view.read (Elt F) f9) := by
  rw [read_whole _ _ zero2]
  unfold third
  split
  · exact left9_read a6 a9 f6 f9
  · rfl

end Left

section Stored

variable (v0 v1 v2 v3 : Vec F S256x2x128 .bf16) (sg : Vec F S1024x512 .bf16) (sd : Vec F S256x1024 .bf16)

theorem stored_a0 : k0_pay15 (k0_pay6 v0) (k0_pay7 v1) (k0_pay8 v2) (k0_pay9 v3) (k0_pay10 v0) (k0_pay11 v1) (k0_pay12 v2) (k0_pay13 v3) sg sd
    = woven (applied (tokens v0 v1 v2 v3) sg sd) ![0, 0] ![0, 512] slices_S256x1024_o0_0_S256x128 slices_S256x1024_o0_512_S256x128 := rfl
theorem stored_a1 : k0_pay18 (k0_pay16 (k0_pay6 v0) (k0_pay7 v1) (k0_pay8 v2) (k0_pay9 v3) (k0_pay10 v0) (k0_pay11 v1) (k0_pay12 v2) (k0_pay13 v3) sg sd) (k0_pay17 (k0_pay6 v0) (k0_pay7 v1) (k0_pay8 v2) (k0_pay9 v3) (k0_pay10 v0) (k0_pay11 v1) (k0_pay12 v2) (k0_pay13 v3) sg sd)
    = woven (applied (tokens v0 v1 v2 v3) sg sd) ![0, 128] ![0, 640] slices_S256x1024_o0_128_S256x128 slices_S256x1024_o0_640_S256x128 := rfl
theorem stored_a2 : k0_pay19 (k0_pay14 (k0_pay6 v0) (k0_pay7 v1) (k0_pay8 v2) (k0_pay9 v3) (k0_pay10 v0) (k0_pay11 v1) (k0_pay12 v2) (k0_pay13 v3) sg sd)
    = woven (applied (tokens v0 v1 v2 v3) sg sd) ![0, 256] ![0, 768] slices_S256x1024_o0_256_S256x128 slices_S256x1024_o0_768_S256x128 := rfl
theorem stored_a3 : k0_pay20 (k0_pay14 (k0_pay6 v0) (k0_pay7 v1) (k0_pay8 v2) (k0_pay9 v3) (k0_pay10 v0) (k0_pay11 v1) (k0_pay12 v2) (k0_pay13 v3) sg sd)
    = woven (applied (tokens v0 v1 v2 v3) sg sd) ![0, 384] ![0, 896] slices_S256x1024_o0_384_S256x128 slices_S256x1024_o0_896_S256x128 := rfl
theorem stored_b0 : k0_pay30 (k0_pay25 (k0_pay21 v0) (k0_pay22 v0) (k0_pay23 v1) (k0_pay24 v1) v2 v3 sg) (k0_pay26 (k0_pay21 v0) (k0_pay22 v0) (k0_pay23 v1) (k0_pay24 v1) v2 v3 sg) (k0_pay27 (k0_pay21 v0) (k0_pay22 v0) (k0_pay23 v1) (k0_pay24 v1) v2 v3 sg) k0_pay28 sd
    = woven (applied (tokens v0 v1 v2 v3) sg sd) ![0, 0] ![0, 512] slices_S256x1024_o0_0_S256x128 slices_S256x1024_o0_512_S256x128 := rfl
theorem stored_b1 : k0_pay31 (k0_pay25 (k0_pay21 v0) (k0_pay22 v0) (k0_pay23 v1) (k0_pay24 v1) v2 v3 sg) (k0_pay26 (k0_pay21 v0) (k0_pay22 v0) (k0_pay23 v1) (k0_pay24 v1) v2 v3 sg) (k0_pay27 (k0_pay21 v0) (k0_pay22 v0) (k0_pay23 v1) (k0_pay24 v1) v2 v3 sg) k0_pay28 sd
    = woven (applied (tokens v0 v1 v2 v3) sg sd) ![0, 128] ![0, 640] slices_S256x1024_o0_128_S256x128 slices_S256x1024_o0_640_S256x128 := rfl
theorem stored_b2 : k0_pay4 (k0_pay32 (k0_pay25 (k0_pay21 v0) (k0_pay22 v0) (k0_pay23 v1) (k0_pay24 v1) v2 v3 sg) (k0_pay26 (k0_pay21 v0) (k0_pay22 v0) (k0_pay23 v1) (k0_pay24 v1) v2 v3 sg) (k0_pay27 (k0_pay21 v0) (k0_pay22 v0) (k0_pay23 v1) (k0_pay24 v1) v2 v3 sg) k0_pay28 sd) (k0_pay33 (k0_pay25 (k0_pay21 v0) (k0_pay22 v0) (k0_pay23 v1) (k0_pay24 v1) v2 v3 sg) (k0_pay26 (k0_pay21 v0) (k0_pay22 v0) (k0_pay23 v1) (k0_pay24 v1) v2 v3 sg) (k0_pay27 (k0_pay21 v0) (k0_pay22 v0) (k0_pay23 v1) (k0_pay24 v1) v2 v3 sg) k0_pay28 sd)
    = woven (applied (tokens v0 v1 v2 v3) sg sd) ![0, 256] ![0, 768] slices_S256x1024_o0_256_S256x128 slices_S256x1024_o0_768_S256x128 := rfl
theorem stored_b3 : k0_pay5 (k0_pay29 (k0_pay25 (k0_pay21 v0) (k0_pay22 v0) (k0_pay23 v1) (k0_pay24 v1) v2 v3 sg) (k0_pay26 (k0_pay21 v0) (k0_pay22 v0) (k0_pay23 v1) (k0_pay24 v1) v2 v3 sg) (k0_pay27 (k0_pay21 v0) (k0_pay22 v0) (k0_pay23 v1) (k0_pay24 v1) v2 v3 sg) k0_pay28 sd)
    = woven (applied (tokens v0 v1 v2 v3) sg sd) ![0, 384] ![0, 896] slices_S256x1024_o0_384_S256x128 slices_S256x1024_o0_896_S256x128 := rfl

end Stored

set_option maxHeartbeats 16000000 in

theorem body (c : Dev nD) (i : grid0.Coords) (T : Vec F S1280 .i32) (N : Vec F S1 .i32)
    (a1 : Memref sig .tc .smem S1280 .i32) (h1 : a1.IsWhole) (a2 : Memref sig .tc .smem S1 .i32) (h2 : a2.IsWhole)
    (a3 : Memref sig .tc .vmem S4096x128 .bf16) (h3 : a3.IsWhole) (a4 : Memref sig .tc .vmem S1x1024x256 .f32) (h4 : a4.IsWhole)
    (a5 : Memref sig .tc .vmem S1x1024x256 .f32) (h5 : a5.IsWhole)
    (a6 : Memref sig .tc .vmem S1x256x1024 .f32) (h6 : a6.IsWhole) (a7 : Memref sig .tc .vmem S4096x128 .bf16) (h7 : a7.IsWhole)
    (a8 : Memref sig .tc .vmem S1024x512 .bf16) (h8 : a8.IsWhole) (a9 : Memref sig .tc .vmem S256x1024 .bf16) (h9 : a9.IsWhole)
    (x : Vec F S4096x128 .bf16) (wg wu : Vec F S1x1024x256 .f32) (wd : Vec F S1x256x1024 .f32) (d : Vec F S4096x128 .bf16)
    (sg : Vec F S1024x512 .bf16) (sd : Vec F S256x1024 .bf16) (R : sProp 𝕄) :
    iprop((owns (c : Thread nD τ) a1 fullShare.right T ∗ owns (c : Thread nD τ) a2 fullShare.right N
    ∗ owns (c : Thread nD τ) a3 fullShare x ∗ owns (c : Thread nD τ) a4 fullShare wg
    ∗ owns (c : Thread nD τ) a5 fullShare wu ∗ owns (c : Thread nD τ) a6 fullShare wd
    ∗ owns (c : Thread nD τ) a7 fullShare d
    ∗ owns (c : Thread nD τ) a8 fullShare sg ∗ owns (c : Thread nD τ) a9 fullShare sd) ∗ R)
      ⊢ wp frame (wpE (defs₀ (F := F)) Variants.none c none) Set.univ
          (cc0_experts i a1 h1 a2 h2 a3 h3 a4 h4 a5 h5 a6 h6 a7 h7 a8 h8 a9 h9)
          (fun _ => iprop((owns (c : Thread nD τ) a1 fullShare.right T ∗ owns (c : Thread nD τ) a2 fullShare.right N
    ∗ owns (c : Thread nD τ) a3 fullShare x ∗ owns (c : Thread nD τ) a4 fullShare wg
    ∗ owns (c : Thread nD τ) a5 fullShare wu ∗ owns (c : Thread nD τ) a6 fullShare wd
    ∗ owns (c : Thread nD τ) a7 fullShare (block i N x (weights i T N wg wu sg) (third i T N wd sd) d)
    ∗ owns (c : Thread nD τ) a8 fullShare (weights i T N wg wu sg) ∗ owns (c : Thread nD τ) a9 fullShare (third i T N wd sd)) ∗ R)) := by
  simp only [cc0_experts_eq_skeleton]; unfold cc0_experts_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  simp only [h7.set_eq_univ]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, HR⟩
  subst e1 e2 e3 e4 e5 e6 e7 e8 e9
  sl_exec
  all_goals split
  all_goals sl_exec
  all_goals sl_step
  all_goals (
    isplitr [HR]
    · isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists f4; isplitr; · ipureintro; rfl
                      iexact H4
      isplitl [H5]; · iexists f5; isplitr; · ipureintro; rfl
                      iexact H5
      isplitl [H6]; · iexists f6; isplitr; · ipureintro; rfl
                      iexact H6
      isplitl [H7]; · iexists _; isplitr; swap; · iexact H7
                      ipureintro
                      unfold block
                      by_cases hc : k0_cond2 i (count (a2.view.read (Elt F) f2)) = 1#1
                      · rw [if_pos hc]
                        refine (congrArg (a7.view.read (Elt F)) (dif_pos hc)).trans ?_
                        unfold body.sl.H7_w8 body.sl.H7_w7 body.sl.H7_w6 body.sl.H7_w5 body.sl.H7_w4 body.sl.H7_w3 body.sl.H7_w2 body.sl.H7_w1
                        dsimp only
                        rw [stored_a0, stored_a1, stored_a2, stored_a3, stored_b0, stored_b1, stored_b2, stored_b3]
                        rw [show body.sl.v18_raw a3 h3 f3 = every (a3.view.read (Elt F) f3) at0 from rfl]
                        rw [show body.sl.v22_raw a3 h3 f3 = every (a3.view.read (Elt F) f3) at1 from rfl]
                        rw [show body.sl.v26_raw a3 h3 f3 = every (a3.view.read (Elt F) f3) at2 from rfl]
                        rw [show body.sl.v30_raw a3 h3 f3 = every (a3.view.read (Elt F) f3) at3 from rfl]
                        rw [show body.sl.v140_raw a3 h3 f3 = every (a3.view.read (Elt F) f3) at1024 from rfl]
                        rw [show body.sl.v144_raw a3 h3 f3 = every (a3.view.read (Elt F) f3) at1025 from rfl]
                        rw [show body.sl.v148_raw a3 h3 f3 = every (a3.view.read (Elt F) f3) at1026 from rfl]
                        rw [show body.sl.v152_raw a3 h3 f3 = every (a3.view.read (Elt F) f3) at1027 from rfl]
                        rw [show body.sl.v58 i a1 a2 a4 a5 a8 f1 f2 f4 f5 f8 = _ from load8 a4 a5 a8 f4 f5 f8 i (a1.view.read (Elt F) f1) (a2.view.read (Elt F) f2)]
                        rw [show body.sl.v72 i a1 a2 a6 a9 f1 f2 f6 f9 = _ from load9 a6 a9 f6 f9 i (a1.view.read (Elt F) f1) (a2.view.read (Elt F) f2)]
                        generalize weights i (a1.view.read (Elt F) f1) (a2.view.read (Elt F) f2) (a4.view.read (Elt F) f4) (a5.view.read (Elt F) f5) (a8.view.read (Elt F) f8) = S8
                        generalize third i (a1.view.read (Elt F) f1) (a2.view.read (Elt F) f2) (a6.view.read (Elt F) f6) (a9.view.read (Elt F) f9) = S9
                        exact read_pairs a7.view f7 (stores (first (a3.view.read (Elt F) f3) S8 S9) (second (a3.view.read (Elt F) f3) S8 S9)) (stores_cover _ _)
                      · rw [if_neg hc]
                        exact congrArg (a7.view.read (Elt F)) (dif_neg hc)
      isplitl [H8]; · iexists _; isplitr; swap; · iexact H8
                      ipureintro
                      first
                        | exact (left8_read a4 a5 a8 f4 f5 f8).trans (if_pos (by assumption)).symm
                        | exact (if_neg (by assumption)).symm
      · iexists _; isplitr; swap; · iexact H9
        ipureintro
        first
          | exact (left9_read a6 a9 f6 f9).trans (if_pos (by assumption)).symm
          | exact (if_neg (by assumption)).symm
    · iexact HR)

end Cert.Proof.ExpIdeal
-- ==== Proof.Experts.IdealSched.lean ====
module

public import proofs.«01_k».proof.Proof.Experts.IdealTable
public import proofs.«01_k».proof.Proof.Experts.IdealBody

/-! Which blocks the steps of the experts call take, when a step takes up a new expert, and what a step leaves behind. -/

@[expose] public section

set_option maxRecDepth 16384

noncomputable section

namespace Cert.Proof.ExpIdeal

open Idealize.ShloMosaic Idealize.ShloMosaic.TcCoe Idealize.ShloMosaic.WordCmp
open Cert.Kernel2Ideal Cert.Kernel2Ideal.Gen

variable {F : FTy → Type} [FloatOps F] [∀ e, Nonempty (Elt F e)]
variable (m : (ℓ : Loc nD τ sig) → Buf (Elt F) ℓ) (hn : Named m)

/-- A step stores its results when its block is in use. -/
theorem stores_iff (i : grid0.Coords) (w : BitVec 32) (h : 1 ≤ w.toInt) : k0_cond2 i w = 1#1 ↔ (num i).val < w.toNat := by
  have e : k0_cond2 i w = Scalar.cmpi CmpIPredicate.ne (Scalar.extui (IntOp.cmpi .slt (BitVec.ofNat 32 (num i).val) w) : BitVec 32) 0#32 := rfl
  rw [e, Experts.bit_word, Experts.slt_word _ (num i).isLt w h, ofBool_decide_eq_one_iff]

/-- A step takes up a new expert when its block is in use and it is the first step or its expert is not the last step's. -/
theorem renews_iff (i : grid0.Coords) (T : Vec F S1280 .i32) (N : Vec F S1 .i32) (h : 1 ≤ (count N).toInt) :
    renews i T N ↔ (num i).val < (count N).toNat ∧ ((num i).val = 0 ∨ word T (k0_off1 i) (k0_off1_inb i) ≠ word T (k0_off2 i) (k0_off2_inb i)) := by
  have e : Scalar.cmpi CmpIPredicate.eq (BitVec.ofNat 32 (i 0).val) 0#32 = BitVec.ofBool (decide ((num i).val = 0)) := by
    refine (cmpi_eq_eq _ _).trans (congrArg BitVec.ofBool (decide_eq_decide.mpr ?_))
    have := Experts.step_word (num i).val (num i).isLt
    constructor
    · intro h; have h2 := congrArg BitVec.toNat h; rw [this] at h2; exact h2
    · intro h
      show BitVec.ofNat 32 (num i).val = _
      rw [h]
  have e1 : Scalar.cmpi CmpIPredicate.slt (BitVec.ofNat 32 (i 0).val) (count N) = BitVec.ofBool (decide ((num i).val < (count N).toNat)) :=
    Experts.slt_word _ (num i).isLt _ h
  have e2 : Scalar.cmpi CmpIPredicate.ne (word T (k0_off1 i) (k0_off1_inb i)) (word T (k0_off2 i) (k0_off2_inb i)) = BitVec.ofBool (decide (word T (k0_off1 i) (k0_off1_inb i) ≠ word T (k0_off2 i) (k0_off2_inb i))) :=
    cmpi_ne_eq _ _
  unfold renews
  rw [Experts.bit_word, e, e1, e2]
  show IntOp.andi _ (IntOp.ori _ _) = 1#1 ↔ _
  rw [ori_ofBool, andi_ofBool, ofBool_eq_one_iff, Bool.and_eq_true, Bool.or_eq_true, decide_eq_true_eq, decide_eq_true_eq, decide_eq_true_eq]

theorem count_tbl : count (tbl m 1 : Vec F S1 .i32) = used m := at_one m

/-- The expert of a step, by the step's number: its block's, and past the last block in use the last one's. -/
def expert (k : ℕ) (hk : k < 1280) : BitVec 32 :=
  be m 0 (Shape.Idx.ofFin ⟨min k ((used m).toNat - 1), by omega⟩)

theorem expert_congr {k k' : ℕ} (hk : k < 1280) (hk' : k' < 1280) (h : min k ((used m).toNat - 1) = min k' ((used m).toNat - 1)) :
    expert m k hk = expert m k' hk' := by
  unfold expert
  congr 2
  exact Fin.ext h

include hn in
theorem word_own (i : grid0.Coords) : word (tbl m 0 : Vec F S1280 .i32) (k0_off1 i) (k0_off1_inb i) = expert m (num i).val (num i).isLt :=
  at_zero m hn i

include hn in
theorem word_last (i : grid0.Coords) (h0 : 0 < (num i).val) :
    word (tbl m 0 : Vec F S1280 .i32) (k0_off2 i) (k0_off2_inb i) = expert m ((num i).val - 1) (by have := (num i).isLt; omega) := by
  refine Eq.trans ?_ (V_v11 m 0 hn.used ⟨(num i).val - 1, by have := (num i).isLt; omega⟩)
  refine congrArg (V m 0 main_v11 : IVec S1280 32) (Experts.idx_eq _ _ ?_)
  exact Experts.prev_word _ (num i).isLt h0

include hn in
/-- A step that takes up no new expert goes on with the last step's. -/
theorem goes_on (i : grid0.Coords) (h : ¬ renews i (tbl m 0 : Vec F S1280 .i32) (tbl m 1 : Vec F S1 .i32)) :
    ∃ h0 : 0 < (num i).val, expert m (num i).val (num i).isLt = expert m ((num i).val - 1) (by have := (num i).isLt; omega) := by
  have hi := renews_iff i (tbl m 0 : Vec F S1280 .i32) (tbl m 1 : Vec F S1 .i32) (le_of_le_of_eq hn.used (congrArg BitVec.toInt (count_tbl m).symm))
  replace h : ¬ ((num i).val < (used m).toNat ∧ ((num i).val = 0 ∨ word (tbl m 0 : Vec F S1280 .i32) (k0_off1 i) (k0_off1_inb i) ≠ word (tbl m 0 : Vec F S1280 .i32) (k0_off2 i) (k0_off2_inb i))) :=
    fun hh => h (hi.mpr ⟨lt_of_lt_of_eq hh.1 (congrArg BitVec.toNat (count_tbl m).symm), hh.2⟩)
  have hu := Experts.pos_word _ hn.used
  by_cases h1 : (num i).val < (used m).toNat
  · have h2 : ¬ ((num i).val = 0 ∨ _) := fun hh => h ⟨h1, hh⟩
    have h3 : 0 < (num i).val := by
      by_contra hc
      exact h2 (.inl (by omega))
    refine ⟨h3, ?_⟩
    by_contra hc
    exact h2 (.inr fun e => hc ((word_own m hn i).symm.trans (e.trans (word_last m hn i h3))))
  · have h3 : 0 < (num i).val := by omega
    exact ⟨h3, expert_congr m _ _ (by omega)⟩

end Cert.Proof.ExpIdeal
-- ==== Proof.Experts.IdealFrame.lean ====
module

public import proofs.«01_k».proof.Proof.Experts.IdealSched
public import Idealize.ShloMosaic.Lib.Pipeline.TableIdle

/-! The experts program at exact values runs: what its steps hold, what they leave, and what the call's arrays hold at the end. -/

@[expose] public section

set_option maxRecDepth 16384

noncomputable section

namespace Cert.Proof.ExpIdeal

open Idealize.ShloMosaic Idealize.ShloMosaic.TcCoe
open Idealize.SL Idealize.SL.RA Idealize.SL.BI
open scoped Idealize.SL.BI
open Idealize.SL.BI.BIBase Idealize.SL.Sem
open Cert.Kernel2Ideal Cert.Kernel2Ideal.Gen

variable {F : FTy → Type} [FloatOps F] [∀ e, Nonempty (Elt F e)]
variable (m : (ℓ : Loc nD τ sig) → Buf (Elt F) ℓ) (ρ : Dev nD → PrngReg) (hn : Named m)

local notation "𝕄" => MT nD τ sig Unit (Elt F) ℕ (UR sig nD τ) ℕ

/-- The tables as the pipeline admits them, and the pipeline at them. -/
abbrev adm (p : Fin 1) : (pcfgs (F := F) p).Adm := ⟨tbl m, ok m hn⟩
abbrev cfgM : Pipeline.Cfg sig Λ₀ := cfg0 (F := F) ⟨tbl m, ok m hn⟩

theorem step_lt (t : Fin (cfgM m hn).N) : t.val < 1280 := lt_of_lt_of_eq t.isLt (show grid0.N = 1280 by decide)

theorem num_coords (t : Fin (cfgM m hn).N) : (num ((cfgM m hn).grid.coords t)).val = t.val := by
  have h := Pipeline.Grid.coords_val (G := grid0) t 0 (S := 1) (B := 1280) (by decide) rfl
  have h2 := step_lt m hn t
  refine h.trans ?_
  omega

/-! ## The blocks a step is handed -/

/-- The tokens, and the three weights, of a step. -/
def xAt (c : Dev nD) (t : Fin (cfgM m hn).N) : Vec F S4096x128 .bf16 := (((cfgM m hn).win 0).blk t).view.read (Elt F) (V m c main_v15)
def wgAt (c : Dev nD) (t : Fin (cfgM m hn).N) : Vec F S1x1024x256 .f32 := (((cfgM m hn).win 1).blk t).view.read (Elt F) (V m c main_v16)
def wuAt (c : Dev nD) (t : Fin (cfgM m hn).N) : Vec F S1x1024x256 .f32 := (((cfgM m hn).win 2).blk t).view.read (Elt F) (V m c main_v17)
def wdAt (c : Dev nD) (t : Fin (cfgM m hn).N) : Vec F S1x256x1024 .f32 := (((cfgM m hn).win 3).blk t).view.read (Elt F) (V m c main_v18)

/-- What the two scratch buffers hold after a step, and what the step has made of its tokens. -/
def kept8 (c : Dev nD) (t : Fin (cfgM m hn).N) : Vec F S1024x512 .bf16 := joined (wgAt m hn c t) (wuAt m hn c t)
def kept9 (c : Dev nD) (t : Fin (cfgM m hn).N) : Vec F S256x1024 .bf16 := k0_pay3 (wdAt m hn c t)
@[irreducible] def made (c : Dev nD) (t : Fin (cfgM m hn).N) : Vec F S4096x128 .bf16 := result (xAt m hn c t) (kept8 m hn c t) (kept9 m hn c t)

/-- What the scratch buffers hold between the steps: before the first anything, then what the step before left. -/
def Carried (c : Dev nD) (t : Fin ((cfgM m hn).N + 1)) (a : Vec F S1024x512 .bf16) (b : Vec F S256x1024 .bf16) : Prop :=
  ∀ h : 0 < t.val, a = kept8 m hn c ⟨t.val - 1, by omega⟩ ∧ b = kept9 m hn c ⟨t.val - 1, by omega⟩

/-- What is said of the call's data. -/
def dats (p : Fin 1) (c : Dev nD) : Pipeline.Dat τ (Elt F) Unit ℕ (UR sig nD τ) ℕ (cfgM m hn) c where
  A := fun w => V m c (Pipeline.arrRef spec0 w)
  after := fun
    | 0 => fun t => xAt m hn c t
    | 1 => fun t => wgAt m hn c t
    | 2 => fun t => wuAt m hn c t
    | 3 => fun t => wdAt m hn c t
    | 4 => fun t => made m hn c t
    | ⟨_ + 5, h⟩ => absurd h (Nat.not_lt.2 (Nat.le_add_left _ _))
  Φ := fun t => iprop((∃ a b, ⌜Carried m hn c t a b⌝ ∗ owns (c : Thread nD τ) (Memref.whole cc0_scratch0) fullShare a
      ∗ owns (c : Thread nD τ) (Memref.whole cc0_scratch1) fullShare b) ∗ (∃ r, prngReg c r) ∗ Pipeline.ΦT pre0 (tbl m) c)
  q := fun _ => fullShare
  owed := fun _ => 0

/-! ## Steps that take the same blocks -/

theorem index_x (t : Fin (cfgM m hn).N) : ((cfgM m hn).win 0).index t = ![min t.val ((used m).toNat - 1), 0] := by
  refine (transform_x m hn _).trans ?_
  rw [num_coords]

theorem index_o (t : Fin (cfgM m hn).N) : ((cfgM m hn).win (4 : Fin 5)).index t = ![min t.val ((used m).toNat - 1), 0] := index_x m hn t

theorem index_w (t : Fin (cfgM m hn).N) : ((cfgM m hn).win 1).index t = ![(expert m t.val (step_lt m hn t)).toNat, 0, 0] := by
  refine (transform_w m hn _).trans ?_
  refine congrArg (fun q : BitVec 32 => ![q.toNat, 0, 0]) ?_
  exact expert_congr m (num _).isLt (step_lt m hn t) (by rw [num_coords])

theorem xAt_congr (c : Dev nD) {t t' : Fin (cfgM m hn).N} (h : min t.val ((used m).toNat - 1) = min t'.val ((used m).toNat - 1)) :
    xAt m hn c t = xAt m hn c t' :=
  (dats m hn 0 c).fetched_congr 0 ((index_x m hn t).trans ((congrArg (fun q : ℕ => ![q, 0]) h).trans (index_x m hn t').symm)) rfl (xAt m hn c t)

theorem wAt_congr (c : Dev nD) {t t' : Fin (cfgM m hn).N} (h : expert m t.val (step_lt m hn t) = expert m t'.val (step_lt m hn t')) :
    wgAt m hn c t = wgAt m hn c t' ∧ wuAt m hn c t = wuAt m hn c t' ∧ wdAt m hn c t = wdAt m hn c t' := by
  have h1 : ((cfgM m hn).win 1).index t = ((cfgM m hn).win 1).index t' := (index_w m hn t).trans ((congrArg (fun q : BitVec 32 => ![q.toNat, 0, 0]) h).trans (index_w m hn t').symm)
  exact ⟨(dats m hn 0 c).fetched_congr 1 h1 rfl (wgAt m hn c t), (dats m hn 0 c).fetched_congr 2 h1 rfl (wuAt m hn c t),
    (dats m hn 0 c).fetched_congr 3 h1 rfl (wdAt m hn c t)⟩

theorem kept_congr (c : Dev nD) {t t' : Fin (cfgM m hn).N} (h : expert m t.val (step_lt m hn t) = expert m t'.val (step_lt m hn t')) :
    kept8 m hn c t = kept8 m hn c t' ∧ kept9 m hn c t = kept9 m hn c t' := by
  obtain ⟨h1, h2, h3⟩ := wAt_congr m hn c h
  unfold kept8 kept9
  rw [h1, h2, h3]
  exact ⟨rfl, rfl⟩

/-- Steps that work on the same block make the same of it. -/
theorem made_congr (c : Dev nD) {t t' : Fin (cfgM m hn).N} (h : min t.val ((used m).toNat - 1) = min t'.val ((used m).toNat - 1)) :
    made m hn c t = made m hn c t' := by
  obtain ⟨h1, h2⟩ := kept_congr m hn c (expert_congr m (step_lt m hn t) (step_lt m hn t') h)
  unfold made
  rw [h1, h2, xAt_congr m hn c h]

/-- What a step leaves in the scratch buffers. -/
theorem weights_eq (c : Dev nD) (t : Fin (cfgM m hn).N) (a : Vec F S1024x512 .bf16) (b : Vec F S256x1024 .bf16)
    (h : Carried m hn c t.castSucc a b) :
    weights ((cfgM m hn).grid.coords t) (tbl m 0 : Vec F S1280 .i32) (tbl m 1 : Vec F S1 .i32) (wgAt m hn c t) (wuAt m hn c t) a = kept8 m hn c t
    ∧ third ((cfgM m hn).grid.coords t) (tbl m 0 : Vec F S1280 .i32) (tbl m 1 : Vec F S1 .i32) (wdAt m hn c t) b = kept9 m hn c t := by
  unfold weights third
  by_cases hr : renews ((cfgM m hn).grid.coords t) (tbl m 0 : Vec F S1280 .i32) (tbl m 1 : Vec F S1 .i32)
  · exact ⟨if_pos hr, if_pos hr⟩
  · obtain ⟨h0, he⟩ := goes_on m hn _ hr
    have hc := num_coords m hn t
    have h1 : 0 < t.castSucc.val := lt_of_lt_of_eq h0 hc
    obtain ⟨ha, hb⟩ := h h1
    have he' : expert m t.val (step_lt m hn t) = expert m (t.val - 1) (by have := step_lt m hn t; omega) :=
      (expert_congr m (step_lt m hn t) (num _).isLt (by rw [hc])).trans (he.trans (expert_congr m _ _ (by rw [hc])))
    obtain ⟨k1, k2⟩ := kept_congr m hn c (t := t) (t' := ⟨t.val - 1, by omega⟩) he'
    exact ⟨(if_neg hr).trans (ha.trans k1.symm), (if_neg hr).trans (hb.trans k2.symm)⟩

/-! ## The block of results between the steps -/

section General

variable {Λ₁ : Labels} {cfg : Pipeline.Cfg sig Λ₁} {c : Dev nD} (dat : Pipeline.Dat τ (Elt F) Unit ℕ (UR sig nD τ) ℕ cfg c)

/-- What is stored, or kept through steps that store nothing, is still there at the next step. -/
theorem before_kept (w : Fin cfg.W) (hw : (cfg.win w).isOut = true)
    (hclip : ∀ (i : cfg.grid.Coords) a, (cfg.win w).clip i a = none)
    (hcarry : ∀ (t : Fin cfg.N) (_ : t.val ≠ 0), cfg.idle w (cfg.grid.coords t) = true → cfg.fresh w t.val = false →
      dat.after w t = dat.after w ⟨t.val - 1, by omega⟩) (t : Fin cfg.N) (hf : cfg.fresh w t.val = false)
    (d : (cfg.win w).block.Idx → Elt F (cfg.win w).elt) : dat.before w t d = dat.after w ⟨t.val - 1, by omega⟩ := by
  rw [dat.before_out_traj w hw hclip hcarry t.val t rfl d, hf, if_neg Bool.false_ne_true]

/-- A step that leaves what it should has met its obligation, whether or not it stores. -/
theorem leaves_of_after (w : Fin cfg.W) (t : Fin cfg.N) (hl : cfg.loose w = false)
    (h : cfg.idle w (cfg.grid.coords t) = true → dat.before w t (dat.after w t) = dat.after w t) :
    owns (c : Thread nD τ) ((cfg.win w).stage (cfg.slots t w)) fullShare (dat.after w t) ⊢ (dat.leaves w t : sProp 𝕄) := by
  unfold Pipeline.Dat.leaves
  rw [hl]
  cases hi : cfg.idle w (cfg.grid.coords t)
  · exact BIBase.Entails.rfl
  · cases hf : (cfg.win w).flush t
    · refine BIBase.Entails.trans ?_ (BIClass.exists_intro (dat.after w t))
      rw [h hi]
    · exact BIBase.Entails.rfl

end General

theorem out_o (a : (pcfg0 (F := F)).Adm) : ((cfg0 a).win (4 : Fin 5)).isOut = true := rfl
theorem clip_o (a : (pcfg0 (F := F)).Adm) : ∀ (i : (cfg0 a).grid.Coords) k, ((cfg0 a).win (4 : Fin 5)).clip i k = none := fun _ _ => rfl
theorem loose_o (a : (pcfg0 (F := F)).Adm) : (cfg0 a).loose (4 : Fin 5) = false := rfl
theorem idle_cfg (a : (pcfg0 (F := F)).Adm) (i : grid0.Coords) : (cfg0 a).idle (4 : Fin 5) i = idle0 a.1 4 i := rfl
theorem idle_pf (pf : pre0.Contents (Elt F)) (i : grid0.Coords) : idle0 pf 4 i = !(k0_cond2 i (pf.atD 1 ![0]) == 1#1) := rfl

theorem idle_iff (t : Fin (cfgM m hn).N) : (cfgM m hn).idle (4 : Fin 5) ((cfgM m hn).grid.coords t) = true ↔ (used m).toNat ≤ t.val := by
  have e : (cfgM m hn).idle (4 : Fin 5) ((cfgM m hn).grid.coords t) = !(k0_cond2 ((cfgM m hn).grid.coords t) (used m) == 1#1) :=
    (idle_cfg (adm m hn 0) _).trans ((idle_pf (tbl m) _).trans
      (congrArg (fun w : BitVec 32 => !(k0_cond2 ((cfgM m hn).grid.coords t) w == 1#1)) (atD_one m)))
  rw [e, Bool.not_eq_true', beq_eq_false_iff_ne, ne_eq, stores_iff _ _ hn.used, num_coords, not_lt]

theorem flush_last (t : Fin (cfgM m hn).N) (h : (used m).toNat ≤ t.val + 1) (h1 : t.val + 1 < 1280) :
    ((cfgM m hn).win (4 : Fin 5)).flush t = false := by
  unfold Pipeline.Window.flush
  have h2 : ¬ ∃ h : t.val + 1 < (cfgM m hn).grid.N, ((cfgM m hn).win (4 : Fin 5)).index ⟨t.val + 1, h⟩ ≠ ((cfgM m hn).win (4 : Fin 5)).index t := by
    rintro ⟨h3, h4⟩
    refine h4 ?_
    rw [index_o, index_o]
    have := Experts.pos_word _ hn.used
    rw [show min (t.val + 1) ((used m).toNat - 1) = min t.val ((used m).toNat - 1) by omega]
  have h3 : ¬ t.val + 1 = (cfgM m hn).grid.N := by
    rw [show (cfgM m hn).grid.N = 1280 from (show grid0.N = 1280 by decide)]; omega
  rw [decide_eq_false h2, decide_eq_false h3]
  exact Bool.and_false _

theorem not_fresh : ∀ n, (used m).toNat ≤ n → n < 1280 → (cfgM m hn).fresh (4 : Fin 5) n = false
  | 0, h, _ => absurd (Experts.pos_word _ hn.used).1 (by omega)
  | n + 1, h, h1 => by
    have hN : n < (cfgM m hn).N := lt_of_lt_of_eq (by omega : n < 1280) (show 1280 = grid0.N by decide)
    rw [Pipeline.Cfg.fresh_succ _ (4 : Fin 5) n hN, flush_last m hn ⟨n, hN⟩ h h1, Bool.false_or]
    by_cases h2 : (used m).toNat ≤ n
    · rw [not_fresh n h2 (by omega), Bool.and_false]
    · have : (cfgM m hn).idle (4 : Fin 5) ((cfgM m hn).grid.coords ⟨n, hN⟩) = false := by
        rw [← Bool.not_eq_true, idle_iff]; exact h2
      rw [this, Bool.false_and]

/-- The two facts above for the block of results. -/
theorem before_kept_o (a : (pcfg0 (F := F)).Adm) {c : Dev nD} (dat : Pipeline.Dat τ (Elt F) Unit ℕ (UR sig nD τ) ℕ (cfg0 a) c)
    (hcarry : ∀ (t : Fin (cfg0 a).N) (_ : t.val ≠ 0), (cfg0 a).idle (4 : Fin 5) ((cfg0 a).grid.coords t) = true →
      dat.after (4 : Fin 5) t = dat.after (4 : Fin 5) ⟨t.val - 1, by omega⟩) (t : Fin (cfg0 a).N) (hf : (cfg0 a).fresh (4 : Fin 5) t.val = false)
    (d : Vec F S4096x128 .bf16) : dat.before (4 : Fin 5) t d = dat.after (4 : Fin 5) ⟨t.val - 1, by omega⟩ :=
  before_kept dat (4 : Fin 5) (out_o a) (clip_o a) (fun t h hi _ => hcarry t h hi) t hf d
theorem leaves_of_after_o (a : (pcfg0 (F := F)).Adm) {c : Dev nD} (dat : Pipeline.Dat τ (Elt F) Unit ℕ (UR sig nD τ) ℕ (cfg0 a) c) (t : Fin (cfg0 a).N)
    (h : (cfg0 a).idle (4 : Fin 5) ((cfg0 a).grid.coords t) = true → dat.before (4 : Fin 5) t (dat.after (4 : Fin 5) t) = dat.after (4 : Fin 5) t) :
    owns (c : Thread nD τ) (((cfg0 a).win (4 : Fin 5)).stage ((cfg0 a).slots t (4 : Fin 5))) fullShare (dat.after (4 : Fin 5) t) ⊢ (dat.leaves (4 : Fin 5) t : sProp 𝕄) :=
  leaves_of_after dat (4 : Fin 5) t (loose_o a) h

theorem after_o (c : Dev nD) (t : Fin (cfgM m hn).N) : (dats m hn 0 c).after (4 : Fin 5) t = made m hn c t := rfl

theorem carry_o (c : Dev nD) (t' : Fin (cfgM m hn).N) (h0 : t'.val ≠ 0) (hi : (cfg0 (adm m hn 0)).idle (4 : Fin 5) ((cfg0 (adm m hn 0)).grid.coords t') = true) :
      (dats m hn 0 c).after (4 : Fin 5) t' = (dats m hn 0 c).after (4 : Fin 5) ⟨t'.val - 1, by omega⟩ := by
  have hi' := (idle_iff m hn t').mp hi
  rw [after_o, after_o]
  exact made_congr m hn c (show min t'.val _ = min (t'.val - 1) _ by omega)

/-- A step past the blocks in use finds, in the block of results, what was made of the last one. -/
theorem before_o (c : Dev nD) (t : Fin (cfgM m hn).N) (ht : (used m).toNat ≤ t.val) (d : Vec F S4096x128 .bf16) :
    (dats m hn 0 c).before (4 : Fin 5) t d = made m hn c t := by
  have hu := Experts.pos_word _ hn.used
  have h1 := before_kept_o (adm m hn 0) (dats m hn 0 c) (carry_o m hn c)
  have h2 := h1 t (not_fresh m hn t.val ht (step_lt m hn t)) d
  refine h2.trans ((after_o m hn c _).trans ?_)
  exact made_congr m hn c (show min (t.val - 1) _ = min t.val _ by omega)

theorem before_0 (c : Dev nD) (t : Fin (cfgM m hn).N) (d : Vec F S4096x128 .bf16) : (dats m hn 0 c).before 0 t d = xAt m hn c t :=
  (dats m hn 0 c).before_in_eq_fetched 0 rfl (fun _ => rfl) (fun _ _ _ => rfl) (fun _ => rfl) t d
theorem before_1 (c : Dev nD) (t : Fin (cfgM m hn).N) (d : Vec F S1x1024x256 .f32) : (dats m hn 0 c).before 1 t d = wgAt m hn c t :=
  (dats m hn 0 c).before_in_eq_fetched 1 rfl (fun _ => rfl) (fun _ _ _ => rfl) (fun _ => rfl) t d
theorem before_2 (c : Dev nD) (t : Fin (cfgM m hn).N) (d : Vec F S1x1024x256 .f32) : (dats m hn 0 c).before 2 t d = wuAt m hn c t :=
  (dats m hn 0 c).before_in_eq_fetched 2 rfl (fun _ => rfl) (fun _ _ _ => rfl) (fun _ => rfl) t d
theorem before_3 (c : Dev nD) (t : Fin (cfgM m hn).N) (d : Vec F S1x256x1024 .f32) : (dats m hn 0 c).before 3 t d = wdAt m hn c t :=
  (dats m hn 0 c).before_in_eq_fetched 3 rfl (fun _ => rfl) (fun _ _ _ => rfl) (fun _ => rfl) t d

/-- What a step leaves in the block of results is what it has made of its tokens. -/
theorem block_eq (c : Dev nD) (t : Fin (cfgM m hn).N) (d : Vec F S4096x128 .bf16) :
    block ((cfgM m hn).grid.coords t) (tbl m 1 : Vec F S1 .i32) (xAt m hn c t) (kept8 m hn c t) (kept9 m hn c t) ((dats m hn 0 c).before (4 : Fin 5) t d)
      = made m hn c t := by
  have e : k0_cond2 ((cfgM m hn).grid.coords t) (count (tbl m 1 : Vec F S1 .i32)) = 1#1 ↔ t.val < (used m).toNat := by
    refine (iff_of_eq (congrArg (fun w => k0_cond2 ((cfgM m hn).grid.coords t) w = 1#1) (count_tbl m))).trans ?_
    rw [stores_iff _ _ hn.used, num_coords]
  unfold block
  by_cases h : t.val < (used m).toNat
  · exact (if_pos (e.mpr h)).trans (by unfold made; rfl)
  · exact (if_neg (mt e.mp h)).trans (before_o m hn c t (by omega) d)

theorem same (P : sProp 𝕄) : P ⊢ P := BIBase.Entails.rfl
theorem of_eq {P Q : sProp 𝕄} (h : P = Q) : P ⊢ Q := h ▸ .rfl

theorem found_o (c : Dev nD) (t : Fin (cfgM m hn).N) (hi : (cfg0 (adm m hn 0)).idle (4 : Fin 5) ((cfg0 (adm m hn 0)).grid.coords t) = true) :
    (dats m hn 0 c).before (4 : Fin 5) t ((dats m hn 0 c).after (4 : Fin 5) t) = (dats m hn 0 c).after (4 : Fin 5) t := by
  have hi' := (idle_iff m hn t).mp hi
  exact (before_o m hn c t hi' _).trans (after_o m hn c t).symm

set_option maxHeartbeats 4000000 in
theorem leaves_o (c : Dev nD) (t : Fin (cfgM m hn).N) :
    owns (c : Thread nD τ) (((cfg0 (adm m hn 0)).win (4 : Fin 5)).stage ((cfg0 (adm m hn 0)).slots t (4 : Fin 5))) fullShare ((dats m hn 0 c).after (4 : Fin 5) t) ⊢ ((dats m hn 0 c).leaves (4 : Fin 5) t : sProp 𝕄) :=
  leaves_of_after_o (adm m hn 0) (dats m hn 0 c) t (found_o m hn c t)

theorem leaves_0 (c : Dev nD) (t : Fin (cfgM m hn).N) :
    owns (c : Thread nD τ) (((cfgM m hn).win 0).stage ((cfgM m hn).slots t 0)) fullShare (xAt m hn c t) ⊢ ((dats m hn 0 c).leaves 0 t : sProp 𝕄) := .rfl
theorem leaves_1 (c : Dev nD) (t : Fin (cfgM m hn).N) :
    owns (c : Thread nD τ) (((cfgM m hn).win 1).stage ((cfgM m hn).slots t 1)) fullShare (wgAt m hn c t) ⊢ ((dats m hn 0 c).leaves 1 t : sProp 𝕄) := .rfl
theorem leaves_2 (c : Dev nD) (t : Fin (cfgM m hn).N) :
    owns (c : Thread nD τ) (((cfgM m hn).win 2).stage ((cfgM m hn).slots t 2)) fullShare (wuAt m hn c t) ⊢ ((dats m hn 0 c).leaves 2 t : sProp 𝕄) := .rfl
theorem leaves_3 (c : Dev nD) (t : Fin (cfgM m hn).N) :
    owns (c : Thread nD τ) (((cfgM m hn).win 3).stage ((cfgM m hn).slots t 3)) fullShare (wdAt m hn c t) ⊢ ((dats m hn 0 c).leaves 3 t : sProp 𝕄) := .rfl

theorem found_0 (c : Dev nD) (t : Fin (cfgM m hn).N) :
    iprop(∃ d, owns (c : Thread nD τ) (((cfgM m hn).win 0).stage ((cfgM m hn).slots t 0)) fullShare ((dats m hn 0 c).before 0 t d))
      ⊢ (owns (c : Thread nD τ) (((cfgM m hn).win 0).stage ((cfgM m hn).slots t 0)) fullShare (xAt m hn c t) : sProp 𝕄) :=
  BIClass.exists_elim fun d => of_eq (congrArg (owns (c : Thread nD τ) (((cfgM m hn).win 0).stage ((cfgM m hn).slots t 0)) fullShare) (before_0 m hn c t d))
theorem found_1 (c : Dev nD) (t : Fin (cfgM m hn).N) :
    iprop(∃ d, owns (c : Thread nD τ) (((cfgM m hn).win 1).stage ((cfgM m hn).slots t 1)) fullShare ((dats m hn 0 c).before 1 t d))
      ⊢ (owns (c : Thread nD τ) (((cfgM m hn).win 1).stage ((cfgM m hn).slots t 1)) fullShare (wgAt m hn c t) : sProp 𝕄) :=
  BIClass.exists_elim fun d => of_eq (congrArg (owns (c : Thread nD τ) (((cfgM m hn).win 1).stage ((cfgM m hn).slots t 1)) fullShare) (before_1 m hn c t d))
theorem found_2 (c : Dev nD) (t : Fin (cfgM m hn).N) :
    iprop(∃ d, owns (c : Thread nD τ) (((cfgM m hn).win 2).stage ((cfgM m hn).slots t 2)) fullShare ((dats m hn 0 c).before 2 t d))
      ⊢ (owns (c : Thread nD τ) (((cfgM m hn).win 2).stage ((cfgM m hn).slots t 2)) fullShare (wuAt m hn c t) : sProp 𝕄) :=
  BIClass.exists_elim fun d => of_eq (congrArg (owns (c : Thread nD τ) (((cfgM m hn).win 2).stage ((cfgM m hn).slots t 2)) fullShare) (before_2 m hn c t d))
theorem found_3 (c : Dev nD) (t : Fin (cfgM m hn).N) :
    iprop(∃ d, owns (c : Thread nD τ) (((cfgM m hn).win 3).stage ((cfgM m hn).slots t 3)) fullShare ((dats m hn 0 c).before 3 t d))
      ⊢ (owns (c : Thread nD τ) (((cfgM m hn).win 3).stage ((cfgM m hn).slots t 3)) fullShare (wdAt m hn c t) : sProp 𝕄) :=
  BIClass.exists_elim fun d => of_eq (congrArg (owns (c : Thread nD τ) (((cfgM m hn).win 3).stage ((cfgM m hn).slots t 3)) fullShare) (before_3 m hn c t d))

theorem found_4 (c : Dev nD) (t : Fin (cfgM m hn).N) :
    iprop(∃ d, owns (c : Thread nD τ) (((cfgM m hn).win (4 : Fin 5)).stage ((cfgM m hn).slots t (4 : Fin 5))) fullShare ((dats m hn 0 c).before (4 : Fin 5) t d))
      ⊢ (iprop(∃ d, owns (c : Thread nD τ) (((cfgM m hn).win (4 : Fin 5)).stage ((cfgM m hn).slots t (4 : Fin 5))) fullShare ((dats m hn 0 c).before (4 : Fin 5) t d)) : sProp 𝕄) :=
  BIBase.Entails.rfl

/-! ## The run -/

theorem tables_held (c : Dev nD) : (Pipeline.ΦT pre0 (tbl m) c : sProp 𝕄)
    = iprop(owns (c : Thread nD τ) (Memref.whole main_v11) fullShare.right (tbl m 0)
      ∗ owns (c : Thread nD τ) (Memref.whole main_arg1) fullShare.right (tbl m 1)) := by
  unfold Pipeline.ΦT Pipeline.prefHeld
  rw [show (Finset.univ : Finset (Fin 2)) = {(0 : Fin 2), (1 : Fin 2)} from by decide, bigSep_insert (by decide), bigSep_singleton]
  exact (congrArg₂ (fun A B : sProp 𝕄 => iprop(A ∗ B)) (owns_whole (c : Thread nD τ) main_v11 fullShare.right (tbl m 0))
    (owns_whole (c : Thread nD τ) main_arg1 fullShare.right (tbl m 1))).symm

theorem row (t : Fin (cfgM m hn).N) :
    defs₀ (F := F) .tc (cfgM m hn).body ((cfgM m hn).bodyArgs t ((cfgM m hn).slots t))
      = cc0_experts ((cfgM m hn).grid.coords t) (Memref.whole main_v11) (Memref.isWhole_whole _) (Memref.whole main_arg1) (Memref.isWhole_whole _)
        (spec0_0.stage ((cfgM m hn).slots t 0)) (hstage0_0 (((cfgM m hn).slots t 0).cast nbuf0_0))
        (spec0_1.stage ((cfgM m hn).slots t 1)) (hstage0_1 (((cfgM m hn).slots t 1).cast nbuf0_1))
        (spec0_2.stage ((cfgM m hn).slots t 2)) (hstage0_2 (((cfgM m hn).slots t 2).cast nbuf0_2))
        (spec0_3.stage ((cfgM m hn).slots t 3)) (hstage0_3 (((cfgM m hn).slots t 3).cast nbuf0_3))
        (spec0_4.stage ((cfgM m hn).slots t (4 : Fin 5))) (hstage0_4 (((cfgM m hn).slots t (4 : Fin 5)).cast nbuf0_4))
        (Memref.whole cc0_scratch0) (Memref.isWhole_whole _) (Memref.whole cc0_scratch1) (Memref.isWhole_whole _) := by
  unfold defs₀
  rw [Defs.onTc_tc]

/-- What a step is handed, by name. -/
def given (c : Dev nD) (t : Fin (cfgM m hn).N) (d : Vec F S4096x128 .bf16) (a : Vec F S1024x512 .bf16) (b : Vec F S256x1024 .bf16) : sProp 𝕄 :=
  iprop((owns (c : Thread nD τ) (Memref.whole main_v11) fullShare.right (tbl m 0) ∗ owns (c : Thread nD τ) (Memref.whole main_arg1) fullShare.right (tbl m 1)
    ∗ owns (c : Thread nD τ) (spec0_0.stage ((cfgM m hn).slots t 0)) fullShare (xAt m hn c t)
    ∗ owns (c : Thread nD τ) (spec0_1.stage ((cfgM m hn).slots t 1)) fullShare (wgAt m hn c t)
    ∗ owns (c : Thread nD τ) (spec0_2.stage ((cfgM m hn).slots t 2)) fullShare (wuAt m hn c t)
    ∗ owns (c : Thread nD τ) (spec0_3.stage ((cfgM m hn).slots t 3)) fullShare (wdAt m hn c t)
    ∗ owns (c : Thread nD τ) (spec0_4.stage ((cfgM m hn).slots t (4 : Fin 5))) fullShare d
    ∗ owns (c : Thread nD τ) (Memref.whole cc0_scratch0) fullShare a ∗ owns (c : Thread nD τ) (Memref.whole cc0_scratch1) fullShare b)
    ∗ ((∃ r, prngReg c r) ∗ (dats m hn 0 c).owesAt () t.castSucc))

/-- One step, at the blocks the pipeline hands it. -/
theorem step (c : Dev nD) (t : Fin (cfgM m hn).N) (d : Vec F S4096x128 .bf16) (a : Vec F S1024x512 .bf16) (b : Vec F S256x1024 .bf16)
    (h : Carried m hn c t.castSucc a b) :
    given m hn c t ((dats m hn 0 c).before (4 : Fin 5) t d) a b
      ⊢ wp frame (wpE (defs₀ (F := F)) Variants.none c none) Set.univ
          (defs₀ (F := F) .tc (cfgM m hn).body ((cfgM m hn).bodyArgs t ((cfgM m hn).slots t)))
          (fun _ => given m hn c t (made m hn c t) (kept8 m hn c t) (kept9 m hn c t)) := by
  obtain ⟨h1, h2⟩ := weights_eq m hn c t a b h
  have hb := body (F := F) c ((cfgM m hn).grid.coords t) (tbl m 0) (tbl m 1) (Memref.whole main_v11) (Memref.isWhole_whole _) (Memref.whole main_arg1) (Memref.isWhole_whole _)
        (spec0_0.stage ((cfgM m hn).slots t 0)) (hstage0_0 (((cfgM m hn).slots t 0).cast nbuf0_0))
        (spec0_1.stage ((cfgM m hn).slots t 1)) (hstage0_1 (((cfgM m hn).slots t 1).cast nbuf0_1))
        (spec0_2.stage ((cfgM m hn).slots t 2)) (hstage0_2 (((cfgM m hn).slots t 2).cast nbuf0_2))
        (spec0_3.stage ((cfgM m hn).slots t 3)) (hstage0_3 (((cfgM m hn).slots t 3).cast nbuf0_3))
        (spec0_4.stage ((cfgM m hn).slots t (4 : Fin 5))) (hstage0_4 (((cfgM m hn).slots t (4 : Fin 5)).cast nbuf0_4))
        (Memref.whole cc0_scratch0) (Memref.isWhole_whole _) (Memref.whole cc0_scratch1) (Memref.isWhole_whole _)
        (xAt m hn c t) (wgAt m hn c t) (wuAt m hn c t) (wdAt m hn c t) ((dats m hn 0 c).before (4 : Fin 5) t d) a b
        iprop((∃ r, prngReg c r) ∗ (dats m hn 0 c).owesAt () t.castSucc)
  refine triple_restated hb (congrArg (wp frame (wpE (defs₀ (F := F)) Variants.none c none) Set.univ) (row m hn t).symm) .rfl (fun _ => ?_)
  rw [h1, h2, block_eq m hn c t d]
  exact .rfl

set_option maxHeartbeats 1600000 in
theorem obligation (c : Dev nD) :
    Pipeline.BodyObligationLoose (dats m hn 0 c) (defs₀ (F := F)) Variants.none () Set.univ := by
  intro t
  show iprop((dats m hn 0 c).Φ t.castSucc ∗ (dats m hn 0 c).owesAt () t.castSucc
      ∗ bigSep Finset.univ fun w : Fin (cfgM m hn).W => iprop(∃ d, owns (c : Thread nD τ) (((cfgM m hn).win w).stage ((cfgM m hn).slots t w)) fullShare ((dats m hn 0 c).before w t d)))
    ⊢ wp frame (wpE (defs₀ (F := F)) Variants.none c none) Set.univ (defs₀ (F := F) .tc (cfgM m hn).body ((cfgM m hn).bodyArgs t ((cfgM m hn).slots t))) (fun _ =>
      iprop((dats m hn 0 c).Φ t.succ ∗ (dats m hn 0 c).owesAt () t.succ ∗ bigSep Finset.univ fun w : Fin (cfgM m hn).W => (dats m hn 0 c).leaves w t))
  rw [bigSep_W0, bigSep_W0]
  refine triple_restated (P := iprop(∃ d a b, ⌜Carried m hn c t.castSucc a b⌝ ∧ given m hn c t ((dats m hn 0 c).before (4 : Fin 5) t d) a b))
    (Q := fun _ => given m hn c t (made m hn c t) (kept8 m hn c t) (kept9 m hn c t))
    (W := wp frame (wpE (defs₀ (F := F)) Variants.none c none) Set.univ (defs₀ (F := F) .tc (cfgM m hn).body ((cfgM m hn).bodyArgs t ((cfgM m hn).slots t))))
    (BIClass.exists_elim fun d => BIClass.exists_elim fun a => BIClass.exists_elim fun b => Laws.pure_elim_left fun h => step m hn c t d a b h) rfl ?_ ?_
  · refine BIBase.Entails.trans (BI.sep_mono (same _) (BI.sep_mono (same _) (BI.sep_mono (found_0 m hn c t) (BI.sep_mono (found_1 m hn c t)
      (BI.sep_mono (found_2 m hn c t) (BI.sep_mono (found_3 m hn c t) (found_4 m hn c t))))))) ?_
    show iprop((iprop(∃ a b, ⌜Carried m hn c t.castSucc a b⌝ ∗ owns (c : Thread nD τ) (Memref.whole cc0_scratch0) fullShare a
      ∗ owns (c : Thread nD τ) (Memref.whole cc0_scratch1) fullShare b) ∗ (∃ r, prngReg c r) ∗ Pipeline.ΦT pre0 (tbl m) c)
      ∗ (dats m hn 0 c).owesAt () t.castSucc
      ∗ owns (c : Thread nD τ) (spec0_0.stage ((cfgM m hn).slots t 0)) fullShare (xAt m hn c t)
      ∗ owns (c : Thread nD τ) (spec0_1.stage ((cfgM m hn).slots t 1)) fullShare (wgAt m hn c t)
      ∗ owns (c : Thread nD τ) (spec0_2.stage ((cfgM m hn).slots t 2)) fullShare (wuAt m hn c t)
      ∗ owns (c : Thread nD τ) (spec0_3.stage ((cfgM m hn).slots t 3)) fullShare (wdAt m hn c t)
      ∗ (∃ d, owns (c : Thread nD τ) (spec0_4.stage ((cfgM m hn).slots t (4 : Fin 5))) fullShare ((dats m hn 0 c).before (4 : Fin 5) t d))) ⊢ _
    rw [tables_held]
    unfold given
    iintro ⟨⟨⟨%a, %b, %h, S0, S1⟩, Hp, T0, T1⟩, Ho, W0, W1, W2, W3, ⟨%d4, W4⟩⟩
    iexists d4; iexists a; iexists b
    isplit
    · ipureintro; exact h
    · isplitr [Hp Ho]
      · isplitl [T0]; · iexact T0
        isplitl [T1]; · iexact T1
        isplitl [W0]; · iexact W0
        isplitl [W1]; · iexact W1
        isplitl [W2]; · iexact W2
        isplitl [W3]; · iexact W3
        isplitl [W4]; · iexact W4
        isplitl [S0]; · iexact S0
        iexact S1
      · isplitl [Hp]; · iexact Hp
        iexact Ho
  · intro _
    refine BIBase.Entails.trans ?_ (BI.sep_mono (same _) (BI.sep_mono (same _) (BI.sep_mono (leaves_0 m hn c t) (BI.sep_mono (leaves_1 m hn c t)
      (BI.sep_mono (leaves_2 m hn c t) (BI.sep_mono (leaves_3 m hn c t) (leaves_o m hn c t)))))))
    show _ ⊢ iprop((iprop(∃ a b, ⌜Carried m hn c t.succ a b⌝ ∗ owns (c : Thread nD τ) (Memref.whole cc0_scratch0) fullShare a
      ∗ owns (c : Thread nD τ) (Memref.whole cc0_scratch1) fullShare b) ∗ (∃ r, prngReg c r) ∗ Pipeline.ΦT pre0 (tbl m) c)
      ∗ (dats m hn 0 c).owesAt () t.succ
      ∗ owns (c : Thread nD τ) (spec0_0.stage ((cfgM m hn).slots t 0)) fullShare (xAt m hn c t)
      ∗ owns (c : Thread nD τ) (spec0_1.stage ((cfgM m hn).slots t 1)) fullShare (wgAt m hn c t)
      ∗ owns (c : Thread nD τ) (spec0_2.stage ((cfgM m hn).slots t 2)) fullShare (wuAt m hn c t)
      ∗ owns (c : Thread nD τ) (spec0_3.stage ((cfgM m hn).slots t 3)) fullShare (wdAt m hn c t)
      ∗ owns (c : Thread nD τ) (spec0_4.stage ((cfgM m hn).slots t (4 : Fin 5))) fullShare (made m hn c t))
    rw [tables_held]
    unfold given
    iintro ⟨⟨T0, T1, W0, W1, W2, W3, W4, S0, S1⟩, Hp, Ho⟩
    isplitr [Ho W0 W1 W2 W3 W4]
    · isplitl [S0 S1]
      · iexists (kept8 m hn c t); iexists (kept9 m hn c t)
        isplitr
        · ipureintro; exact fun _ => ⟨rfl, rfl⟩
        · isplitl [S0]; · iexact S0
          iexact S1
      · isplitl [Hp]; · iexact Hp
        isplitl [T0]; · iexact T0
        iexact T1
    · isplitl [Ho]; · iexact Ho
      isplitl [W0]; · iexact W0
      isplitl [W1]; · iexact W1
      isplitl [W2]; · iexact W2
      isplitl [W3]; · iexact W3
      iexact W4

theorem starts (c : Dev nD) : iprop(Pipeline.ΦA spec0 c ∗ Pipeline.ΦT pre0 (tbl m) c) ⊢ (dats m hn 0 c).Φ 0 := by
  show _ ⊢ iprop((iprop(∃ a b, ⌜Carried m hn c 0 a b⌝ ∗ owns (c : Thread nD τ) (Memref.whole cc0_scratch0) fullShare a
      ∗ owns (c : Thread nD τ) (Memref.whole cc0_scratch1) fullShare b) ∗ (∃ r, prngReg c r) ∗ Pipeline.ΦT pre0 (tbl m) c) : sProp 𝕄)
  unfold Pipeline.ΦA
  rw [scopedRest0_eq]
  simp only [owns_whole]
  iintro ⟨⟨⟨⟨%f8, S0⟩, ⟨%f9, S1⟩⟩, Hp⟩, T⟩
  isplitl [S0 S1]
  · iexists f8; iexists f9
    isplitr
    · ipureintro; exact fun h => absurd h (lt_irrefl 0)
    · isplitl [S0]; · iexact S0
      iexact S1
  · isplitl [Hp]; · iexact Hp
    iexact T

theorem ends (c : Dev nD) : (dats m hn 0 c).Φ (Fin.last (cfgM m hn).N) ⊢ Pipeline.ΦA spec0 c := by
  show iprop((iprop(∃ a b, ⌜Carried m hn c (Fin.last (cfgM m hn).N) a b⌝ ∗ owns (c : Thread nD τ) (Memref.whole cc0_scratch0) fullShare a
      ∗ owns (c : Thread nD τ) (Memref.whole cc0_scratch1) fullShare b) ∗ (∃ r, prngReg c r) ∗ Pipeline.ΦT pre0 (tbl m) c) : sProp 𝕄) ⊢ _
  unfold Pipeline.ΦA
  rw [scopedRest0_eq]
  simp only [owns_whole]
  iintro ⟨⟨%a, %b, %h, S0, S1⟩, Hp, T⟩
  isplitl [S0 S1]
  · isplitl [S0]; · iexists a; iexact S0
    iexists b; iexact S1
  · iexact Hp

theorem launches : Pipeline.HMainP (Ix := Unit) (Name := ℕ) (U := UR sig nD τ) (Lvl := ℕ) (pcfgs (F := F)) 0 defs₀ Variants.none m main (V m) :=
  Pipeline.hmainP_prefix pcfgs 0 defs₀ Variants.none m main hostOps0 hostOps0_sub hostOps0_fresh main_chain

include hn in
set_option backward.isDefEq.respectTransparency.types false in
set_option maxHeartbeats 1600000 in
/-- The program runs; the result ends as the write-backs leave it, and every other array as the call found it. -/
theorem runs : θ_run (defs (F := F)) (onTc (τ := τ) (main (F := F))) ⟨m, fun _ => 0, ρ⟩
    (fun r => (∀ c : Dev nD, (∀ w : Fin 5, r.2.mem ((c : Thread nD τ).loc (Pipeline.arrRef spec0 w)) = (dats m hn 0 c).arrAt w (cfgM m hn).N)
      ∧ ∀ b ∈ Pipeline.restRefs sig spec0, r.2.mem ((c : Thread nD τ).loc b) = V m c b) ∧ r.2.sem = fun _ => 0) :=
  Pipeline.θ_run_frameP_track (Q' := _) pcfgs (adm m hn) (dats m hn) 0 launch0 defs₀ Variants.none m ρ main
    (hbody := obligation m hn) (hshare := fun c => (dats m hn 0 c).share_full fun _ => rfl) (howed := fun _ _ => rfl)
    (V := V m) (hmain := launches m) (hA := fun _ _ => rfl) (hpf := fun c k => V_pre m c k) (hin := starts m hn) (hout := ends m hn)
    (hQ' := fun r h => ⟨fun c => ⟨(h.1 c).1, (h.1 c).2⟩, h.2⟩)

end Cert.Proof.ExpIdeal
-- ==== Proof.Experts.IdealRun.lean ====
module

public import proofs.«01_k».proof.Proof.Experts.IdealFrame

/-! The experts program at exact values runs and leaves its arguments as they were. -/

@[expose] public section

set_option maxRecDepth 16384

noncomputable section

namespace Cert.Proof.ExpIdeal

open Idealize.ShloMosaic Idealize.ShloMosaic.TcCoe Idealize.SL.Sem
open Cert.Kernel2Ideal Cert.Kernel2Ideal.Gen

variable {F : FTy → Type} [FloatOps F] [∀ e, Nonempty (Elt F e)]
variable (m : (ℓ : Loc nD τ sig) → Buf (Elt F) ℓ) (ρ : Dev nD → PrngReg) (hn : Named m)

/-- A buffer that no host operation writes reaches the call as it was launched. -/
theorem V_arg0 (c : Dev nD) : V m c main_arg0 = m ((c : Thread nD τ).loc main_arg0) := by
  unfold V; after_results

theorem V_arg2 (c : Dev nD) : V m c main_arg2 = m ((c : Thread nD τ).loc main_arg2) := by
  unfold V; after_results

theorem V_arg3 (c : Dev nD) : V m c main_arg3 = m ((c : Thread nD τ).loc main_arg3) := by
  unfold V; after_results

theorem V_arg4 (c : Dev nD) : V m c main_arg4 = m ((c : Thread nD τ).loc main_arg4) := by
  unfold V; after_results

theorem V_arg5 (c : Dev nD) : V m c main_arg5 = m ((c : Thread nD τ).loc main_arg5) := by
  unfold V; after_results

/-- The program runs and leaves its arguments as they were, every semaphore at zero; the result is what the write-backs leave. -/
theorem frame_run : θ_run (defs (F := F)) (onTc (τ := τ) (main (F := F))) ⟨m, fun _ => 0, ρ⟩
    (fun r => (∀ c : Dev nD, r.2.mem ((c : Thread nD τ).loc main_v19) = (dats m hn 0 c).arrAt (4 : Fin 5) (cfgM m hn).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run (defs (F := F)) _ _).mono (fun r h =>
    ⟨fun c => ⟨(h.1 c).1 (4 : Fin 5), ((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c),
      ((h.1 c).2 main_arg4 (Pipeline.mem_restRefs_of main_arg4 (by decide) (by decide))).trans (V_arg4 m c),
      ((h.1 c).2 main_arg5 (Pipeline.mem_restRefs_of main_arg5 (by decide) (by decide))).trans (V_arg5 m c)⟩, h.2⟩) (runs m ρ hn)

end Cert.Proof.ExpIdeal
-- ==== Proof.Experts.ValArray.lean ====
module

public import proofs.«01_k».proof.Proof.Experts.ValStep
public import proofs.«01_k».proof.Proof.Experts.IdealRun
public import Idealize.ShloMosaic.Lib.Pipeline.ValueKit
public import Idealize.ShloMosaic.Lib.Pointwise
public import Idealize.ShloMosaic.Lib.Claim

/-! The array that the experts program leaves, on the blocks in use. -/

@[expose] public section

set_option maxRecDepth 16384

noncomputable section

namespace Cert.Proof.ExpIdeal

open Idealize.ShloMosaic Idealize.ShloMosaic.TcCoe Idealize.SL.Sem
open Cert.Kernel2Ideal Cert.Kernel2Ideal.Gen

variable (m : (ℓ : Loc nD τ sig) → Buf (Elt Ideal) ℓ)

/-- The arguments. -/
abbrev ax (c : Dev nD) : FVec Ideal S655360x1024 .f32 := m ((c : Thread nD τ).loc main_arg2)
abbrev ag (c : Dev nD) : FVec Ideal S1x256x1024x256 .f32 := m ((c : Thread nD τ).loc main_arg3)
abbrev au (c : Dev nD) : FVec Ideal S1x256x1024x256 .f32 := m ((c : Thread nD τ).loc main_arg4)
abbrev ad (c : Dev nD) : FVec Ideal S1x256x256x1024 .f32 := m ((c : Thread nD τ).loc main_arg5)

/-! ## The arrays the call is handed -/

theorem V_v15_eq (c : Dev nD) : (V m c main_v15 : FVec Ideal S5242880x128 .bf16)
    = shapeCast S5242880x128 (transpose S655360x4x2x128 [0, 2, 1, 3] (shapeCast S655360x2x4x128 (truncf .bf16 (ax m c) bitsLt_bf16_f32) shapeCasts_S655360x1024_S655360x2x4x128)
        transposes_S655360x2x4x128_S655360x4x2x128_0_2_1_3) shapeCasts_S655360x4x2x128_S5242880x128 := by
  unfold V; after_results; rfl

theorem V_v16_eq (c : Dev nD) : (V m c main_v16 : FVec Ideal S256x1024x256 .f32) = shapeCast S256x1024x256 (ag m c) shapeCasts_S1x256x1024x256_S256x1024x256 := by
  unfold V; after_results; rfl
theorem V_v17_eq (c : Dev nD) : (V m c main_v17 : FVec Ideal S256x1024x256 .f32) = shapeCast S256x1024x256 (au m c) shapeCasts_S1x256x1024x256_S256x1024x256 := by
  unfold V; after_results; rfl
theorem V_v18_eq (c : Dev nD) : (V m c main_v18 : FVec Ideal S256x256x1024 .f32) = shapeCast S256x256x1024 (ad m c) shapeCasts_S1x256x256x1024_S256x256x1024 := by
  unfold V; after_results; rfl

theorem laid_at (x : FVec Ideal S655360x1024 .f32) (i : Fin 5242880) (l : Fin 128) :
    shapeCast S5242880x128 (transpose S655360x4x2x128 [0, 2, 1, 3] (shapeCast S655360x2x4x128 (truncf .bf16 x bitsLt_bf16_f32) shapeCasts_S655360x1024_S655360x2x4x128)
        transposes_S655360x2x4x128_S655360x4x2x128_0_2_1_3) shapeCasts_S655360x4x2x128_S5242880x128 (ix2 i l)
      = x (ix2 ⟨i.val / 8, by omega⟩ ⟨i.val % 2 * 512 + 128 * (i.val / 2 % 4) + l.val, by omega⟩) := by
  pointwise
  congr 1
  congr 1 <;> exact Fin.ext (by dsimp only; omega)

theorem first_at (x : FVec Ideal S1x256x1024x256 .f32) (e : Fin 256) (a : Fin 1024) (b : Fin 256) :
    shapeCast S256x1024x256 x shapeCasts_S1x256x1024x256_S256x1024x256 (ix3 e a b) = x (ix4 0 e a b) := by
  pointwise

theorem last_at (x : FVec Ideal S1x256x256x1024 .f32) (e : Fin 256) (a : Fin 256) (b : Fin 1024) :
    shapeCast S256x256x1024 x shapeCasts_S1x256x256x1024_S256x256x1024 (ix3 e a b) = x (ix4 0 e a b) := by
  pointwise

variable (hn : Named m)

/-! ## The blocks -/

theorem block_x (c : Dev nD) (t : Fin (cfgM m hn).N) (k : ℕ) (hk : min t.val ((used m).toNat - 1) = k) (hk' : k < 1280) (a : Fin 4096) (l : Fin 128) :
    xAt m hn c t (ix2 a l) = ax m c (ix2 ⟨(4096 * k + a.val) / 8, by omega⟩ ⟨a.val % 2 * 512 + 128 * (a.val / 2 % 4) + l.val, by omega⟩) := by
  have h0 : ((((cfgM m hn).win 0).blk t).view.emb (ix2 a l : S4096x128.Idx)) = (ix2 ⟨4096 * k + a.val, by omega⟩ l : S5242880x128.Idx) := by
    funext b
    refine Fin.ext ((Pipeline.Window.rect_emb_val ((cfgM m hn).win 0) t _ b rfl).trans ?_)
    rw [index_x, hk]
    match b with
    | ⟨0, _⟩ => show k * 4096 + a.val = _; exact congrArg (· + a.val) (Nat.mul_comm _ _)
    | ⟨1, _⟩ => show 0 * 128 + l.val = l.val; omega
  have h1 : xAt m hn c t (ix2 a l) = (V m c main_v15 : FVec Ideal S5242880x128 .bf16) (ix2 ⟨4096 * k + a.val, by omega⟩ l) :=
    congrArg (V m c main_v15 : FVec Ideal S5242880x128 .bf16) h0
  rw [h1, V_v15_eq, laid_at]
  refine congrArg (ax m c) ?_
  congr 1
  exact Fin.ext (by dsimp only; omega)

theorem number_lt (t : Fin (cfgM m hn).N) : (expert m t.val (step_lt m hn t)).toNat < 256 := hn.expert _

theorem block_gate (c : Dev nD) (t : Fin (cfgM m hn).N) (a : Fin 1024) (b : Fin 256) :
    wgAt m hn c t (ix3 0 a b) = ag m c (ix4 0 ⟨(expert m t.val (step_lt m hn t)).toNat, number_lt m hn t⟩ a b) := by
  have h0 : ((((cfgM m hn).win 1).blk t).view.emb (ix3 0 a b : S1x1024x256.Idx))
      = (ix3 ⟨(expert m t.val (step_lt m hn t)).toNat, number_lt m hn t⟩ a b : S256x1024x256.Idx) := by
    funext d
    refine Fin.ext ((Pipeline.Window.rect_emb_val ((cfgM m hn).win 1) t _ d rfl).trans ?_)
    rw [index_w]
    match d with
    | ⟨0, _⟩ => exact (Nat.mul_one _)
    | ⟨1, _⟩ => show 0 * 1024 + a.val = a.val; omega
    | ⟨2, _⟩ => show 0 * 256 + b.val = b.val; omega
  have h1 : wgAt m hn c t (ix3 0 a b) = (V m c main_v16 : FVec Ideal S256x1024x256 .f32) (ix3 ⟨(expert m t.val (step_lt m hn t)).toNat, number_lt m hn t⟩ a b) :=
    congrArg (V m c main_v16 : FVec Ideal S256x1024x256 .f32) h0
  rw [h1, V_v16_eq, first_at]

theorem block_up (c : Dev nD) (t : Fin (cfgM m hn).N) (a : Fin 1024) (b : Fin 256) :
    wuAt m hn c t (ix3 0 a b) = au m c (ix4 0 ⟨(expert m t.val (step_lt m hn t)).toNat, number_lt m hn t⟩ a b) := by
  have h0 : ((((cfgM m hn).win 2).blk t).view.emb (ix3 0 a b : S1x1024x256.Idx))
      = (ix3 ⟨(expert m t.val (step_lt m hn t)).toNat, number_lt m hn t⟩ a b : S256x1024x256.Idx) := by
    funext d
    refine Fin.ext ((Pipeline.Window.rect_emb_val ((cfgM m hn).win 2) t _ d rfl).trans ?_)
    rw [show ((cfgM m hn).win 2).index t = _ from index_w m hn t]
    match d with
    | ⟨0, _⟩ => exact (Nat.mul_one _)
    | ⟨1, _⟩ => show 0 * 1024 + a.val = a.val; omega
    | ⟨2, _⟩ => show 0 * 256 + b.val = b.val; omega
  have h1 : wuAt m hn c t (ix3 0 a b) = (V m c main_v17 : FVec Ideal S256x1024x256 .f32) (ix3 ⟨(expert m t.val (step_lt m hn t)).toNat, number_lt m hn t⟩ a b) :=
    congrArg (V m c main_v17 : FVec Ideal S256x1024x256 .f32) h0
  rw [h1, V_v17_eq, first_at]

theorem block_down (c : Dev nD) (t : Fin (cfgM m hn).N) (a : Fin 256) (b : Fin 1024) :
    wdAt m hn c t (ix3 0 a b) = ad m c (ix4 0 ⟨(expert m t.val (step_lt m hn t)).toNat, number_lt m hn t⟩ a b) := by
  have h0 : ((((cfgM m hn).win 3).blk t).view.emb (ix3 0 a b : S1x256x1024.Idx))
      = (ix3 ⟨(expert m t.val (step_lt m hn t)).toNat, number_lt m hn t⟩ a b : S256x256x1024.Idx) := by
    funext d
    refine Fin.ext ((Pipeline.Window.rect_emb_val ((cfgM m hn).win 3) t _ d rfl).trans ?_)
    rw [show ((cfgM m hn).win 3).index t = _ from index_w m hn t]
    match d with
    | ⟨0, _⟩ => exact (Nat.mul_one _)
    | ⟨1, _⟩ => show 0 * 256 + a.val = a.val; omega
    | ⟨2, _⟩ => show 0 * 1024 + b.val = b.val; omega
  have h1 : wdAt m hn c t (ix3 0 a b) = (V m c main_v18 : FVec Ideal S256x256x1024 .f32) (ix3 ⟨(expert m t.val (step_lt m hn t)).toNat, number_lt m hn t⟩ a b) :=
    congrArg (V m c main_v18 : FVec Ideal S256x256x1024 .f32) h0
  rw [h1, V_v18_eq, last_at]

/-- The row of 128 that holds component `d` of a token, and where in the token that row and its lane are. -/
theorem token_column (a d : ℕ) (hd : d < 1024) :
    (a / 8 * 8 + 2 * (d / 128 % 4) + d / 512) % 2 * 512 + 128 * ((a / 8 * 8 + 2 * (d / 128 % 4) + d / 512) / 2 % 4) + d % 128 = d := by
  have h1 : (a / 8 * 8 + 2 * (d / 128 % 4) + d / 512) % 2 = d / 512 := by omega
  have h2 : (a / 8 * 8 + 2 * (d / 128 % 4) + d / 512) / 2 % 4 = d / 128 % 4 := by
    have : (a / 8 * 8 + 2 * (d / 128 % 4) + d / 512) / 2 = 4 * (a / 8) + d / 128 % 4 := by omega
    omega
  rw [h1, h2]
  omega

theorem token_row (k a d : ℕ) (hd : d < 1024) :
    (4096 * k + (a / 8 * 8 + 2 * (d / 128 % 4) + d / 512)) / 8 = (4096 * k + a) / 8 := by omega

/-- What the step on block `k` makes of row `a` of it: the feed-forward of the token the row is part of, with the weights of the block's expert. -/
theorem made_at (c : Dev nD) (t : Fin (cfgM m hn).N) (k : ℕ) (hk : min t.val ((used m).toNat - 1) = k) (hk' : k < 1280) (a : Fin 4096) (l : Fin 128) :
    made m hn c t (ix2 a l) = ffn (fun d => ax m c (ix2 ⟨(4096 * k + a.val) / 8, by omega⟩ d))
      (fun d f => ag m c (ix4 0 ⟨(expert m t.val (step_lt m hn t)).toNat, number_lt m hn t⟩ d f))
      (fun d f => au m c (ix4 0 ⟨(expert m t.val (step_lt m hn t)).toNat, number_lt m hn t⟩ d f))
      (fun f n => ad m c (ix4 0 ⟨(expert m t.val (step_lt m hn t)).toNat, number_lt m hn t⟩ f n))
      ⟨a.val % 2 * 512 + 128 * (a.val / 2 % 4) + l.val, by omega⟩ := by
  unfold made
  rw [result_at]
  refine ffn_congr (fun d => ?_) (funext fun d => funext fun f => ?_) (funext fun d => funext fun f => ?_) (funext fun f => funext fun n => ?_)
  · rw [block_x m hn c t k hk hk']
    refine congrArg (ax m c) ?_
    congr 1
    · refine Fin.ext ?_
      dsimp only
      exact token_row k a.val d.val d.isLt
    · exact Fin.ext (token_column a.val d.val d.isLt)
  · unfold kept8; rw [joined_gate, block_gate]
  · unfold kept8; rw [joined_up, block_up]
  · unfold kept9; rw [third_at, block_down]

/-! ## The array after the run -/

theorem N_eq : (cfgM m hn).N = 1280 := show grid0.N = 1280 by decide

/-- The array of the results: each block's from the step that is numbered like it. -/
def made_all (c : Dev nD) : FVec Ideal S5242880x128 .bf16 := fun i =>
  made m hn c ⟨(i 0).val / 4096, lt_of_lt_of_eq (by have : (i 0).val < 5242880 := (i 0).isLt; omega : (i 0).val / 4096 < 1280) (N_eq m hn).symm⟩
    (ix2 ⟨(i 0).val % 4096, Nat.mod_lt _ (by decide)⟩ ⟨(i 1).val, (i 1).isLt⟩)

theorem place_out (t : Fin (cfgM m hn).N) (k : ℕ) (hk : min t.val ((used m).toNat - 1) = k) (hk' : k < 1280) (a : Fin 4096) (l : Fin 128) :
    ((((cfgM m hn).win (4 : Fin 5)).blk t).view.emb (ix2 a l : S4096x128.Idx)) = (ix2 ⟨4096 * k + a.val, by omega⟩ l : S5242880x128.Idx) := by
  funext b
  refine Fin.ext ((Pipeline.Window.rect_emb_val ((cfgM m hn).win (4 : Fin 5)) t _ b rfl).trans ?_)
  rw [index_o, hk]
  match b with
  | ⟨0, _⟩ => show k * 4096 + a.val = _; exact congrArg (· + a.val) (Nat.mul_comm _ _)
  | ⟨1, _⟩ => show 0 * 128 + l.val = l.val; omega

theorem flushed_out (c : Dev nD) (t : Fin (cfgM m hn).N) :
    (dats m hn 0 c).flushed (4 : Fin 5) t = (((cfgM m hn).win (4 : Fin 5)).blk t).view.read (Elt Ideal) (made_all m hn c) := by
  have ht := step_lt m hn t
  have key : ∀ y : S4096x128.Idx, made m hn c t y = made_all m hn c ((((cfgM m hn).win (4 : Fin 5)).blk t).view.emb y) := by
    intro y
    obtain ⟨a, l, rfl⟩ : ∃ (a : Fin 4096) (l : Fin 128), y = ix2 a l := ⟨y 0, y 1, by
      funext b
      match b with
      | ⟨0, _⟩ => rfl
      | ⟨1, _⟩ => rfl⟩
    rw [place_out m hn t _ rfl (by omega)]
    unfold made_all
    refine (congrFun (made_congr m hn c (t' := ⟨(4096 * min t.val ((used m).toNat - 1) + a.val) / 4096, lt_of_lt_of_eq (by omega : _ < 1280) (N_eq m hn).symm⟩) ?_) _).trans ?_
    · dsimp only; omega
    · refine congrArg (made m hn c _) ?_
      refine congrArg (fun e => (ix2 e l : S4096x128.Idx)) (Fin.ext ?_)
      show a.val = (4096 * min t.val ((used m).toNat - 1) + a.val) % 4096
      omega
  funext y
  exact key y

theorem flush_of (t : Fin (cfgM m hn).N) (h : t.val + 1 = 1280 ∨ t.val + 1 < (used m).toNat) : ((cfgM m hn).win (4 : Fin 5)).flush t = true := by
  have hN : (cfgM m hn).grid.N = 1280 := show grid0.N = 1280 by decide
  unfold Pipeline.Window.flush
  by_cases h1 : t.val + 1 = 1280
  · have h2 : t.val + 1 = (cfgM m hn).grid.N := h1.trans hN.symm
    rw [decide_eq_true h2, Bool.true_or]
    rfl
  · have h0 := step_lt m hn t
    have h2 : ∃ h : t.val + 1 < (cfgM m hn).grid.N, ((cfgM m hn).win (4 : Fin 5)).index ⟨t.val + 1, h⟩ ≠ ((cfgM m hn).win (4 : Fin 5)).index t := by
      refine ⟨lt_of_lt_of_eq (by omega : t.val + 1 < 1280) hN.symm, fun h4 => ?_⟩
      rw [index_o, index_o] at h4
      have h5 : min (t.val + 1) ((used m).toNat - 1) = min t.val ((used m).toNat - 1) := congrFun h4 0
      omega
    rw [decide_eq_true h2, Bool.or_true]
    rfl

theorem arr_made (c : Dev nD) (i : Fin 5242880) (l : Fin 128) (hi : i.val / 4096 < (used m).toNat) :
    (dats m hn 0 c).arrAt (4 : Fin 5) (cfgM m hn).N (ix2 i l : S5242880x128.Idx) = made_all m hn c (ix2 i l) := by
  have hN := N_eq m hn
  obtain ⟨k, hk⟩ : ∃ k : ℕ, k < 1280 ∧ (k + 1 = 1280 ∨ k + 1 < (used m).toNat) ∧ min k ((used m).toNat - 1) = i.val / 4096 := by
    by_cases h : i.val / 4096 + 1 < (used m).toNat
    · exact ⟨i.val / 4096, by omega, by omega, by omega⟩
    · exact ⟨1279, by omega, by omega, by omega⟩
  have hk1 : k < (cfgM m hn).N := lt_of_lt_of_eq hk.1 hN.symm
  refine (dats m hn 0 c).arrAt_apply_of_mem (4 : Fin 5) (made_all m hn c) (fun t _ => flushed_out m hn c t) _ ⟨k, hk1⟩ _ hk1
    (flush_of m hn ⟨k, hk1⟩ hk.2.1) ?_
  have h1 := place_out m hn ⟨k, hk1⟩ (i.val / 4096) hk.2.2 (by omega) ⟨i.val % 4096, Nat.mod_lt _ (by decide)⟩ l
  have h2 : (ix2 ⟨4096 * (i.val / 4096) + i.val % 4096, by omega⟩ l : S5242880x128.Idx) = ix2 i l :=
    congrArg (fun e => (ix2 e l : S5242880x128.Idx)) (Fin.ext (Nat.div_add_mod _ _))
  exact (h1.trans h2) ▸ View.emb_mem_set _ _

/-- **The array after the run**, in a block that is in use: each of its rows is part of the feed-forward of one token, with the
    weights of the expert that the table names for the block. -/
theorem final_at (c : Dev nD) (i : Fin 5242880) (l : Fin 128) (hi : i.val / 4096 < (used m).toNat) :
    (dats m hn 0 c).arrAt (4 : Fin 5) (cfgM m hn).N (ix2 i l : S5242880x128.Idx)
      = ffn (fun d => ax m c (ix2 ⟨i.val / 8, by omega⟩ d))
      (fun d f => ag m c (ix4 0 ⟨(be m 0 (ix1 ⟨i.val / 4096, by omega⟩)).toNat, hn.expert _⟩ d f))
      (fun d f => au m c (ix4 0 ⟨(be m 0 (ix1 ⟨i.val / 4096, by omega⟩)).toNat, hn.expert _⟩ d f))
      (fun f n => ad m c (ix4 0 ⟨(be m 0 (ix1 ⟨i.val / 4096, by omega⟩)).toNat, hn.expert _⟩ f n))
      ⟨i.val % 2 * 512 + 128 * (i.val / 2 % 4) + l.val, by omega⟩ := by
  rw [arr_made m hn c i l hi]
  have hk1 : i.val / 4096 < (cfgM m hn).N := lt_of_lt_of_eq (by omega : i.val / 4096 < 1280) (N_eq m hn).symm
  refine (made_at m hn c ⟨i.val / 4096, hk1⟩ (i.val / 4096) (by dsimp only; omega) (by omega) ⟨i.val % 4096, Nat.mod_lt _ (by decide)⟩ l).trans ?_
  have he : expert m (i.val / 4096) (step_lt m hn ⟨i.val / 4096, hk1⟩) = be m 0 (ix1 ⟨i.val / 4096, by omega⟩) := by
    unfold expert
    refine congrArg (be m 0) ?_
    funext b
    match b with
    | ⟨0, _⟩ => exact Fin.ext (show min (i.val / 4096) ((used m).toNat - 1) = i.val / 4096 by omega)
  have he' : (⟨(expert m (i.val / 4096) (step_lt m hn ⟨i.val / 4096, hk1⟩)).toNat, number_lt m hn ⟨i.val / 4096, hk1⟩⟩ : Fin 256)
      = ⟨(be m 0 (ix1 ⟨i.val / 4096, by omega⟩)).toNat, hn.expert _⟩ := Fin.ext (congrArg BitVec.toNat he)
  dsimp only
  rw [he']
  have hr : 4096 * (i.val / 4096) + i.val % 4096 = i.val := Nat.div_add_mod _ _
  have hx : ∀ d, ax m c (ix2 ⟨(4096 * (i.val / 4096) + i.val % 4096) / 8, by omega⟩ d) = ax m c (ix2 ⟨i.val / 8, by omega⟩ d) := fun d =>
    congrArg (fun e => ax m c (ix2 e d)) (Fin.ext (congrArg (· / 8) hr))
  refine (ffn_congr hx rfl rfl rfl).trans ?_
  refine congrArg (ffn _ _ _ _) (Fin.ext ?_)
  show i.val % 4096 % 2 * 512 + 128 * (i.val % 4096 / 2 % 4) + l.val = _
  dsimp only
  omega

end Cert.Proof.ExpIdeal
-- ==== Proof.Experts.ValRef.lean ====
module

public import proofs.«01_k».proof.Proof.Gen.Reference2Ideal.Run
public import proofs.«01_k».proof.Proof.Gen.Reference2Ideal.Read
public import proofs.«01_k».proof.Proof.Experts.Words
public import proofs.«01_k».proof.Proof.Experts.ValStep
public import Idealize.ShloMosaic.Lib.Pipeline.ValueKit
public import Idealize.ShloMosaic.Lib.Pointwise
public import Idealize.ShloMosaic.Lib.Claim
public import Idealize.ShloMosaic.Lib.IdealHost

/-! The reference of the experts read at an index. -/

@[expose] public section

set_option maxRecDepth 16384

noncomputable section

namespace Cert.Proof.ExpRef

open Idealize.ShloMosaic Idealize.ShloMosaic.TcCoe Idealize.SL.Sem
open Cert.Reference2Ideal Cert.Reference2Ideal.Gen Cert.Reference2Ideal.Read
open Cert.Proof.ExpIdeal (swish ffn ffn_congr)

/-- One row of `N` for each of `R` numbers. -/
abbrev pickDims (N A B R : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The row picked for the `k`-th number: the one it names, where it names one. -/
theorem pick_apply {α : Type} {N A B R : Nat} (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (k : Fin R) (a : Fin A) (b : Fin B) (e : Fin N)
    (he : min (idx (ix2 k 0)).toInt.toNat (N - 1) = e.val) :
    Host.gather (pickDims N A B R wf) x idx (ix3 k a b) = x (ix3 e a b) := by
  unfold Host.gather
  congr 1
  funext c
  refine Fin.ext ?_
  show (pickDims N A B R wf).start (ix3 k a b) idx c + (pickDims N A B R wf).batchCoord (ix3 k a b) c
      + (pickDims N A B R wf).offCoord (ix3 k a b) c = _
  rw [GatherDims.batchCoord_eq_zero _ _ _ List.not_mem_nil]
  have hc : c = (0 : Fin 3) ∨ c = (1 : Fin 3) ∨ c = (2 : Fin 3) := by
    match c with
    | ⟨0, _⟩ => exact Or.inl rfl
    | ⟨1, _⟩ => exact Or.inr (Or.inl rfl)
    | ⟨2, _⟩ => exact Or.inr (Or.inr rfl)
  rcases hc with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (pickDims N A B R wf).startIndexMap from List.mem_singleton.mpr rfl)]
    refine Eq.trans ?_ he
    refine congrArg (fun j => min (idx j).toInt.toNat (N - 1)) ?_
    funext b'
    refine Fin.ext ?_
    match b' with
    | ⟨0, _⟩ => rfl
    | ⟨1, _⟩ => rfl
  · unfold GatherDims.start
    rw [dif_neg (show ¬ (1 : Fin 3) ∈ (pickDims N A B R wf).startIndexMap by simp)]
    unfold GatherDims.offCoord
    rw [dif_pos ((GatherDims.mem_sKept _ _).mpr ⟨show ¬ (1 : Fin 3) ∈ (pickDims N A B R wf).collapsedSliceDims by simp, List.not_mem_nil⟩)]
    simp only [Nat.zero_add]
    rfl
  · unfold GatherDims.start
    rw [dif_neg (show ¬ (2 : Fin 3) ∈ (pickDims N A B R wf).startIndexMap by simp)]
    unfold GatherDims.offCoord
    rw [dif_pos ((GatherDims.mem_sKept _ _).mpr ⟨show ¬ (2 : Fin 3) ∈ (pickDims N A B R wf).collapsedSliceDims by simp, List.not_mem_nil⟩)]
    simp only [Nat.zero_add]
    rfl

/-- A word below 256 is not negative, and names itself among 256. -/
theorem not_neg (w : BitVec 32) (h : w.toNat < 256) : IntOp.cmpi .slt w 0#32 = 0#1 ∧ min w.toInt.toNat (256 - 1) = w.toNat := by
  have hi := Experts.toInt_small w (by omega)
  refine ⟨?_, by rw [hi, Int.toNat_natCast]; omega⟩
  rw [WordCmp.cmpi_slt_eq, hi]
  have e0 : (0#32 : BitVec 32).toInt = 0 := by decide
  rw [e0, decide_eq_false (by omega)]
  rfl

section
variable (x0 : IVec S1280 32) (x2 : FVec Ideal S655360x1024 .f32) (x3 x4 : FVec Ideal S1x256x1024x256 .f32)
  (x5 : FVec Ideal S1x256x256x1024 .f32) (hx : ∀ k, (x0 k).toNat < 256)

include hx in
theorem named_7 (k : Fin 1280) : val_main_v7 (F := Ideal) x0 (ix2 k 0) = x0 (ix1 k) := by
  pointwise [val_main_v7, val_main_v6, val_main_v3, val_main_v2, val_main_c]
  rw [(not_neg _ (hx _)).1]
  rfl

include hx in
theorem named_16 (k : Fin 1280) : val_main_v16 (F := Ideal) x0 (ix2 k 0) = x0 (ix1 k) := by
  pointwise [val_main_v16, val_main_v15, val_main_v12, val_main_v11, val_main_c_1]
  rw [(not_neg _ (hx _)).1]
  rfl

include hx in
theorem named_27 (k : Fin 1280) : val_main_v27 (F := Ideal) x0 (ix2 k 0) = x0 (ix1 k) := by
  pointwise [val_main_v27, val_main_v26, val_main_v23, val_main_v22, val_main_c_3]
  rw [(not_neg _ (hx _)).1]
  rfl

include hx in
/-- The gate's weight of the expert that a block names. -/
theorem gate_weight (k : Fin 1280) (a : Fin 1024) (b : Fin 256) :
    val_main_v8 (F := Ideal) x0 x3 (ix3 k a b) = x3 (ix4 0 ⟨(x0 (ix1 k)).toNat, hx _⟩ a b) := by
  unfold val_main_v8
  refine (pick_apply (N := 256) (A := 1024) (B := 256) (R := 1280) _ _ _ k a b ⟨(x0 (ix1 k)).toNat, hx _⟩ ?_).trans ?_
  · rw [named_7 x0 hx]
    exact (not_neg _ (hx _)).2
  · pointwise [val_main_v1]

include hx in
/-- The other first weight of the expert that a block names. -/
theorem up_weight (k : Fin 1280) (a : Fin 1024) (b : Fin 256) :
    val_main_v17 (F := Ideal) x0 x4 (ix3 k a b) = x4 (ix4 0 ⟨(x0 (ix1 k)).toNat, hx _⟩ a b) := by
  unfold val_main_v17
  refine (pick_apply (N := 256) (A := 1024) (B := 256) (R := 1280) _ _ _ k a b ⟨(x0 (ix1 k)).toNat, hx _⟩ ?_).trans ?_
  · rw [named_16 x0 hx]
    exact (not_neg _ (hx _)).2
  · pointwise [val_main_v10]

include hx in
/-- The third weight of the expert that a block names. -/
theorem third_weight (k : Fin 1280) (a : Fin 256) (b : Fin 1024) :
    val_main_v28 (F := Ideal) x0 x5 (ix3 k a b) = x5 (ix4 0 ⟨(x0 (ix1 k)).toNat, hx _⟩ a b) := by
  unfold val_main_v28
  refine (pick_apply (N := 256) (A := 256) (B := 1024) (R := 1280) _ _ _ k a b ⟨(x0 (ix1 k)).toNat, hx _⟩ ?_).trans ?_
  · rw [named_27 x0 hx]
    exact (not_neg _ (hx _)).2
  · pointwise [val_main_v21]

theorem token_at (k : Fin 1280) (r : Fin 512) (d : Fin 1024) :
    val_main_v0 (F := Ideal) x2 (ix3 k r d) = x2 (ix2 ⟨k.val * 512 + r.val, by omega⟩ d) := by
  pointwise [val_main_v0]

include hx in
theorem gate_at (k : Fin 1280) (r : Fin 512) (f : Fin 256) : val_main_v9 (F := Ideal) x0 x2 x3 (ix3 k r f)
    = ∑ d : Fin 1024, x2 (ix2 ⟨k.val * 512 + r.val, by omega⟩ d) * x3 (ix4 0 ⟨(x0 (ix1 k)).toNat, hx _⟩ d f) := by
  rw [val_main_v9_apply]
  refine Finset.sum_congr rfl fun d _ => ?_
  have el : lidx_main_v9 (ix3 k r f) d = ix3 k r d := by
    funext a
    match a with
    | ⟨0, _⟩ => rfl
    | ⟨1, _⟩ => rfl
    | ⟨2, _⟩ => rfl
  have er : ridx_main_v9 (ix3 k r f) d = ix3 k d f := by
    funext a
    match a with
    | ⟨0, _⟩ => rfl
    | ⟨1, _⟩ => rfl
    | ⟨2, _⟩ => rfl
  rw [el, er, token_at, gate_weight x0 x3 hx]

include hx in
theorem up_at (k : Fin 1280) (r : Fin 512) (f : Fin 256) : val_main_v18 (F := Ideal) x0 x2 x4 (ix3 k r f)
    = ∑ d : Fin 1024, x2 (ix2 ⟨k.val * 512 + r.val, by omega⟩ d) * x4 (ix4 0 ⟨(x0 (ix1 k)).toNat, hx _⟩ d f) := by
  rw [val_main_v18_apply]
  refine Finset.sum_congr rfl fun d _ => ?_
  have el : lidx_main_v18 (ix3 k r f) d = ix3 k r d := by
    funext a
    match a with
    | ⟨0, _⟩ => rfl
    | ⟨1, _⟩ => rfl
    | ⟨2, _⟩ => rfl
  have er : ridx_main_v18 (ix3 k r f) d = ix3 k d f := by
    funext a
    match a with
    | ⟨0, _⟩ => rfl
    | ⟨1, _⟩ => rfl
    | ⟨2, _⟩ => rfl
  rw [el, er, token_at, up_weight x0 x4 hx]

/-- The reference's gate. -/
theorem swish_at (i : S1280x512x256.Idx) : val_main_v19 (F := Ideal) x0 x2 x3 i = swish (val_main_v9 (F := Ideal) x0 x2 x3 i) := by
  rw [val_main_v19_apply, val_main_call0_v5_apply, val_main_call0_v4_apply, val_main_call0_v3_apply, val_main_call0_v2_apply,
    val_main_call0_v1_apply, val_main_call0_v0_apply, val_main_call0_cst_apply, val_main_call0_cst_0_apply]
  generalize val_main_v9 (F := Ideal) x0 x2 x3 i = g
  unfold swish
  rw [zero_sub]
  change (g * Ideal.div (Ideal.ofBits .f32 0x3F800000#32) (Ideal.ofBits .f32 0x3F800000#32 + Ideal.exp (-g)) : EReal) = _
  rw [Idealize.ShloMosaic.Ideal.ofBits_one_f32]

include hx in
theorem expert_at (k : Fin 1280) (r : Fin 512) (n : Fin 1024) : val_main_v29 (F := Ideal) x0 x2 x3 x4 x5 (ix3 k r n)
    = ffn (fun d => x2 (ix2 ⟨k.val * 512 + r.val, by omega⟩ d)) (fun d f => x3 (ix4 0 ⟨(x0 (ix1 k)).toNat, hx _⟩ d f))
        (fun d f => x4 (ix4 0 ⟨(x0 (ix1 k)).toNat, hx _⟩ d f)) (fun f n => x5 (ix4 0 ⟨(x0 (ix1 k)).toNat, hx _⟩ f n)) n := by
  rw [val_main_v29_apply]
  unfold ffn
  refine Finset.sum_congr rfl fun f _ => ?_
  have el : lidx_main_v29 (ix3 k r n) f = ix3 k r f := by
    funext a
    match a with
    | ⟨0, _⟩ => rfl
    | ⟨1, _⟩ => rfl
    | ⟨2, _⟩ => rfl
  have er : ridx_main_v29 (ix3 k r n) f = ix3 k f n := by
    funext a
    match a with
    | ⟨0, _⟩ => rfl
    | ⟨1, _⟩ => rfl
    | ⟨2, _⟩ => rfl
  rw [el, er, third_weight x0 x5 hx, val_main_v20_apply, swish_at, gate_at x0 x2 x3 hx, up_at x0 x2 x4 hx]
  rfl

/-- The results laid out in rows of 128. -/
theorem rows_at (y : FVec Ideal S1280x512x1024 .f32) (i : Fin 5242880) (l : Fin 128) :
    shapeCast S5242880x128 (transpose S655360x4x2x128 [0, 2, 1, 3] (shapeCast S655360x2x4x128 y shapeCasts_S1280x512x1024_S655360x2x4x128)
        transposes_S655360x2x4x128_S655360x4x2x128_0_2_1_3) shapeCasts_S655360x4x2x128_S5242880x128 (ix2 i l)
      = y (ix3 ⟨i.val / 4096, by omega⟩ ⟨i.val / 8 % 512, by omega⟩ ⟨i.val % 2 * 512 + 128 * (i.val / 2 % 4) + l.val, by omega⟩) := by
  pointwise
  congr 1
  congr 1 <;> exact Fin.ext (by dsimp only; omega)

/-- A change of format is the identity at exact values. -/
theorem same_at (z : EReal) : FloatOps.truncf (F := Ideal) .bf16 bitsLt_bf16_f32 z = z := rfl

include hx in
/-- The reference's result, at a row and a lane. -/
theorem result_at (i : Fin 5242880) (l : Fin 128) : val_main_v33 (F := Ideal) x0 x2 x3 x4 x5 (ix2 i l)
    = ffn (fun d => x2 (ix2 ⟨i.val / 8, by omega⟩ d)) (fun d f => x3 (ix4 0 ⟨(x0 (ix1 ⟨i.val / 4096, by omega⟩)).toNat, hx _⟩ d f))
        (fun d f => x4 (ix4 0 ⟨(x0 (ix1 ⟨i.val / 4096, by omega⟩)).toNat, hx _⟩ d f))
        (fun f n => x5 (ix4 0 ⟨(x0 (ix1 ⟨i.val / 4096, by omega⟩)).toNat, hx _⟩ f n))
        ⟨i.val % 2 * 512 + 128 * (i.val / 2 % 4) + l.val, by omega⟩ := by
  rw [val_main_v33_apply]
  refine (same_at _).trans ?_
  unfold val_main_v32 val_main_v31 val_main_v30
  rw [rows_at, expert_at x0 x2 x3 x4 x5 hx]
  refine ffn_congr (fun d => ?_) rfl rfl rfl
  refine congrArg x2 (congrArg (fun e => (ix2 e d : S655360x1024.Idx)) (Fin.ext ?_))
  dsimp only
  omega
end

end Cert.Proof.ExpRef
-- ==== Proof.Experts.BitsBody.lean ====
/- One grid step of the experts kernel, as compiled, runs without a fault whatever its buffers hold: the
   frame of the program needs no more than that. -/
module

public import proofs.«01_k».proof.Proof.Gen.Kernel2.Launch
public import proofs.«01_k».proof.Proof.Gen.Kernel2.Skeleton
public import Idealize.ShloMosaic.Lib.Tactic
public import Idealize.ShloMosaic.Lib.Pipeline.Frame
public import Idealize.ShloMosaic.Lib.Pipeline.FrameBody

@[expose] public section

set_option maxRecDepth 16384

noncomputable section

namespace Cert.Proof.ExpBits

open Idealize.ShloMosaic Idealize.ShloMosaic.TcCoe
open Idealize.SL Idealize.SL.RA Idealize.SL.BI
open scoped Idealize.SL.BI
open Idealize.SL.BI.BIBase Idealize.SL.Sem
open Cert.Kernel2 Cert.Kernel2.Gen

variable {F : FTy → Type} [BitOps F]

local notation "𝕄" => MT nD τ sig Unit (Elt F) ℕ (UR sig nD τ) ℕ

/-- What one step holds: the two tables along the share the pipeline hands it, each staging buffer and each
    scratch buffer at some contents. -/
def held (c : Dev nD) (T : Vec F S1280 .i32) (N : Vec F S1 .i32)
    (a1 : Memref sig .tc .smem S1280 .i32) (a2 : Memref sig .tc .smem S1 .i32)
    (a3 : Memref sig .tc .vmem S4096x128 .bf16) (a4 a5 : Memref sig .tc .vmem S1x1024x256 .f32)
    (a6 : Memref sig .tc .vmem S1x256x1024 .f32) (a7 : Memref sig .tc .vmem S4096x128 .bf16)
    (a8 : Memref sig .tc .vmem S1024x512 .bf16) (a9 : Memref sig .tc .vmem S256x1024 .bf16) : sProp 𝕄 :=
  iprop(owns (c : Thread nD τ) a1 fullShare.right T ∗ owns (c : Thread nD τ) a2 fullShare.right N
    ∗ (∃ d, owns (c : Thread nD τ) a3 fullShare d) ∗ (∃ d, owns (c : Thread nD τ) a4 fullShare d)
    ∗ (∃ d, owns (c : Thread nD τ) a5 fullShare d) ∗ (∃ d, owns (c : Thread nD τ) a6 fullShare d)
    ∗ (∃ d, owns (c : Thread nD τ) a7 fullShare d)
    ∗ (∃ d, owns (c : Thread nD τ) a8 fullShare d) ∗ (∃ d, owns (c : Thread nD τ) a9 fullShare d))

set_option maxHeartbeats 4000000 in
/-- One grid step runs from `held` to `held`, whatever else `R` the core holds. -/
theorem body (c : Dev nD) (i : grid0.Coords) (T : Vec F S1280 .i32) (N : Vec F S1 .i32)
    (a1 : Memref sig .tc .smem S1280 .i32) (h1 : a1.IsWhole) (a2 : Memref sig .tc .smem S1 .i32) (h2 : a2.IsWhole)
    (a3 : Memref sig .tc .vmem S4096x128 .bf16) (h3 : a3.IsWhole) (a4 : Memref sig .tc .vmem S1x1024x256 .f32) (h4 : a4.IsWhole)
    (a5 : Memref sig .tc .vmem S1x1024x256 .f32) (h5 : a5.IsWhole)
    (a6 : Memref sig .tc .vmem S1x256x1024 .f32) (h6 : a6.IsWhole) (a7 : Memref sig .tc .vmem S4096x128 .bf16) (h7 : a7.IsWhole)
    (a8 : Memref sig .tc .vmem S1024x512 .bf16) (h8 : a8.IsWhole) (a9 : Memref sig .tc .vmem S256x1024 .bf16) (h9 : a9.IsWhole) (R : sProp 𝕄) :
    iprop(held (F := F) c T N a1 a2 a3 a4 a5 a6 a7 a8 a9 ∗ R)
      ⊢ wp frame (wpE (defs₀ (F := F)) Variants.none c none) Set.univ
          (cc0_experts i a1 h1 a2 h2 a3 h3 a4 h4 a5 h5 a6 h6 a7 h7 a8 h8 a9 h9)
          (fun _ => iprop(held (F := F) c T N a1 a2 a3 a4 a5 a6 a7 a8 a9 ∗ R)) := by
  simp only [cc0_experts_eq_skeleton]; unfold cc0_experts_skel
  simp only [k0_part6_eq_skeleton]; unfold k0_part6_skel
  simp only [k0_part1_eq_skeleton, k0_part2_eq_skeleton, k0_part3_eq_skeleton, k0_part4_eq_skeleton, k0_part5_eq_skeleton]
  unfold held owns
  simp only [h7.set_eq_univ]
  iintro ⟨⟨⟨%f1, %e1, H1⟩, ⟨%f2, %e2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩⟩, HR⟩
  sl_exec
  all_goals split
  all_goals sl_exec
  all_goals
    sl_step
    isplitr [HR]; swap; · iexact HR
    isplitl [H1]
    · iexists f1; isplitr; · ipureintro; exact e1
      iexact H1
    isplitl [H2]
    · iexists f2; isplitr; · ipureintro; exact e2
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.Proof.ExpBits
-- ==== Proof.Experts.BitsFrame.lean ====
module

public import proofs.«01_k».proof.Proof.Experts.BitsTable
public import proofs.«01_k».proof.Proof.Experts.BitsBody

/-! The experts program, as compiled, runs and leaves its arguments as they were. Nothing is claimed here of what the
    call computes. -/

@[expose] public section

set_option maxRecDepth 16384

noncomputable section

namespace Cert.Proof.ExpBits

open Idealize.ShloMosaic Idealize.ShloMosaic.TcCoe
open Idealize.SL Idealize.SL.RA Idealize.SL.BI
open scoped Idealize.SL.BI
open Idealize.SL.BI.BIBase Idealize.SL.Sem
open Cert.Kernel2 Cert.Kernel2.Gen

variable {F : FTy → Type} [BitOps F] [∀ e, Nonempty (Elt F e)]
variable (m : (ℓ : Loc nD τ sig) → Buf (Elt F) ℓ) (ρ : Dev nD → PrngReg) (hn : Named m)

local notation "𝕄" => MT nD τ sig Unit (Elt F) ℕ (UR sig nD τ) ℕ

/-- The tables as the pipeline admits them, and the pipeline at them. -/
abbrev adm (p : Fin 1) : (pcfgs (F := F) p).Adm := ⟨tbl m, ok m hn⟩
abbrev cfgM : Pipeline.Cfg sig Λ₀ := cfg0 (F := F) ⟨tbl m, ok m hn⟩

/-- What is said of the call's data: the arrays it starts from, and nothing of what a step leaves. -/
def dats (p : Fin 1) (c : Dev nD) : Pipeline.Dat τ (Elt F) Unit ℕ (UR sig nD τ) ℕ (cfgM m hn) c where
  A := fun w => V m c (Pipeline.arrRef spec0 w)
  after := fun w t i => Classical.arbitrary _
  Φ := fun _ => iprop(Pipeline.ΦA spec0 c ∗ Pipeline.ΦT pre0 (tbl m) c)
  q := fun _ => fullShare
  owed := fun _ => 0

theorem tables_held (c : Dev nD) : (Pipeline.ΦT pre0 (tbl m) c : sProp 𝕄)
    = iprop(owns (c : Thread nD τ) (Memref.whole main_v11) fullShare.right (tbl m 0)
      ∗ owns (c : Thread nD τ) (Memref.whole main_arg1) fullShare.right (tbl m 1)) := by
  unfold Pipeline.ΦT Pipeline.prefHeld
  rw [show (Finset.univ : Finset (Fin 2)) = {(0 : Fin 2), (1 : Fin 2)} from by decide, bigSep_insert (by decide), bigSep_singleton]
  exact (congrArg₂ (fun A B : sProp 𝕄 => iprop(A ∗ B)) (owns_whole (c : Thread nD τ) main_v11 fullShare.right (tbl m 0))
    (owns_whole (c : Thread nD τ) main_arg1 fullShare.right (tbl m 1))).symm

theorem row (t : Fin (cfgM m hn).N) :
    defs₀ (F := F) .tc (cfgM m hn).body ((cfgM m hn).bodyArgs t ((cfgM m hn).slots t))
      = cc0_experts ((cfgM m hn).grid.coords t) (Memref.whole main_v11) (Memref.isWhole_whole _) (Memref.whole main_arg1) (Memref.isWhole_whole _)
        (spec0_0.stage ((cfgM m hn).slots t 0)) (hstage0_0 (((cfgM m hn).slots t 0).cast nbuf0_0))
        (spec0_1.stage ((cfgM m hn).slots t 1)) (hstage0_1 (((cfgM m hn).slots t 1).cast nbuf0_1))
        (spec0_2.stage ((cfgM m hn).slots t 2)) (hstage0_2 (((cfgM m hn).slots t 2).cast nbuf0_2))
        (spec0_3.stage ((cfgM m hn).slots t 3)) (hstage0_3 (((cfgM m hn).slots t 3).cast nbuf0_3))
        (spec0_4.stage ((cfgM m hn).slots t 4)) (hstage0_4 (((cfgM m hn).slots t 4).cast nbuf0_4))
        (Memref.whole cc0_scratch0) (Memref.isWhole_whole _) (Memref.whole cc0_scratch1) (Memref.isWhole_whole _) := by
  unfold defs₀
  rw [Defs.onTc_tc]

set_option maxHeartbeats 1600000 in
theorem obligation (c : Dev nD) :
    Pipeline.BodyObligationLoose (dats m hn 0 c) (defs₀ (F := F)) Variants.none () Set.univ (fun _ => true) := by
  intro t
  rw [bigSep_W0]
  refine triple_restated
    (body (F := F) c ((cfgM m hn).grid.coords t) (tbl m 0) (tbl m 1) (Memref.whole main_v11) (Memref.isWhole_whole _) (Memref.whole main_arg1) (Memref.isWhole_whole _)
        (spec0_0.stage ((cfgM m hn).slots t 0)) (hstage0_0 (((cfgM m hn).slots t 0).cast nbuf0_0))
        (spec0_1.stage ((cfgM m hn).slots t 1)) (hstage0_1 (((cfgM m hn).slots t 1).cast nbuf0_1))
        (spec0_2.stage ((cfgM m hn).slots t 2)) (hstage0_2 (((cfgM m hn).slots t 2).cast nbuf0_2))
        (spec0_3.stage ((cfgM m hn).slots t 3)) (hstage0_3 (((cfgM m hn).slots t 3).cast nbuf0_3))
        (spec0_4.stage ((cfgM m hn).slots t 4)) (hstage0_4 (((cfgM m hn).slots t 4).cast nbuf0_4))
        (Memref.whole cc0_scratch0) (Memref.isWhole_whole _) (Memref.whole cc0_scratch1) (Memref.isWhole_whole _)
        iprop((∃ r, prngReg c r) ∗ (dats m hn 0 c).owesAt () t.castSucc))
    (congrArg (wp frame (wpE (defs₀ (F := F)) Variants.none c none) Set.univ) (row m hn t).symm) ?_ ?_
  · show iprop(iprop(Pipeline.ΦA spec0 c ∗ Pipeline.ΦT pre0 (tbl m) c) ∗ _) ⊢ _
    rw [tables_held]
    unfold Pipeline.ΦA held
    rw [scopedRest0_eq]
    simp only [owns_whole]
    iintro ⟨⟨⟨⟨⟨%f8, S0⟩, ⟨%f9, S1⟩⟩, Hp⟩, ⟨T0, T1⟩⟩, Ho, W0, W1, W2, W3, W4⟩
    isplitr [Hp Ho]
    · isplitl [T0]; · iexact T0
      isplitl [T1]; · iexact T1
      isplitl [W0]; · iexact W0
      isplitl [W1]; · iexact W1
      isplitl [W2]; · iexact W2
      isplitl [W3]; · iexact W3
      isplitl [W4]; · iexact W4
      isplitl [S0]; · iexists f8; iexact S0
      iexists f9; iexact S1
    · isplitl [Hp]; · iexact Hp
      iexact Ho
  · intro _
    show _ ⊢ iprop(iprop(Pipeline.ΦA spec0 c ∗ Pipeline.ΦT pre0 (tbl m) c) ∗ _)
    rw [tables_held]
    unfold Pipeline.ΦA held
    rw [scopedRest0_eq]
    simp only [owns_whole]
    iintro ⟨⟨T0, T1, W0, W1, W2, W3, W4, ⟨%f8, S0⟩, ⟨%f9, S1⟩⟩, Hp, Ho⟩
    isplitr [Ho W0 W1 W2 W3 W4]
    · isplitr [T0 T1]
      · isplitr [Hp]
        · isplitl [S0]; · iexists f8; iexact S0
          iexists f9; iexact S1
        · iexact Hp
      · isplitl [T0]; · iexact T0
        iexact T1
    · isplitl [Ho]; · iexact Ho
      isplitl [W0]; · iexact W0
      isplitl [W1]; · iexact W1
      isplitl [W2]; · iexact W2
      isplitl [W3]; · iexact W3
      iexact W4

theorem launches : Pipeline.HMainP (Ix := Unit) (Name := ℕ) (U := UR sig nD τ) (Lvl := ℕ) (pcfgs (F := F)) 0 defs₀ Variants.none m main (V m) :=
  Pipeline.hmainP_prefix pcfgs 0 defs₀ Variants.none m main hostOps0 hostOps0_sub hostOps0_fresh main_chain

include hn in
set_option backward.isDefEq.respectTransparency.types false in
set_option maxHeartbeats 1600000 in
/-- The program runs, and every array that is neither an operand nor the result of the call ends as the call found it. -/
theorem runs : θ_run (defs (F := F)) (onTc (τ := τ) (main (F := F))) ⟨m, fun _ => 0, ρ⟩
    (fun r => (∀ c : Dev nD, ∀ b ∈ Pipeline.restRefs sig spec0, r.2.mem ((c : Thread nD τ).loc b) = V m c b) ∧ r.2.sem = fun _ => 0) :=
  Pipeline.θ_run_frameP_forget (Q' := _) pcfgs (adm m hn) (dats m hn) 0 launch0 defs₀ Variants.none (fun _ => true) m ρ main
    (hbody := obligation m hn) (hshare := fun c => (dats m hn 0 c).share_full fun _ => rfl) (howed := fun _ _ => rfl)
    (V := V m) (hmain := launches m) (hA := fun _ _ => rfl) (hpf := fun c k => V_pre m c k) (hΦ := fun _ _ => rfl)
    (hQ' := fun r h => ⟨fun c => (h.1 c).2, h.2⟩)

/-- A buffer that no host operation writes reaches the call as it was launched. -/
theorem V_arg0 (c : Dev nD) : V m c main_arg0 = m ((c : Thread nD τ).loc main_arg0) := by
  unfold V; after_results

theorem V_arg2 (c : Dev nD) : V m c main_arg2 = m ((c : Thread nD τ).loc main_arg2) := by
  unfold V; after_results

theorem V_arg3 (c : Dev nD) : V m c main_arg3 = m ((c : Thread nD τ).loc main_arg3) := by
  unfold V; after_results

theorem V_arg4 (c : Dev nD) : V m c main_arg4 = m ((c : Thread nD τ).loc main_arg4) := by
  unfold V; after_results

theorem V_arg5 (c : Dev nD) : V m c main_arg5 = m ((c : Thread nD τ).loc main_arg5) := by
  unfold V; after_results

include hn in
/-- The program runs and leaves its arguments as they were, every semaphore at zero. -/
theorem frame_run : θ_run (defs (F := F)) (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run (defs (F := F)) _ _).mono (fun r h =>
    ⟨fun c => ⟨(h.1 c main_arg0 (Pipeline.mem_restRefs_of main_arg0 (by decide) (by decide))).trans (V_arg0 m c),
      (h.1 c main_arg1 (Pipeline.mem_restRefs_of main_arg1 (by decide) (by decide))).trans (V_arg1 m c),
      (h.1 c main_arg2 (Pipeline.mem_restRefs_of main_arg2 (by decide) (by decide))).trans (V_arg2 m c),
      (h.1 c main_arg3 (Pipeline.mem_restRefs_of main_arg3 (by decide) (by decide))).trans (V_arg3 m c),
      (h.1 c main_arg4 (Pipeline.mem_restRefs_of main_arg4 (by decide) (by decide))).trans (V_arg4 m c),
      (h.1 c main_arg5 (Pipeline.mem_restRefs_of main_arg5 (by decide) (by decide))).trans (V_arg5 m c)⟩, h.2⟩) (runs m ρ hn)

end Cert.Proof.ExpBits
-- ==== Proof.Experts.Claims.lean ====
module

public import proofs.«01_k».proof.Defs
public import proofs.«01_k».proof.Proof.Experts.ValArray
public import proofs.«01_k».proof.Proof.Experts.ValRef
public import proofs.«01_k».proof.Proof.Experts.BitsFrame
public import Idealize.ShloMosaic.Lib.Bf16Pair

/-! The claims about the experts: both programs run, and on the rows in use the call leaves the reference's result. -/

@[expose] public section

set_option maxRecDepth 16384

noncomputable section

namespace Cert.Proof.Experts

open Idealize.ShloMosaic Idealize.ShloMosaic.TcCoe Idealize.SL.Sem

/-! ## What the precondition gives -/

/-- Under the precondition at least one block is in use and every block names an expert. -/
theorem named_bits (m : (ℓ : Loc Cert.Kernel2.nD Cert.Kernel2.τ Cert.Kernel2.sig) → Buf (Elt Bits) ℓ)
    (h : Pre_Kernel2 (hPre_experts_named := named_facts) m) : ExpBits.Named m := by
  haveI := named_facts
  obtain ⟨h1, h2⟩ := of_named _ _ _ _ _ _ (h 0)
  exact ⟨h1 _, h2⟩

theorem named_ideal (m : (ℓ : Loc Cert.Kernel2Ideal.nD Cert.Kernel2Ideal.τ Cert.Kernel2Ideal.sig) → Buf (Elt Ideal) ℓ)
    (h : Pre_Kernel2Ideal (hPre_experts_named := named_facts) m) : ExpIdeal.Named m := by
  haveI := named_facts
  obtain ⟨h1, h2⟩ := of_named _ _ _ _ _ _ (h 0)
  exact ⟨h1 _, h2⟩

/-! ## The runs -/

/-- The call, in machine words, runs and leaves its arguments and its semaphores as they were. -/
theorem bits_frame : Cert.quiescent_Kernel2 (hPre_experts_named := named_facts) := fun m g h =>
  ExpBits.frame_run m g (named_bits m h)

/-- The same at exact values. -/
theorem ideal_frame : Cert.quiescent_Kernel2Ideal (hPre_experts_named := named_facts) := fun m g h =>
  (θ_run Cert.Kernel2Ideal.defs _ _).mono (fun r k => ⟨fun c => (k.1 c).2, k.2⟩) (ExpIdeal.frame_run m g (named_ideal m h))

/-- The reference runs and leaves its arguments as they were; it has no semaphores. -/
theorem reference_frame : Cert.quiescent_Reference2Ideal := fun m ρ _ =>
  (θ_run Cert.Reference2Ideal.defs _ _).mono (fun r h => ⟨fun c => (h c).2, sem_eq_zero_of_no_sems rfl r.2⟩)
    (Cert.Reference2Ideal.Value.run m ρ)

/-! ## The words the exact-value program reads as halves -/

theorem preserves : Cert.preserves_Kernel2_Kernel2Ideal :=
  ⟨IdealRules.bf16_pair.statement _ _ (by decide), IdealRules.bf16_pair.statement _ _ (by decide), IdealRules.bf16_pack.statement _⟩

/-! ## The rows in use -/

theorem used_facts : Cert.On_rows_used.Facts := ⟨by decide, by decide, by decide, by decide, by decide⟩

section
open Cert.On_rows_used Cert.On_rows_used.Facts

/-- A row is in use when its block's number is below the number of blocks in use. -/
theorem used_at [Cert.On_rows_used.Facts] (be : IVec S1280 32) (nu : IVec S1 32) (xs : FVec Ideal S655360x1024 .f32) (wg wu : FVec Ideal S1x256x1024x256 .f32)
    (wd : FVec Ideal S1x256x256x1024 .f32) (i : Fin 5242880) (l : Fin 128) :
    Cert.On_rows_used.fn (F := Ideal) be nu xs wg wu wd (ix2 i l) = IntOp.cmpi .slt (BitVec.ofNat 32 (i.val / 4096)) (nu (Shape.Idx.ofFin 0)) := by
  have h : (ix1 0 : S1.Idx) = Shape.Idx.ofFin 0 := idx_one _
  unfold Cert.On_rows_used.fn
  pointwise
  rw [h]

theorem in_use [Cert.On_rows_used.Facts] (be : IVec S1280 32) (nu : IVec S1 32) (xs : FVec Ideal S655360x1024 .f32) (wg wu : FVec Ideal S1x256x1024x256 .f32)
    (wd : FVec Ideal S1x256x256x1024 .f32) (hu : 1 ≤ (nu (Shape.Idx.ofFin 0)).toInt) (i : Fin 5242880) (l : Fin 128)
    (h : Cert.On_rows_used.fn (F := Ideal) be nu xs wg wu wd (ix2 i l) = 1#1) : i.val / 4096 < (nu (Shape.Idx.ofFin 0)).toNat := by
  have e : ∀ b : Bool, BitVec.ofBool b = 1#1 → b = true := by decide
  rw [used_at, slt_word _ (by omega) _ hu] at h
  exact of_decide_eq_true (e _ h)
end

/-! ## The values -/

/-- The call and the reference, run from the same arguments, end with the same array on the rows in use. -/
theorem value : Cert.algebraic_Kernel2Ideal_Reference2Ideal_on_rows_used (hPre_experts_named := named_facts) (hOn_rows_used := used_facts) := by
  haveI := named_facts
  haveI := used_facts
  intro m g m' g' hpre hargs
  have hn := named_ideal m hpre
  refine ⟨fun c => Cert.Reference2Ideal.Read.val_main_v33 (F := Ideal) (ExpIdeal.be m c) (ExpIdeal.ax m c) (ExpIdeal.ag m c) (ExpIdeal.au m c) (ExpIdeal.ad m c),
    (θ_run _ _ _).mono (fun r h c => ⟨fun i hi => ?_, (h.1 c).2⟩) (ExpIdeal.frame_run m g hn),
    (θ_run _ _ _).mono (fun r h c => ⟨fun i _ => congrFun ((h c).1.trans ?_) i, (h c).2⟩) (Cert.Reference2Ideal.Value.run m' g')⟩
  · obtain ⟨a, l, rfl⟩ : ∃ (a : Fin 5242880) (l : Fin 128), i = ix2 a l := ⟨i 0, i 1, by
      funext b
      match b with
      | ⟨0, _⟩ => rfl
      | ⟨1, _⟩ => rfl⟩
    have hc : c = 0 := Subsingleton.elim _ _
    subst hc
    have hu := in_use _ _ _ _ _ _ hn.used a l hi
    exact (congrFun (h.1 0).1 _).trans ((ExpIdeal.final_at m hn 0 a l hu).trans (ExpRef.result_at _ _ _ _ _ hn.expert a l).symm)
  · obtain ⟨h0, h1, h2, h3, h4, h5⟩ := hargs c
    rw [Cert.Reference2Ideal.Read.val_main_v33_eq, h0, h2, h3, h4, h5]

end Cert.Proof.Experts
-- ==== Proof.Inproj.Spec.lean ====
module

public import Idealize.ShloMosaic.Lib.Pipeline.ValueKit
public import Idealize.ShloMosaic.Lib.Pointwise
public import Idealize.ShloMosaic.Lib.Claim
public import Idealize.ShloMosaic.Lib.IdealHost

/-! The input projection as a function of its arguments on the extended reals: the modulated norm, the product with the
    weights, the norm of a head and the rotation of its lanes; and the two rearrangements that separate the call from it. -/

@[expose] public section

set_option maxRecDepth 16384

noncomputable section

namespace Cert.Proof.Inproj

open Idealize.ShloMosaic

/-- The sequence `[16, 4096, 1024]`. -/
abbrev TX := FVec Ideal ⟨3, ![16, 4096, 1024]⟩ .f32
/-- The modulation `[16, 1, 6144]`. -/
abbrev TM := FVec Ideal ⟨3, ![16, 1, 6144]⟩ .f32
/-- The norm's weights `[1, 1024]`. -/
abbrev TN := FVec Ideal ⟨2, ![1, 1024]⟩ .f32
/-- The projection's weights `[1, 1024, 2304]`. -/
abbrev TW := FVec Ideal ⟨3, ![1, 1024, 2304]⟩ .f32
/-- The weights of a head's norm `[1, 64]`. -/
abbrev TH := FVec Ideal ⟨2, ![1, 64]⟩ .f32
/-- A table of the rotation's angles `[4096, 32]`. -/
abbrev TR := FVec Ideal ⟨2, ![4096, 32]⟩ .f32

/-- The norms' small constant, as the programs write it. -/
abbrev eps : EReal := Ideal.ofBits FTy.f32 0x358637BD#32
/-- One eighth, as the programs write it. -/
abbrev eighth : EReal := Ideal.ofBits FTy.f32 0x3E000000#32
/-- One, as the programs write it. -/
abbrev one : EReal := Ideal.ofBits FTy.f32 0x3F800000#32

/-- A row over the root of its mean square, times the weights, scaled and shifted. -/
def hrow (x n sh sc : Fin 1024 → EReal) (e : Fin 1024) : EReal :=
  x e * Ideal.rsqrt (Ideal.div (∑ y, x y * x y) (Ideal.ofBits FTy.f32 0x44800000#32) + eps) * n e * (one + sc e) + sh e

/-- The projection of row `l` of batch row `b`, at column `c`. -/
def proj (x : TX) (m : TM) (n : TN) (w : TW) (b : Fin 16) (l : Fin 4096) (c : Fin 2304) : EReal :=
  ∑ e : Fin 1024, hrow (fun y => x (ix3 b l y)) (fun y => n (ix2 0 y)) (fun y => m (ix3 b 0 ⟨y.val, by omega⟩))
    (fun y => m (ix3 b 0 ⟨1024 + y.val, by omega⟩)) e * w (ix3 0 e c)

/-- A head over the root of its mean square, times the weights. -/
def hnorm (t w : Fin 64 → EReal) (d : Fin 64) : EReal :=
  t d * Ideal.rsqrt (Ideal.div (∑ y, t y * t y) (Ideal.ofBits FTy.f32 0x42800000#32) + eps) * w d

/-- A head's lanes rotated in pairs: lanes `2 j` and `2 j + 1` by angle `j`. -/
def rot (t : Fin 64 → EReal) (c s : Fin 32 → EReal) (d : Fin 64) : EReal :=
  if d.val % 2 = 0 then
    t ⟨d.val / 2 * 2, by omega⟩ * c ⟨d.val / 2, by omega⟩ - t ⟨d.val / 2 * 2 + 1, by omega⟩ * s ⟨d.val / 2, by omega⟩
  else
    t ⟨d.val / 2 * 2, by omega⟩ * s ⟨d.val / 2, by omega⟩ + t ⟨d.val / 2 * 2 + 1, by omega⟩ * c ⟨d.val / 2, by omega⟩

/-- A head of the queries or of the keys: the 64 columns of the projection from `64 h`, normed and rotated. -/
def head (x : TX) (m : TM) (n : TN) (w : TW) (hn : TH) (c s : TR) (b : Fin 16) (l : Fin 4096) (h : Fin 10) (d : Fin 64) : EReal :=
  rot (hnorm (fun y => proj x m n w b l ⟨64 * h.val + y.val, by omega⟩) fun y => hn (ix2 0 y))
    (fun j => c (ix2 l j)) (fun j => s (ix2 l j)) d

/-- The head of the queries that the call's order has at column `x`: pair `x / 128` holds the heads `j` and `j + 4`. -/
abbrev qhead (x : Fin 512) : Fin 10 := ⟨x.val / 64 % 2 * 4 + x.val / 128, by omega⟩
/-- The head of the keys at column `x`. -/
abbrev khead (x : Fin 128) : Fin 10 := ⟨8 + x.val / 64, by omega⟩

/-! ## A head's mean square as a product with a table -/

theorem sixtyfour_eq : Ideal.ofBits FTy.f32 0x42800000#32 = ((64 : ℝ) : EReal) := by
  simp [Ideal.ofBits, Ideal.ieee, -EReal.coe_mul]; norm_num

theorem recip_eq : Ideal.ofBits FTy.f32 0x3C800000#32 = ((1 / 64 : ℝ) : EReal) := by
  simp [Ideal.ofBits, Ideal.ieee, -EReal.coe_mul]; norm_num

/-- A constant that is a number at least zero goes into a sum. -/
theorem sum_scale {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- An entry of the table that averages heads: a 64th where both columns lie in one head. -/
def avg (y x : ℕ) : EReal := if y / 64 = x / 64 then Ideal.ofBits FTy.f32 0x3C800000#32 else 0

/-- The product of a row with the table is the mean over the head. -/
theorem mean_head (H : ℕ) (f : Fin (64 * H) → EReal) (x : Fin (64 * H)) :
    (∑ y, f y * avg y.val x.val)
      = Ideal.div (∑ d : Fin 64, f ⟨64 * (x.val / 64) + d.val, by omega⟩) (Ideal.ofBits FTy.f32 0x42800000#32) := by
  rw [sixtyfour_eq, Ideal.div_coe (by norm_num), sum_scale _ _ _ (by norm_num)]
  have hinj : Function.Injective (fun d : Fin 64 => (⟨64 * (x.val / 64) + d.val, by omega⟩ : Fin (64 * H))) := by
    intro a b h
    have := congrArg Fin.val h
    dsimp only at this
    exact Fin.ext (by omega)
  rw [← Finset.sum_subset (Finset.subset_univ (Finset.univ.map ⟨_, hinj⟩)), Finset.sum_map]
  · refine Finset.sum_congr rfl fun d _ => ?_
    show f ⟨64 * (x.val / 64) + d.val, _⟩ * avg (64 * (x.val / 64) + d.val) x.val = _
    unfold avg
    rw [if_pos (by omega), recip_eq]
  · intro y _ hy
    unfold avg
    rw [if_neg, mul_zero]
    intro h
    refine hy (Finset.mem_map.mpr ⟨⟨y.val % 64, by omega⟩, Finset.mem_univ _, Fin.ext ?_⟩)
    show 64 * (x.val / 64) + y.val % 64 = y.val
    omega

/-! ## The rotation with a sign in its table -/

/-- Minus one and one, by lane. -/
def sgn (d : ℕ) : EReal := if d % 2 = 0 then Ideal.ofBits FTy.f32 0xBF800000#32 else Ideal.ofBits FTy.f32 0x3F800000#32

theorem neg_one_eq : Ideal.ofBits FTy.f32 0xBF800000#32 = ((-1 : ℝ) : EReal) := by
  simp [Ideal.ofBits, Ideal.ieee, -EReal.coe_mul]; norm_num

theorem one_eq : Ideal.ofBits FTy.f32 0x3F800000#32 = (1 : EReal) := Idealize.ShloMosaic.Ideal.ofBits_one_f32

/-- A lane times the cosine plus its partner times the signed sine is the rotated lane. -/
theorem rot_signed (t : Fin 64 → EReal) (c s : Fin 32 → EReal) (d : Fin 64) :
    t d * c ⟨d.val / 2, by omega⟩
        + t ⟨if d.val % 2 = 0 then d.val + 1 else d.val - 1, by split <;> omega⟩ * (s ⟨d.val / 2, by omega⟩ * sgn d.val)
      = rot t c s d := by
  unfold rot sgn
  split
  · next h =>
    rw [neg_one_eq]
    have e1 : (⟨d.val / 2 * 2, by omega⟩ : Fin 64) = d := Fin.ext (by dsimp only; omega)
    have e2 : (⟨d.val / 2 * 2 + 1, by omega⟩ : Fin 64) = ⟨d.val + 1, by omega⟩ := Fin.ext (by dsimp only; omega)
    rw [e1, e2, EReal.coe_neg, EReal.coe_one, mul_neg, mul_one, mul_neg, sub_eq_add_neg]
  · next h =>
    rw [one_eq]
    have e1 : (⟨d.val / 2 * 2, by omega⟩ : Fin 64) = ⟨d.val - 1, by omega⟩ := Fin.ext (by dsimp only; omega)
    have e2 : (⟨d.val / 2 * 2 + 1, by omega⟩ : Fin 64) = d := Fin.ext (by dsimp only; omega)
    rw [e1, e2, mul_one, add_comm]

end Cert.Proof.Inproj
-- ==== Proof.Inproj.Host.lean ====
module

public import proofs.«01_k».proof.Proof.Gen.Kernel3Ideal.Value
public import proofs.«01_k».proof.Proof.Inproj.Spec
public import Idealize.ShloMosaic.Lib.Pipeline.ValueKit
public import Idealize.ShloMosaic.Lib.Pointwise
public import Idealize.ShloMosaic.Lib.Claim

/-! The arrays that the host code lays out for the projection's call, read at an index from the arguments. -/

@[expose] public section

set_option maxRecDepth 16384

noncomputable section

namespace Cert.Proof.Inproj

open Idealize.ShloMosaic Idealize.ShloMosaic.TcCoe Idealize.SL.Sem
open Cert.Kernel3Ideal Cert.Kernel3Ideal.Gen

variable (m : (ℓ : Loc nD τ sig) → Buf (Elt Ideal) ℓ)

/-- The sequence. -/
abbrev ax (c : Dev nD) : FVec Ideal S16x4096x1024 .f32 := m ((c : Thread nD τ).loc main_arg0)
/-- The modulation. -/
abbrev am (c : Dev nD) : FVec Ideal S16x1x6144 .f32 := m ((c : Thread nD τ).loc main_arg1)
/-- The norm's weights. -/
abbrev an (c : Dev nD) : FVec Ideal S1x1024 .f32 := m ((c : Thread nD τ).loc main_arg2)
/-- The projection's weights. -/
abbrev aw (c : Dev nD) : FVec Ideal S1x1024x2304 .f32 := m ((c : Thread nD τ).loc main_arg3)
/-- The weights of a query head's norm. -/
abbrev ahq (c : Dev nD) : FVec Ideal S1x64 .f32 := m ((c : Thread nD τ).loc main_arg4)
/-- The weights of a key head's norm. -/
abbrev ahk (c : Dev nD) : FVec Ideal S1x64 .f32 := m ((c : Thread nD τ).loc main_arg5)
/-- The cosines. -/
abbrev acos (c : Dev nD) : FVec Ideal S4096x32 .f32 := m ((c : Thread nD τ).loc main_arg6)
/-- The sines. -/
abbrev asin (c : Dev nD) : FVec Ideal S4096x32 .f32 := m ((c : Thread nD τ).loc main_arg7)

/-- The column that the table of head pairs holds for a column of the call's order. -/
def perm (x : ℕ) : ℕ := (x / 64 % 2 * 4 + x / 128) * 64 + x % 64

theorem perm_lt (x : Fin 512) : perm x.val < 512 := by unfold perm; omega

/-- The start indices (negative ones wrapped, of which there are none) are the table. -/
theorem table_start : ∀ x : Fin 512,
    Scalar.select (IntOp.cmpi .slt (lit0 x) 0#32) (lit0 x + 512#32) (lit0 x) = BitVec.ofNat 32 (perm x.val) := by
  decide +kernel

theorem table_nat : ∀ x : Fin 512, min (BitVec.ofNat 32 (perm x.val)).toInt.toNat (512 - 1) = perm x.val := by
  decide +kernel

/-- The gather of whole columns along the last axis of a matrix. -/
theorem gather_cols (x : FVec Ideal S1024x512 .f32) (i : IVec S512x1 32) (l : Fin 1024) (e : Fin 512) (p : Fin 512)
    (hp : min (i (ix2 e 0)).toInt.toNat (512 - 1) = p.val) :
    Host.gather gather_S1024x512_S512x1_S1024x512_0_1_n_n_1_1_10241 x i (ix2 l e) = x (ix2 l p) := by
  unfold Host.gather
  congr 1
  funext a
  refine Fin.ext ?_
  show GatherDims.start gather_S1024x512_S512x1_S1024x512_0_1_n_n_1_1_10241 (ix2 l e) i a + GatherDims.batchCoord gather_S1024x512_S512x1_S1024x512_0_1_n_n_1_1_10241 (ix2 l e) a + GatherDims.offCoord gather_S1024x512_S512x1_S1024x512_0_1_n_n_1_1_10241 (ix2 l e) a = _
  rw [GatherDims.batchCoord_eq_zero _ _ _ List.not_mem_nil]
  have h : a = (0 : Fin 2) ∨ a = (1 : Fin 2) := by
    match a with
    | ⟨0, _⟩ => exact Or.inl rfl
    | ⟨1, _⟩ => exact Or.inr rfl
  rcases h with rfl | rfl
  · unfold GatherDims.start
    rw [dif_neg (show ¬(0 : Fin 2) ∈ GatherDims.startIndexMap gather_S1024x512_S512x1_S1024x512_0_1_n_n_1_1_10241 by decide)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ GatherDims.startIndexMap gather_S1024x512_S512x1_S1024x512_0_1_n_n_1_1_10241 by decide)]
    have hsi : GatherDims.siIdx gather_S1024x512_S512x1_S1024x512_0_1_n_n_1_1_10241 (ix2 l e)
        ⟨List.idxOf (1 : Fin 2) (GatherDims.startIndexMap gather_S1024x512_S512x1_S1024x512_0_1_n_n_1_1_10241),
          List.idxOf_lt_length_iff.2 (List.mem_singleton.mpr rfl)⟩ = ix2 e 0 := by
      funext b; refine Fin.ext ?_
      match b with
      | ⟨0, _⟩ => rfl
      | ⟨1, _⟩ => rfl
    rw [hsi]
    exact hp

/-- The start indices as an array. -/
abbrev starts : IVec S512x1 32 :=
  broadcastInDim S512x1 ![0] bcast_S512_S512x1_0
    (select
      (cmpi CmpIPredicate.slt (fun i => lit0 (S512.rowMajor i)) (broadcastInDim S512 ![] bcast_S_S512 (constantI S_ 32 0#32)))
      (addi (fun i => lit0 (S512.rowMajor i)) (broadcastInDim S512 ![] bcast_S_S512 (constantI S_ 32 512#32)))
      fun i => lit0 (S512.rowMajor i))

/-- The start indices as the host code computes them. -/
theorem start_nat (x : Fin 512) : min (BitVec.toInt (starts (ix2 x 0))).toNat (512 - 1) = perm x.val := by
  unfold starts
  pointwise
  have h : S512.rowMajor (ix1 x) = x := by
    apply Fin.ext
    rw [Shape.rowMajor_val_one]
    rfl
  rw [h]
  show min (Scalar.select (IntOp.cmpi .slt (lit0 x) 0#32) (lit0 x + 512#32) (lit0 x)).toInt.toNat (512 - 1) = _
  rw [table_start, table_nat]

theorem w_eq (c : Dev nD) : (V m c main_v12 : FVec Ideal S1024x2304 .bf16)
    = (truncf .bf16 (concatenate S1024x2304 1
        [⟨S1024x512, (Host.gather gather_S1024x512_S512x1_S1024x512_0_1_n_n_1_1_10241 (extractStridedSlice S1024x512 ![0, 0] (shapeCast S1024x2304 (aw m c) shapeCasts_S1x1024x2304_S1024x2304 : FVec Ideal S1024x2304 .f32) slices_S1024x2304_S1024x512_0_0 : FVec Ideal S1024x512 .f32) starts : FVec Ideal S1024x512 .f32)⟩,
         ⟨S1024x1792, (extractStridedSlice S1024x1792 ![0, 512] (shapeCast S1024x2304 (aw m c) shapeCasts_S1x1024x2304_S1024x2304 : FVec Ideal S1024x2304 .f32) slices_S1024x2304_S1024x1792_0_512 : FVec Ideal S1024x1792 .f32)⟩]
        concatenates_S1024x512_S1024x1792_S1024x2304_d1 : FVec Ideal S1024x2304 .f32) bitsLt_bf16_f32 : FVec Ideal S1024x2304 .bf16) := by
  unfold V
  simp only [hostOps0, hostOps0_1, hostOps0_2, List.flatten_cons, List.flatten_nil, List.append_nil, List.cons_append, List.nil_append]
  after_results
  rfl

/-- The weights laid out for the call: the queries' columns in the order of head pairs. -/
theorem wq_at (c : Dev nD) (e : Fin 1024) (x : Fin 2304) (hx : x.val < 512) :
    (V m c main_v12 : FVec Ideal S1024x2304 .bf16) (ix2 e x)
      = aw m c (ix3 0 e ⟨perm x.val, by have := perm_lt ⟨x.val, hx⟩; dsimp only at this; omega⟩) := by
  rw [w_eq]
  generalize hg : (Host.gather gather_S1024x512_S512x1_S1024x512_0_1_n_n_1_1_10241 (extractStridedSlice S1024x512 ![0, 0] (shapeCast S1024x2304 (aw m c) shapeCasts_S1x1024x2304_S1024x2304 : FVec Ideal S1024x2304 .f32) slices_S1024x2304_S1024x512_0_0 : FVec Ideal S1024x512 .f32) starts : FVec Ideal S1024x512 .f32) = g
  pointwise
  rw [dif_pos hx, ← hg, gather_cols _ _ e ⟨x.val, hx⟩ ⟨perm x.val, perm_lt ⟨x.val, hx⟩⟩ (start_nat ⟨x.val, hx⟩)]
  pointwise

/-- The weights laid out for the call: the other columns stay. -/
theorem w_at (c : Dev nD) (e : Fin 1024) (x : Fin 2304) (hx : 512 ≤ x.val) :
    (V m c main_v12 : FVec Ideal S1024x2304 .bf16) (ix2 e x) = aw m c (ix3 0 e x) := by
  rw [w_eq]
  generalize (Host.gather gather_S1024x512_S512x1_S1024x512_0_1_n_n_1_1_10241 (extractStridedSlice S1024x512 ![0, 0] (shapeCast S1024x2304 (aw m c) shapeCasts_S1x1024x2304_S1024x2304 : FVec Ideal S1024x2304 .f32) slices_S1024x2304_S1024x512_0_0 : FVec Ideal S1024x512 .f32) starts : FVec Ideal S1024x512 .f32) = g
  pointwise
  rw [dif_neg (by omega)]
  exact congrArg (fun z => aw m c (ix3 0 e z)) (Fin.ext (by dsimp only; omega))

/-- The sequence is passed as it is. -/
theorem x_at (c : Dev nD) : (V m c main_arg0 : FVec Ideal S16x4096x1024 .f32) = ax m c := by
  exact V_main_arg0 m c

theorem m_eq (c : Dev nD) : (V m c main_v0 : FVec Ideal S16x6x1024 .f32) = shapeCast S16x6x1024 (am m c) shapeCasts_S16x1x6144_S16x6x1024 := by
  unfold V
  simp only [hostOps0, hostOps0_1, hostOps0_2, List.flatten_cons, List.flatten_nil, List.append_nil, List.cons_append, List.nil_append]
  after_results
  rfl

/-- The modulation's six rows. -/
theorem m_at (c : Dev nD) (b : Fin 16) (r : Fin 6) (e : Fin 1024) :
    (V m c main_v0 : FVec Ideal S16x6x1024 .f32) (ix3 b r e) = am m c (ix3 b 0 ⟨r.val * 1024 + e.val, by omega⟩) := by
  rw [m_eq]
  pointwise

theorem n_eq (c : Dev nD) : (V m c main_v33 : FVec Ideal S1x1024 .f32)
    = broadcastInDim S1x1024 ![1] bcast_S1024_S1x1024_1 (shapeCast S1024 (an m c) shapeCasts_S1x1024_S1024 : FVec Ideal S1024 .f32) := by
  unfold V
  simp only [hostOps0, hostOps0_1, hostOps0_2, List.flatten_cons, List.flatten_nil, List.append_nil, List.cons_append, List.nil_append]
  after_results
  rfl

/-- The norm's weights. -/
theorem n_at (c : Dev nD) (e : Fin 1024) : (V m c main_v33 : FVec Ideal S1x1024 .f32) (ix2 0 e) = an m c (ix2 0 e) := by
  rw [n_eq]
  pointwise

theorem hq_eq (c : Dev nD) : (V m c main_v26 : FVec Ideal S1x512 .f32)
    = broadcastInDim S1x512 ![1] bcast_S512_S1x512_1 (shapeCast S512 (broadcastInDim S8x64 ![0, 1] bcast_S1x64_S8x64_0_1
        (shapeCast S1x64 (shapeCast S64 (ahq m c) shapeCasts_S1x64_S64 : FVec Ideal S64 .f32) shapeCasts_S64_S1x64 : FVec Ideal S1x64 .f32) : FVec Ideal S8x64 .f32) shapeCasts_S8x64_S512 : FVec Ideal S512 .f32) := by
  unfold V
  simp only [hostOps0, hostOps0_1, hostOps0_2, List.flatten_cons, List.flatten_nil, List.append_nil, List.cons_append, List.nil_append]
  after_results
  rfl

/-- The query heads' weights, repeated for each head. -/
theorem hq_at (c : Dev nD) (x : Fin 512) :
    (V m c main_v26 : FVec Ideal S1x512 .f32) (ix2 0 x) = ahq m c (ix2 0 ⟨x.val % 64, by omega⟩) := by
  rw [hq_eq]
  pointwise

theorem hk_eq (c : Dev nD) : (V m c main_v31 : FVec Ideal S1x128 .f32)
    = broadcastInDim S1x128 ![1] bcast_S128_S1x128_1 (shapeCast S128 (broadcastInDim S2x64 ![0, 1] bcast_S1x64_S2x64_0_1
        (shapeCast S1x64 (shapeCast S64 (ahk m c) shapeCasts_S1x64_S64 : FVec Ideal S64 .f32) shapeCasts_S64_S1x64 : FVec Ideal S1x64 .f32) : FVec Ideal S2x64 .f32) shapeCasts_S2x64_S128 : FVec Ideal S128 .f32) := by
  unfold V
  simp only [hostOps0, hostOps0_1, hostOps0_2, List.flatten_cons, List.flatten_nil, List.append_nil, List.cons_append, List.nil_append]
  after_results
  rfl

/-- The key heads' weights, repeated for each head. -/
theorem hk_at (c : Dev nD) (x : Fin 128) :
    (V m c main_v31 : FVec Ideal S1x128 .f32) (ix2 0 x) = ahk m c (ix2 0 ⟨x.val % 64, by omega⟩) := by
  rw [hk_eq]
  pointwise

theorem cos_eq (c : Dev nD) : (V m c main_v43 : FVec Ideal S4096x128 .f32)
    = shapeCast S4096x128 (broadcastInDim S1x4096x2x64 ![0, 1, 2, 3] bcast_S1x4096x1x64_S1x4096x2x64_0_1_2_3
        (shapeCast S1x4096x1x64 (shapeCast S4096x64 (broadcastInDim S4096x32x2 ![0, 1] bcast_S4096x32_S4096x32x2_0_1 (acos m c) : FVec Ideal S4096x32x2 .f32)
          shapeCasts_S4096x32x2_S4096x64 : FVec Ideal S4096x64 .f32) shapeCasts_S4096x64_S1x4096x1x64 : FVec Ideal S1x4096x1x64 .f32) : FVec Ideal S1x4096x2x64 .f32) shapeCasts_S1x4096x2x64_S4096x128 := by
  unfold V
  simp only [hostOps0, hostOps0_1, hostOps0_2, List.flatten_cons, List.flatten_nil, List.append_nil, List.cons_append, List.nil_append]
  after_results
  rfl

/-- The cosines, each for two lanes and two heads. -/
theorem cos_at (c : Dev nD) (l : Fin 4096) (x : Fin 128) :
    (V m c main_v43 : FVec Ideal S4096x128 .f32) (ix2 l x) = acos m c (ix2 l ⟨x.val % 64 / 2, by omega⟩) := by
  rw [cos_eq]
  pointwise

/-- The signs of a head's lanes. -/
abbrev signs : FVec Ideal S64 .f32 :=
  shapeCast S64 (broadcastInDim S32x2 ![0, 1] bcast_S1x2_S32x2_0_1 (shapeCast S1x2 (fun i => FloatOps.ofBits .f32 (lit1 (S2.rowMajor i)) : FVec Ideal S2 .f32) shapeCasts_S2_S1x2 : FVec Ideal S1x2 .f32) : FVec Ideal S32x2 .f32) shapeCasts_S32x2_S64

/-- A lane's sign: minus one for an even lane, one for an odd one. -/
theorem sign_at (d : Fin 64) : signs (ix1 d) = sgn d.val := by
  unfold signs
  pointwise
  unfold sgn
  have h : ∀ j : Fin 2, S2.rowMajor (ix1 j) = j := by
    intro j
    apply Fin.ext
    rw [Shape.rowMajor_val_one]
    rfl
  rw [h]
  split
  · next hd =>
    have : (⟨d.val % 2, by omega⟩ : Fin 2) = 0 := Fin.ext hd
    rw [this]; rfl
  · next hd =>
    have : (⟨d.val % 2, by omega⟩ : Fin 2) = 1 := Fin.ext (by show d.val % 2 = 1; omega)
    rw [this]; rfl

theorem sin_eq (c : Dev nD) : (V m c main_v49 : FVec Ideal S4096x128 .f32)
    = shapeCast S4096x128 (broadcastInDim S1x4096x2x64 ![0, 1, 2, 3] bcast_S1x4096x1x64_S1x4096x2x64_0_1_2_3
        (shapeCast S1x4096x1x64 (mulf (shapeCast S4096x64 (broadcastInDim S4096x32x2 ![0, 1] bcast_S4096x32_S4096x32x2_0_1 (asin m c) : FVec Ideal S4096x32x2 .f32)
          shapeCasts_S4096x32x2_S4096x64 : FVec Ideal S4096x64 .f32)
          (broadcastInDim S4096x64 ![0, 1] bcast_S1x64_S4096x64_0_1 (broadcastInDim S1x64 ![1] bcast_S64_S1x64_1 signs : FVec Ideal S1x64 .f32) : FVec Ideal S4096x64 .f32) : FVec Ideal S4096x64 .f32)
          shapeCasts_S4096x64_S1x4096x1x64 : FVec Ideal S1x4096x1x64 .f32) : FVec Ideal S1x4096x2x64 .f32) shapeCasts_S1x4096x2x64_S4096x128 := by
  unfold V
  simp only [hostOps0, hostOps0_1, hostOps0_2, List.flatten_cons, List.flatten_nil, List.append_nil, List.cons_append, List.nil_append]
  after_results
  rfl

/-- The signed sines, each for two lanes and two heads. -/
theorem sin_at (c : Dev nD) (l : Fin 4096) (x : Fin 128) :
    (V m c main_v49 : FVec Ideal S4096x128 .f32) (ix2 l x)
      = asin m c (ix2 l ⟨x.val % 64 / 2, by omega⟩) * sgn (x.val % 64) := by
  rw [sin_eq]
  have h := sign_at ⟨x.val % 64, by omega⟩
  generalize signs = s at *
  pointwise
  rw [h]

/-- The eight-by-eight identity. -/
abbrev eye8 : FVec Ideal S8x8 .f32 :=
  uitofp .f32 (cmpi .eq (addi (iotaInDim S8x8 32 0) (broadcastInDim S8x8 ![] bcast_S_S8x8 (constantI S_ 32 0#32))) (iotaInDim S8x8 32 1))

theorem eye_bit : ∀ a b : Fin 8,
    IntOp.cmpi .eq (IntOp.addi (BitVec.ofNat 32 a.val) 0#32) (BitVec.ofNat 32 b.val) = if a = b then 1#1 else 0#1 := by
  decide +kernel

theorem eye_at (a b : Fin 8) : eye8 (ix2 a b) = if a = b then (1 : EReal) else 0 := by
  unfold eye8
  pointwise
  rw [eye_bit]
  split
  · show ((((1#1).toNat : ℝ)) : EReal) = 1
    simp
  · show ((((0#1).toNat : ℝ)) : EReal) = 0
    simp

theorem g_eq (c : Dev nD) : (V m c main_v21 : FVec Ideal S512x512 .bf16)
    = (truncf .bf16 (shapeCast S512x512 (mulf
        (broadcastInDim S8x64x8x64 ![0, 1, 2, 3] bcast_S8x1x8x1_S8x64x8x64_0_1_2_3 (broadcastInDim S8x1x8x1 ![0, 2] bcast_S8x8_S8x1x8x1_0_2 eye8 : FVec Ideal S8x1x8x1 .f32) : FVec Ideal S8x64x8x64 .f32)
        (broadcastInDim S8x64x8x64 ![0, 1, 2, 3] bcast_S1x64x1x64_S8x64x8x64_0_1_2_3 (broadcastInDim S1x64x1x64 ![1, 3] bcast_S64x64_S1x64x1x64_1_3
          (broadcastInDim S64x64 ![] bcast_S_S64x64 (constant S_ .f32 0x3C800000#32 : FVec Ideal S_ .f32) : FVec Ideal S64x64 .f32) : FVec Ideal S1x64x1x64 .f32) : FVec Ideal S8x64x8x64 .f32) : FVec Ideal S8x64x8x64 .f32)
        shapeCasts_S8x64x8x64_S512x512 : FVec Ideal S512x512 .f32) bitsLt_bf16_f32 : FVec Ideal S512x512 .bf16) := by
  unfold V
  simp only [hostOps0, hostOps0_1, hostOps0_2, List.flatten_cons, List.flatten_nil, List.append_nil, List.cons_append, List.nil_append]
  after_results
  rfl

/-- The table that averages heads. -/
theorem g_at (c : Dev nD) (y x : Fin 512) : (V m c main_v21 : FVec Ideal S512x512 .bf16) (ix2 y x) = avg y.val x.val := by
  rw [g_eq]
  have h := eye_at ⟨y.val / 64, by omega⟩ ⟨x.val / 64, by omega⟩
  generalize eye8 = g at *
  pointwise
  rw [h]
  unfold avg
  by_cases hh : y.val / 64 = x.val / 64
  · rw [if_pos (Fin.ext hh), if_pos hh, one_mul]
  · rw [if_neg (fun e => hh (congrArg Fin.val e)), if_neg hh, zero_mul]

end Cert.Proof.Inproj
-- ==== Proof.Inproj.Block.lean ====
module

public import proofs.«01_k».proof.Proof.Gen.Kernel3Ideal.Value
public import proofs.«01_k».proof.Proof.Inproj.Spec
public import Idealize.ShloMosaic.Lib.Pipeline.ValueKit
public import Idealize.ShloMosaic.Lib.Pointwise
public import Idealize.ShloMosaic.Lib.Claim

/-! The values that the projection's body stores for one block of 512 rows, at a row and a column. -/

@[expose] public section

set_option maxRecDepth 16384

noncomputable section

namespace Cert.Proof.Inproj

open Idealize.ShloMosaic Idealize.ShloMosaic.TcCoe Idealize.SL.Sem
open Cert.Kernel3Ideal Cert.Kernel3Ideal.Gen

/-- A lane times its cosine plus its partner times its signed sine, in a row of heads beside each other. -/
theorem lane_step (H : ℕ) (q : Fin (64 * H) → EReal) (T : ℕ → Fin 64 → EReal) (hq : ∀ x, q x = T (x.val / 64) ⟨x.val % 64, by omega⟩)
    (c s : Fin 32 → EReal) (x u d : Fin (64 * H)) (hu : x.val % 2 = 0 → u.val = x.val + 1) (hd : x.val % 2 = 1 → d.val = x.val - 1) :
    q x * c ⟨x.val % 64 / 2, by omega⟩ + (if x.val % 2 = 0 then q u else q d) * (s ⟨x.val % 64 / 2, by omega⟩ * sgn (x.val % 64))
      = rot (T (x.val / 64)) c s ⟨x.val % 64, by omega⟩ := by
  rw [← rot_signed (T (x.val / 64)) c s ⟨x.val % 64, by omega⟩, hq x]
  congr 2
  rcases Nat.mod_two_eq_zero_or_one x.val with h | h
  · rw [if_pos h, hq u]
    have h1 : u.val / 64 = x.val / 64 := by have := hu h; omega
    rw [h1]
    refine congrArg _ (Fin.ext ?_)
    show u.val % 64 = if x.val % 64 % 2 = 0 then x.val % 64 + 1 else x.val % 64 - 1
    rw [if_pos (by omega)]
    have := hu h; omega
  · rw [if_neg (by omega), hq d]
    have h1 : d.val / 64 = x.val / 64 := by have := hd h; omega
    rw [h1]
    refine congrArg _ (Fin.ext ?_)
    show d.val % 64 = if x.val % 64 % 2 = 0 then x.val % 64 + 1 else x.val % 64 - 1
    rw [if_neg (by omega)]
    have := hd h; omega

/-- The projection of a block's row, at a column. -/
def bproj (v0 : Vec Ideal S1x512x1024 .f32) (v2 : Vec Ideal S1x1024 .f32) (v4 v6 : Vec Ideal S1x1x1024 .f32)
    (v27 : Vec Ideal S1024x2304 .bf16) (l : Fin 512) (x : Fin 2304) : EReal :=
  ∑ e : Fin 1024, hrow (fun y => v0 (ix3 0 l y)) (fun y => v2 (ix2 0 y)) (fun y => v4 (ix3 0 0 y)) (fun y => v6 (ix3 0 0 y)) e * v27 (ix2 e x)

theorem pay5_at (v0 : Vec Ideal S1x512x1024 .f32) (v2 : Vec Ideal S1x1024 .f32) (v4 v6 : Vec Ideal S1x1x1024 .f32)
    (v27 : Vec Ideal S1024x2304 .bf16) (l : Fin 512) (x : Fin 2304) :
    k0_pay5 v0 v2 v4 v6 v27 (ix2 l x) = bproj v0 v2 v4 v6 v27 l x := by
  unfold k0_pay5
  pointwise
  have e1 : one = 1 := one_eq
  unfold bproj hrow
  rw [e1]

/-- Which lanes are even, as the body tests them. -/
theorem even_lane : ∀ x : Fin 512, IntOp.cmpi .eq (IntOp.andi (BitVec.ofNat 32 x.val) 1#32) 0#32 = if x.val % 2 = 0 then 1#1 else 0#1 := by
  decide +kernel

theorem sel_even (x : ℕ) (hx : x < 512) (a b : EReal) :
    Scalar.select (IntOp.cmpi .eq (IntOp.andi (BitVec.ofNat 32 x) 1#32) 0#32) a b = if x % 2 = 0 then a else b := by
  refine (congrArg (fun z => Scalar.select z a b) (even_lane ⟨x, hx⟩)).trans ?_
  dsimp only
  split <;> rfl

/-- The queries' normed heads. -/
theorem pay10_at (v31 : FVec Ideal S512x512 .bf16) (v32 : FVec Ideal S512x512 .f32) (v34 : FVec Ideal S1x512 .f32)
    (p : Fin 512 → EReal) (w : Fin 64 → EReal) (l : Fin 512) (h31 : ∀ y x : Fin 512, v31 (ix2 y x) = avg y.val x.val)
    (h32 : ∀ x, v32 (ix2 l x) = p x) (h34 : ∀ x : Fin 512, v34 (ix2 0 x) = w ⟨x.val % 64, by omega⟩) (x : Fin 512) :
    k0_pay10 v31 v32 v34 (mulf v32 v32) (ix2 l x)
      = hnorm (fun d => p ⟨64 * (x.val / 64) + d.val, by omega⟩) w ⟨x.val % 64, by omega⟩ := by
  unfold k0_pay10
  pointwise
  simp only [h31, h32, h34]
  have hm := mean_head 8 (fun y => p y * p y) x
  refine Eq.trans ?_ (Eq.trans (congrArg (fun z => p x * Ideal.rsqrt (z + eps) * w ⟨x.val % 64, by omega⟩) hm) ?_)
  · rfl
  · unfold hnorm
    have e : p x = p ⟨64 * (x.val / 64) + x.val % 64, by omega⟩ := congrArg p (Fin.ext (by dsimp only; omega))
    dsimp only
    rw [← e]

/-- The keys' normed heads. -/
theorem pay11_at (v29 : FVec Ideal S512x2304 .f32) (v31 : FVec Ideal S512x512 .bf16) (v46 : Vec Ideal S1x128 .f32)
    (p : Fin 2304 → EReal) (w : Fin 64 → EReal) (l : Fin 512) (h31 : ∀ y x : Fin 512, v31 (ix2 y x) = avg y.val x.val)
    (h29 : ∀ x, v29 (ix2 l x) = p x) (h46 : ∀ x : Fin 128, v46 (ix2 0 x) = w ⟨x.val % 64, by omega⟩) (x : Fin 128) :
    k0_pay11 v29 v31 v46 (ix2 l x)
      = hnorm (fun d => p ⟨64 * (8 + x.val / 64) + d.val, by omega⟩) w ⟨x.val % 64, by omega⟩ := by
  unfold k0_pay11
  pointwise
  simp only [h31, h29, h46]
  have hm := mean_head 2 (fun y => p ⟨512 + y.val, by omega⟩ * p ⟨512 + y.val, by omega⟩) x
  refine Eq.trans ?_ (Eq.trans (congrArg (fun z => p ⟨512 + x.val, by omega⟩ * Ideal.rsqrt (z + eps) * w ⟨x.val % 64, by omega⟩) hm) ?_)
  · rfl
  · unfold hnorm
    have e : ∀ d : Fin 64, (⟨512 + (64 * (x.val / 64) + d.val), by omega⟩ : Fin 2304) = ⟨64 * (8 + x.val / 64) + d.val, by omega⟩ :=
      fun d => Fin.ext (by dsimp only; omega)
    have e' : (⟨512 + x.val, by omega⟩ : Fin 2304) = ⟨64 * (8 + x.val / 64) + x.val % 64, by omega⟩ := Fin.ext (by dsimp only; omega)
    simp only [e, e']

/-- A block's queries, from its normed heads and the tables. -/
theorem pay1_at (v31 : FVec Ideal S512x512 .bf16) (v32 : FVec Ideal S512x512 .f32) (v34 : FVec Ideal S1x512 .f32) (v35 : FVec Ideal S512x512 .f32)
    (v58 v60 : Vec Ideal S512x128 .f32) (T : ℕ → Fin 64 → EReal) (c s : Fin 32 → EReal) (l : Fin 512)
    (hq : ∀ x : Fin 512, k0_pay10 v31 v32 v34 v35 (ix2 l x) = T (x.val / 64) ⟨x.val % 64, by omega⟩)
    (hc : ∀ x : Fin 128, v58 (ix2 l x) = c ⟨x.val % 64 / 2, by omega⟩)
    (hs : ∀ x : Fin 128, v60 (ix2 l x) = s ⟨x.val % 64 / 2, by omega⟩ * sgn (x.val % 64)) (x : Fin 512) :
    k0_pay1 (k0_pay15 v60) (k0_pay17 v31 v32 v34 v35) (k0_pay18 v31 v32 v34 v35 v58) (ix3 0 l x)
      = rot (T (x.val / 64)) c s ⟨x.val % 64, by omega⟩ * eighth := by
  unfold k0_pay1 k0_pay15 k0_pay17 k0_pay18 k0_pay14 k0_pay13
  generalize k0_pay10 v31 v32 v34 v35 = q at *
  pointwise
  rw [sel_even x.val x.isLt]
  simp only [hc, hs]
  have a1 : 128 ≤ x.val → (x.val - 128) % 64 = x.val % 64 := by omega
  have a2 : 256 ≤ x.val → (x.val - 128 - 128) % 64 = x.val % 64 := by omega
  have a3 : 384 ≤ x.val → (x.val - 128 - 128 - 128) % 64 = x.val % 64 := by omega
  have key := lane_step 8 (fun x => q (ix2 l x)) T hq c s x ⟨(x.val + 512 - 511) % 512, by omega⟩ ⟨(x.val + 512 - 1) % 512, by omega⟩
    (fun h => by have := x.isLt; dsimp only; omega) (fun h => by have := x.isLt; dsimp only; omega)
  refine congrArg (fun z => z * eighth) (Eq.trans ?_ key)
  split_ifs with h1 h2 h3 h4 h5 h6 h7 <;> first
    | rfl
    | (simp only [a1 (by omega)]; done)
    | (simp only [a2 (by omega)]; done)
    | (simp only [a3 (by omega)]; done)

/-- A block's keys, from its normed heads and the tables. -/
theorem pay2_at (v56 : FVec Ideal S512x128 .f32)
    (v58 v60 : Vec Ideal S512x128 .f32) (T : ℕ → Fin 64 → EReal) (c s : Fin 32 → EReal) (l : Fin 512)
    (hq : ∀ x : Fin 128, v56 (ix2 l x) = T (x.val / 64) ⟨x.val % 64, by omega⟩)
    (hc : ∀ x : Fin 128, v58 (ix2 l x) = c ⟨x.val % 64 / 2, by omega⟩)
    (hs : ∀ x : Fin 128, v60 (ix2 l x) = s ⟨x.val % 64 / 2, by omega⟩ * sgn (x.val % 64)) (x : Fin 128) :
    k0_pay2 v56 (k0_pay13 v58) (k0_pay14 v60) k0_pay16 (ix3 0 l x)
      = rot (T (x.val / 64)) c s ⟨x.val % 64, by omega⟩ := by
  unfold k0_pay2 k0_pay13 k0_pay14 k0_pay16
  pointwise
  rw [sel_even x.val (by omega), hc, hs]
  exact lane_step 2 (fun x => v56 (ix2 l x)) T hq c s x ⟨(x.val + 128 - 127) % 128, by omega⟩ ⟨(x.val + 128 - 1) % 128, by omega⟩
    (fun h => by have := x.isLt; dsimp only; omega) (fun h => by have := x.isLt; dsimp only; omega)

/-- A block's values, with the ones beside them. -/
theorem pay3_at (v29 : FVec Ideal S512x2304 .f32) (l : Fin 512) (x : Fin 256) :
    k0_pay3 (k0_pay12 v29) (ix3 0 l x) = if x.val < 128 then v29 (ix2 l ⟨640 + x.val, by omega⟩) else (1 : EReal) := by
  unfold k0_pay3 k0_pay12
  pointwise
  by_cases h : x.val < 128
  · rw [dif_pos h, if_pos h]
  · rw [dif_neg h, if_neg h]

/-- A block's remaining columns. -/
theorem pay4_at (v29 : FVec Ideal S512x2304 .f32) (l : Fin 512) (x : Fin 1536) :
    k0_pay4 v29 (ix3 0 l x) = v29 (ix2 l ⟨768 + x.val, by omega⟩) := by
  unfold k0_pay4
  pointwise

end Cert.Proof.Inproj
-- ==== Proof.Inproj.Value.lean ====
module

public import proofs.«01_k».proof.Proof.Inproj.Host
public import proofs.«01_k».proof.Proof.Inproj.Block
public import Idealize.ShloMosaic.Lib.Pipeline.ValueKit
public import Idealize.ShloMosaic.Lib.Pointwise
public import Idealize.ShloMosaic.Lib.Claim

/-! The four arrays that the projection's call leaves, as functions of its arguments. -/

@[expose] public section

set_option maxRecDepth 16384

noncomputable section

namespace Cert.Proof.Inproj

open Idealize.ShloMosaic Idealize.ShloMosaic.TcCoe Idealize.SL.Sem
open Cert.Kernel3Ideal Cert.Kernel3Ideal.Gen

/-- A block's projection, from the blocks of the arguments. -/
def bp (x0 : Vec Ideal S1x512x1024 .f32) (x1 : Vec Ideal S1x6x1024 .f32) (x2 : Vec Ideal S1x1024 .f32) (x3 : Vec Ideal S1024x2304 .bf16) (l : Fin 512) (x : Fin 2304) : EReal :=
  ∑ e : Fin 1024, hrow (fun y => x0 (ix3 0 l y)) (fun y => x2 (ix2 0 y)) (fun y => x1 (ix3 0 0 y)) (fun y => x1 (ix3 0 1 y)) e * x3 (ix2 e x)

theorem ld_x (x0 : Vec Ideal S1x512x1024 .f32) (l : Fin 512) (y : Fin 1024) : View.ld x0 r0_0 (ix3 0 l y) = x0 (ix3 0 l y) := by
  pointwise
  blk_ext
theorem ld_n (x2 : Vec Ideal S1x1024 .f32) (y : Fin 1024) : View.ld x2 r0_1 (ix2 0 y) = x2 (ix2 0 y) := by
  pointwise
  blk_ext
theorem ld_shift (x1 : Vec Ideal S1x6x1024 .f32) (y : Fin 1024) : View.ld x1 r0_2 (ix3 0 0 y) = x1 (ix3 0 0 y) := by
  pointwise
  blk_ext
theorem ld_scale (x1 : Vec Ideal S1x6x1024 .f32) (y : Fin 1024) : View.ld x1 r0_3 (ix3 0 0 y) = x1 (ix3 0 1 y) := by
  pointwise
  blk_ext
theorem ld_w (x3 : Vec Ideal S1024x2304 .bf16) (e : Fin 1024) (x : Fin 2304) : View.ld x3 r0_4 (ix2 e x) = x3 (ix2 e x) := by
  pointwise
  blk_ext
theorem ld_g (x4 : Vec Ideal S512x512 .bf16) (y x : Fin 512) : k0_pay6 (View.ld x4 r0_5) (ix2 y x) = x4 (ix2 y x) := by
  unfold k0_pay6
  pointwise
  blk_ext
theorem ld_hq (x5 : Vec Ideal S1x512 .f32) (x : Fin 512) : k0_pay8 (View.ld x5 r0_6) (ix2 0 x) = x5 (ix2 0 x) := by
  unfold k0_pay8
  pointwise
  blk_ext
theorem ld_hk (x6 : Vec Ideal S1x128 .f32) (x : Fin 128) : View.ld x6 r0_7 (ix2 0 x) = x6 (ix2 0 x) := by
  pointwise
  blk_ext
theorem ld_t (x7 : Vec Ideal S512x128 .f32) (l : Fin 512) (x : Fin 128) : View.ld x7 r0_8 (ix2 l x) = x7 (ix2 l x) := by
  pointwise
  blk_ext

theorem p_at (x0 : Vec Ideal S1x512x1024 .f32) (x1 : Vec Ideal S1x6x1024 .f32) (x2 : Vec Ideal S1x1024 .f32) (x3 : Vec Ideal S1024x2304 .bf16) (x4 : Vec Ideal S512x512 .bf16) (x5 : Vec Ideal S1x512 .f32) (x6 : Vec Ideal S1x128 .f32) (x7 x8 : Vec Ideal S512x128 .f32) (l : Fin 512) (x : Fin 2304) :
    k0_pay19 x0 x1 x2 x3 x4 x5 x6 x7 x8 (ix2 l x) = bp x0 x1 x2 x3 l x := by
  refine (pay5_at _ _ _ _ _ l x).trans ?_
  unfold bproj bp
  exact Finset.sum_congr rfl fun e _ => congrArg₂ (· * ·) (congrFun (congr (congr (congr (congrArg hrow (funext fun y => ld_x x0 l y))
    (funext fun y => ld_n x2 y)) (funext fun y => ld_shift x1 y)) (funext fun y => ld_scale x1 y)) e) (ld_w x3 e x)

theorem pq_at (x0 : Vec Ideal S1x512x1024 .f32) (x1 : Vec Ideal S1x6x1024 .f32) (x2 : Vec Ideal S1x1024 .f32) (x3 : Vec Ideal S1024x2304 .bf16) (x4 : Vec Ideal S512x512 .bf16) (x5 : Vec Ideal S1x512 .f32) (x6 : Vec Ideal S1x128 .f32) (x7 x8 : Vec Ideal S512x128 .f32) (l : Fin 512) (x : Fin 512) :
    k0_pay21 x0 x1 x2 x3 x4 x5 x6 x7 x8 (ix2 l x) = bp x0 x1 x2 x3 l ⟨x.val, by omega⟩ := by
  refine Eq.trans ?_ (p_at x0 x1 x2 x3 x4 x5 x6 x7 x8 l ⟨x.val, by omega⟩)
  unfold k0_pay21 k0_pay7 k0_pay19
  generalize k0_pay5 (View.ld x0 r0_0) (View.ld x2 r0_1) (View.ld x1 r0_2) (View.ld x1 r0_3) (View.ld x3 r0_4) = z
  pointwise

/-- A block of queries. -/
theorem q_block (x0 : Vec Ideal S1x512x1024 .f32) (x1 : Vec Ideal S1x6x1024 .f32) (x2 : Vec Ideal S1x1024 .f32) (x3 : Vec Ideal S1024x2304 .bf16) (x4 : Vec Ideal S512x512 .bf16) (x5 : Vec Ideal S1x512 .f32) (x6 : Vec Ideal S1x128 .f32)
    (x7 x8 : Vec Ideal S512x128 .f32) (w : Fin 64 → EReal) (c s : Fin 512 → Fin 32 → EReal)
    (h4 : ∀ y x : Fin 512, x4 (ix2 y x) = avg y.val x.val) (h5 : ∀ x : Fin 512, x5 (ix2 0 x) = w ⟨x.val % 64, by omega⟩)
    (h7 : ∀ (l : Fin 512) (x : Fin 128), x7 (ix2 l x) = c l ⟨x.val % 64 / 2, by omega⟩)
    (h8 : ∀ (l : Fin 512) (x : Fin 128), x8 (ix2 l x) = s l ⟨x.val % 64 / 2, by omega⟩ * sgn (x.val % 64)) (y : S1x512x512.Idx) :
    out0_9 x0 x1 x2 x3 x4 x5 x6 x7 x8 y
      = rot (hnorm (fun d => bp x0 x1 x2 x3 (y 1) ⟨64 * ((y 2).val / 64) + d.val, by have := (y 2).isLt; change (y 2).val < 512 at this; omega⟩) w)
          (c (y 1)) (s (y 1)) ⟨(y 2).val % 64, by omega⟩ * eighth := by
  unfold out0_9
  canon_tiles z h
  have hy : y = z := by
    funext a
    match a with
    | ⟨0, _⟩ => exact Fin.ext h0
    | ⟨1, _⟩ => exact Fin.ext h1
    | ⟨2, _⟩ => exact Fin.ext h2
  subst hy
  have hz : y = ix3 0 (y 1) (y 2) := by blk_ext
  refine (congrArg _ hz).trans ?_
  have hq : ∀ x : Fin 512, k0_pay10 (k0_pay20 x0 x1 x2 x3 x4 x5 x6 x7 x8) (k0_pay21 x0 x1 x2 x3 x4 x5 x6 x7 x8) (k0_pay22 x0 x1 x2 x3 x4 x5 x6 x7 x8)
      (k0_pay23 x0 x1 x2 x3 x4 x5 x6 x7 x8) (ix2 (y 1) x)
      = hnorm (fun d => bp x0 x1 x2 x3 (y 1) ⟨(64 * (x.val / 64) + d.val) % 2304, by omega⟩) w ⟨x.val % 64, by omega⟩ := by
    intro x
    refine (pay10_at _ _ _ (fun x => bp x0 x1 x2 x3 (y 1) ⟨x.val, by omega⟩) w (y 1) (fun a b => (ld_g x4 a b).trans (h4 a b))
      (fun x => pq_at x0 x1 x2 x3 x4 x5 x6 x7 x8 (y 1) x) (fun x => (ld_hq x5 x).trans (h5 x)) x).trans ?_
    have e : ∀ d : Fin 64, (64 * (x.val / 64) + d.val) % 2304 = 64 * (x.val / 64) + d.val := fun d => by omega
    simp only [e]
  refine (pay1_at _ _ _ _ _ _ (fun n => hnorm (fun d => bp x0 x1 x2 x3 (y 1) ⟨(64 * n + d.val) % 2304, by omega⟩) w) (c (y 1)) (s (y 1)) (y 1)
    hq (fun x => (ld_t x7 (y 1) x).trans (h7 (y 1) x)) (fun x => (ld_t x8 (y 1) x).trans (h8 (y 1) x)) (y 2)).trans ?_
  have e : ∀ d : Fin 64, (64 * ((y 2).val / 64) + d.val) % 2304 = 64 * ((y 2).val / 64) + d.val := fun d => by
    have := (y 2).isLt; change (y 2).val < 512 at this; omega
  simp only [e]

/-- A block of keys. -/
theorem k_block (x0 : Vec Ideal S1x512x1024 .f32) (x1 : Vec Ideal S1x6x1024 .f32) (x2 : Vec Ideal S1x1024 .f32) (x3 : Vec Ideal S1024x2304 .bf16) (x4 : Vec Ideal S512x512 .bf16) (x5 : Vec Ideal S1x512 .f32) (x6 : Vec Ideal S1x128 .f32)
    (x7 x8 : Vec Ideal S512x128 .f32) (w : Fin 64 → EReal) (c s : Fin 512 → Fin 32 → EReal)
    (h4 : ∀ y x : Fin 512, x4 (ix2 y x) = avg y.val x.val) (h6 : ∀ x : Fin 128, x6 (ix2 0 x) = w ⟨x.val % 64, by omega⟩)
    (h7 : ∀ (l : Fin 512) (x : Fin 128), x7 (ix2 l x) = c l ⟨x.val % 64 / 2, by omega⟩)
    (h8 : ∀ (l : Fin 512) (x : Fin 128), x8 (ix2 l x) = s l ⟨x.val % 64 / 2, by omega⟩ * sgn (x.val % 64)) (y : S1x512x128.Idx) :
    out0_10 x0 x1 x2 x3 x4 x5 x6 x7 x8 y
      = rot (hnorm (fun d => bp x0 x1 x2 x3 (y 1) ⟨64 * (8 + (y 2).val / 64) + d.val, by have := (y 2).isLt; change (y 2).val < 128 at this; omega⟩) w)
          (c (y 1)) (s (y 1)) ⟨(y 2).val % 64, by omega⟩ := by
  unfold out0_10
  canon_tiles z h
  have hy : y = z := by
    funext a
    match a with
    | ⟨0, _⟩ => exact Fin.ext h0
    | ⟨1, _⟩ => exact Fin.ext h1
    | ⟨2, _⟩ => exact Fin.ext h2
  subst hy
  have hz : y = ix3 0 (y 1) (y 2) := by blk_ext
  refine (congrArg _ hz).trans ?_
  have hk : ∀ x : Fin 128, k0_pay11 (k0_pay19 x0 x1 x2 x3 x4 x5 x6 x7 x8) (k0_pay20 x0 x1 x2 x3 x4 x5 x6 x7 x8) (View.ld x6 r0_7) (ix2 (y 1) x)
      = hnorm (fun d => bp x0 x1 x2 x3 (y 1) ⟨(64 * (8 + x.val / 64) + d.val) % 2304, by omega⟩) w ⟨x.val % 64, by omega⟩ := by
    intro x
    refine (pay11_at _ _ _ (fun x => bp x0 x1 x2 x3 (y 1) x) w (y 1) (fun a b => (ld_g x4 a b).trans (h4 a b))
      (fun x => p_at x0 x1 x2 x3 x4 x5 x6 x7 x8 (y 1) x) (fun x => (ld_hk x6 x).trans (h6 x)) x).trans ?_
    have e : ∀ d : Fin 64, (64 * (8 + x.val / 64) + d.val) % 2304 = 64 * (8 + x.val / 64) + d.val := fun d => by omega
    simp only [e]
  refine (pay2_at _ _ _ (fun n => hnorm (fun d => bp x0 x1 x2 x3 (y 1) ⟨(64 * (8 + n) + d.val) % 2304, by omega⟩) w) (c (y 1)) (s (y 1)) (y 1)
    hk (fun x => (ld_t x7 (y 1) x).trans (h7 (y 1) x)) (fun x => (ld_t x8 (y 1) x).trans (h8 (y 1) x)) (y 2)).trans ?_
  have e : ∀ d : Fin 64, (64 * (8 + (y 2).val / 64) + d.val) % 2304 = 64 * (8 + (y 2).val / 64) + d.val := fun d => by
    have := (y 2).isLt; change (y 2).val < 128 at this; omega
  simp only [e]

/-- A block of values. -/
theorem v_block (x0 : Vec Ideal S1x512x1024 .f32) (x1 : Vec Ideal S1x6x1024 .f32) (x2 : Vec Ideal S1x1024 .f32) (x3 : Vec Ideal S1024x2304 .bf16) (x4 : Vec Ideal S512x512 .bf16) (x5 : Vec Ideal S1x512 .f32) (x6 : Vec Ideal S1x128 .f32)
    (x7 x8 : Vec Ideal S512x128 .f32) (y : S1x512x256.Idx) :
    out0_11 x0 x1 x2 x3 x4 x5 x6 x7 x8 y
      = if h : (y 2).val < 128 then bp x0 x1 x2 x3 (y 1) ⟨640 + (y 2).val, by omega⟩ else (1 : EReal) := by
  unfold out0_11
  canon_tiles z h
  have hy : y = z := by
    funext a
    match a with
    | ⟨0, _⟩ => exact Fin.ext h0
    | ⟨1, _⟩ => exact Fin.ext h1
    | ⟨2, _⟩ => exact Fin.ext h2
  subst hy
  have hz : y = ix3 0 (y 1) (y 2) := by blk_ext
  refine (congrArg _ hz).trans ?_
  refine (pay3_at _ (y 1) (y 2)).trans ?_
  by_cases h : (y 2).val < 128
  · rw [if_pos h, dif_pos h]
    exact p_at x0 x1 x2 x3 x4 x5 x6 x7 x8 (y 1) _
  · rw [if_neg h, dif_neg h]

/-- A block of the remaining columns. -/
theorem u_block (x0 : Vec Ideal S1x512x1024 .f32) (x1 : Vec Ideal S1x6x1024 .f32) (x2 : Vec Ideal S1x1024 .f32) (x3 : Vec Ideal S1024x2304 .bf16) (x4 : Vec Ideal S512x512 .bf16) (x5 : Vec Ideal S1x512 .f32) (x6 : Vec Ideal S1x128 .f32)
    (x7 x8 : Vec Ideal S512x128 .f32) (y : S1x512x1536.Idx) :
    out0_12 x0 x1 x2 x3 x4 x5 x6 x7 x8 y
      = bp x0 x1 x2 x3 (y 1) ⟨768 + (y 2).val, by have := (y 2).isLt; change (y 2).val < 1536 at this; omega⟩ := by
  unfold out0_12
  canon_tiles z h
  have hy : y = z := by
    funext a
    match a with
    | ⟨0, _⟩ => exact Fin.ext h0
    | ⟨1, _⟩ => exact Fin.ext h1
    | ⟨2, _⟩ => exact Fin.ext h2
  subst hy
  have hz : y = ix3 0 (y 1) (y 2) := by blk_ext
  refine (congrArg _ hz).trans ?_
  exact (pay4_at _ (y 1) (y 2)).trans (p_at x0 x1 x2 x3 x4 x5 x6 x7 x8 (y 1) _)

variable (m : (ℓ : Loc nD τ sig) → Buf (Elt Ideal) ℓ)

/-- Which blocks a grid point works on: batch row `t % 16`, rows from `512 (t / 16)`. -/
theorem idx : ∀ t : Fin cfg0.N, win0_0.index t = ![t.val % 16, t.val / 16, 0] ∧ win0_1.index t = ![t.val % 16, 0, 0]
    ∧ win0_2.index t = ![0, 0] ∧ win0_3.index t = ![0, 0] ∧ win0_4.index t = ![0, 0] ∧ win0_5.index t = ![0, 0] ∧ win0_6.index t = ![0, 0]
    ∧ win0_7.index t = ![t.val / 16, 0] ∧ win0_8.index t = ![t.val / 16, 0]
    ∧ win0_9.index t = ![t.val % 16, t.val / 16, 0] ∧ win0_10.index t = ![t.val % 16, t.val / 16, 0]
    ∧ win0_11.index t = ![t.val % 16, t.val / 16, 0] ∧ win0_12.index t = ![t.val % 16, t.val / 16, 0]
    ∧ t.val / 16 < 8 :=
  (by decide +kernel : ∀ t : Fin grid0.N, _)

theorem t_lt (t : Fin cfg0.N) : t.val / 16 < 8 := (idx t).2.2.2.2.2.2.2.2.2.2.2.2.2

/-- The batch row of a grid point. -/
abbrev row (t : Fin cfg0.N) : Fin 16 := ⟨t.val % 16, by omega⟩
/-- The position of a row of a grid point's block. -/
abbrev pos (t : Fin cfg0.N) (l : Fin 512) : Fin 4096 := ⟨t.val / 16 * 512 + l.val, by have := t_lt t; omega⟩

/-- The projection, from the call's arguments. -/
abbrev pj (c : Dev nD) : Fin 16 → Fin 4096 → Fin 2304 → EReal := proj (ax m c) (am m c) (an m c) (aw m c)

/-- The queries the call leaves, at batch row `b`, position `l` and column `x`. -/
def gq (c : Dev nD) (b : Fin 16) (l : Fin 4096) (x : Fin 512) : EReal :=
  head (ax m c) (am m c) (an m c) (aw m c) (ahq m c) (acos m c) (asin m c) b l (qhead x) ⟨x.val % 64, by omega⟩ * eighth
/-- The keys the call leaves. -/
def gk (c : Dev nD) (b : Fin 16) (l : Fin 4096) (x : Fin 128) : EReal :=
  head (ax m c) (am m c) (an m c) (aw m c) (ahk m c) (acos m c) (asin m c) b l (khead x) ⟨x.val % 64, by omega⟩
/-- The values the call leaves, with ones beside them. -/
def gv (c : Dev nD) (b : Fin 16) (l : Fin 4096) (x : Fin 256) : EReal :=
  if h : x.val < 128 then pj m c b l ⟨640 + x.val, by omega⟩ else (1 : EReal)
/-- The remaining columns the call leaves. -/
def gu (c : Dev nD) (b : Fin 16) (l : Fin 4096) (x : Fin 1536) : EReal := pj m c b l ⟨768 + x.val, by omega⟩

/-- The array of the queries. -/
def Gq (c : Dev nD) : FVec Ideal S16x4096x512 .bf16 := fun i => gq m c (i 0) (i 1) (i 2)
/-- The array of the keys. -/
def Gk (c : Dev nD) : FVec Ideal S16x4096x128 .bf16 := fun i => gk m c (i 0) (i 1) (i 2)
/-- The array of the values. -/
def Gv (c : Dev nD) : FVec Ideal S16x4096x256 .bf16 := fun i => gv m c (i 0) (i 1) (i 2)
/-- The array of the remaining columns. -/
def Gu (c : Dev nD) : FVec Ideal S16x4096x1536 .bf16 := fun i => gu m c (i 0) (i 1) (i 2)

theorem x_blk (c : Dev nD) (t : Fin cfg0.N) (l : Fin 512) (x : Fin 1024) :
    (iblk m c 0 t : Vec Ideal S1x512x1024 .f32) (ix3 0 l x) = ax m c (ix3 (row t) (pos t l) x) := by
  refine Eq.trans ?_ (congrFun (x_at m c) (ix3 (row t) (pos t l) x))
  blk_ext [iblk, idx t]
theorem m_blk (c : Dev nD) (t : Fin cfg0.N) (r : Fin 6) (x : Fin 1024) :
    (iblk m c 1 t : Vec Ideal S1x6x1024 .f32) (ix3 0 r x) = am m c (ix3 (row t) 0 ⟨r.val * 1024 + x.val, by omega⟩) := by
  refine Eq.trans ?_ (m_at m c (row t) r x)
  blk_ext [iblk, idx t]
theorem n_blk (c : Dev nD) (t : Fin cfg0.N) (x : Fin 1024) :
    (iblk m c 2 t : Vec Ideal S1x1024 .f32) (ix2 0 x) = an m c (ix2 0 x) := by
  refine Eq.trans ?_ (n_at m c x)
  blk_ext [iblk, idx t]
theorem wq_blk (c : Dev nD) (t : Fin cfg0.N) (e : Fin 1024) (x : Fin 2304) (hx : x.val < 512) :
    (iblk m c 3 t : Vec Ideal S1024x2304 .bf16) (ix2 e x)
      = aw m c (ix3 0 e ⟨perm x.val, by have := perm_lt ⟨x.val, hx⟩; dsimp only at this; omega⟩) := by
  refine Eq.trans ?_ (wq_at m c e x hx)
  blk_ext [iblk, idx t]
theorem w_blk (c : Dev nD) (t : Fin cfg0.N) (e : Fin 1024) (x : Fin 2304) (hx : 512 ≤ x.val) :
    (iblk m c 3 t : Vec Ideal S1024x2304 .bf16) (ix2 e x) = aw m c (ix3 0 e x) := by
  refine Eq.trans ?_ (w_at m c e x hx)
  blk_ext [iblk, idx t]
theorem g_blk (c : Dev nD) (t : Fin cfg0.N) (y x : Fin 512) :
    (iblk m c 4 t : Vec Ideal S512x512 .bf16) (ix2 y x) = avg y.val x.val := by
  refine Eq.trans ?_ (g_at m c y x)
  blk_ext [iblk, idx t]
theorem hq_blk (c : Dev nD) (t : Fin cfg0.N) (x : Fin 512) :
    (iblk m c 5 t : Vec Ideal S1x512 .f32) (ix2 0 x) = ahq m c (ix2 0 ⟨x.val % 64, by omega⟩) := by
  refine Eq.trans ?_ (hq_at m c x)
  blk_ext [iblk, idx t]
theorem hk_blk (c : Dev nD) (t : Fin cfg0.N) (x : Fin 128) :
    (iblk m c 6 t : Vec Ideal S1x128 .f32) (ix2 0 x) = ahk m c (ix2 0 ⟨x.val % 64, by omega⟩) := by
  refine Eq.trans ?_ (hk_at m c x)
  blk_ext [iblk, idx t]
theorem cos_blk (c : Dev nD) (t : Fin cfg0.N) (l : Fin 512) (x : Fin 128) :
    (iblk m c 7 t : Vec Ideal S512x128 .f32) (ix2 l x) = acos m c (ix2 (pos t l) ⟨x.val % 64 / 2, by omega⟩) := by
  refine Eq.trans ?_ (cos_at m c (pos t l) x)
  blk_ext [iblk, idx t]
theorem sin_blk (c : Dev nD) (t : Fin cfg0.N) (l : Fin 512) (x : Fin 128) :
    (iblk m c 8 t : Vec Ideal S512x128 .f32) (ix2 l x)
      = asin m c (ix2 (pos t l) ⟨x.val % 64 / 2, by omega⟩) * sgn (x.val % 64) := by
  refine Eq.trans ?_ (sin_at m c (pos t l) x)
  blk_ext [iblk, idx t]

theorem hrow_blk (c : Dev nD) (t : Fin cfg0.N) (l : Fin 512) (e : Fin 1024) :
    hrow (fun y => (iblk m c 0 t : Vec Ideal S1x512x1024 .f32) (ix3 0 l y)) (fun y => (iblk m c 2 t : Vec Ideal S1x1024 .f32) (ix2 0 y))
      (fun y => (iblk m c 1 t : Vec Ideal S1x6x1024 .f32) (ix3 0 0 y)) (fun y => (iblk m c 1 t : Vec Ideal S1x6x1024 .f32) (ix3 0 1 y)) e
    = hrow (fun y => ax m c (ix3 (row t) (pos t l) y)) (fun y => an m c (ix2 0 y)) (fun y => am m c (ix3 (row t) 0 ⟨y.val, by omega⟩))
      (fun y => am m c (ix3 (row t) 0 ⟨1024 + y.val, by omega⟩)) e := by
  have e0 : ∀ y : Fin 1024, (iblk m c 1 t : Vec Ideal S1x6x1024 .f32) (ix3 0 0 y) = am m c (ix3 (row t) 0 ⟨y.val, by omega⟩) := fun y =>
    (m_blk m c t 0 y).trans (congrArg (fun z => am m c (ix3 (row t) 0 z)) (Fin.ext (by simp)))
  have e1 : ∀ y : Fin 1024, (iblk m c 1 t : Vec Ideal S1x6x1024 .f32) (ix3 0 1 y) = am m c (ix3 (row t) 0 ⟨1024 + y.val, by omega⟩) := fun y =>
    (m_blk m c t 1 y).trans (congrArg (fun z => am m c (ix3 (row t) 0 z)) (Fin.ext (by simp)))
  simp only [x_blk, n_blk, e0, e1]

theorem bp_q (c : Dev nD) (t : Fin cfg0.N) (l : Fin 512) (x : Fin 2304) (hx : x.val < 512) (y : Fin 2304) (hy : y.val = perm x.val) :
    bp (iblk m c 0 t) (iblk m c 1 t) (iblk m c 2 t) (iblk m c 3 t) l x = pj m c (row t) (pos t l) y := by
  unfold bp pj proj
  refine Finset.sum_congr rfl fun e _ => ?_
  rw [hrow_blk, wq_blk m c t e x hx]
  exact congrArg (fun z => _ * aw m c (ix3 0 e z)) (Fin.ext hy.symm)

theorem bp_o (c : Dev nD) (t : Fin cfg0.N) (l : Fin 512) (x : Fin 2304) (hx : 512 ≤ x.val) :
    bp (iblk m c 0 t) (iblk m c 1 t) (iblk m c 2 t) (iblk m c 3 t) l x = pj m c (row t) (pos t l) x := by
  unfold bp pj proj
  refine Finset.sum_congr rfl fun e _ => ?_
  rw [hrow_blk, w_blk m c t e x hx]

/-- The queries after the call. -/
theorem final_9 (c : Dev nD) : (dats m 0 c).arrAt 9 cfg0.N = Gq m c := by
  refine (dats m 0 c).arrAt_eq_of_covers 9 _ (by decide +kernel) fun t _ y => ?_
  blk_simp
  rw [after0_9]
  refine (q_block _ _ _ _ _ _ _ _ _ (fun d => ahq m c (ix2 0 d)) (fun l j => acos m c (ix2 (pos t l) j)) (fun l j => asin m c (ix2 (pos t l) j)) (g_blk m c t) (hq_blk m c t) (cos_blk m c t) (sin_blk m c t) y).trans ?_
  unfold Gq
  have hy0 : (y 0).val < 1 := (y 0).isLt
  have hy2 : (y 2).val < 512 := (y 2).isLt
  have e0 : (win0_9.blk t).view.emb y 0 = row t := by
    apply Fin.ext; blk_simp [idx t]
  have e1 : (win0_9.blk t).view.emb y 1 = pos t (y 1) := by
    apply Fin.ext; blk_simp [idx t]
  have e2 : (win0_9.blk t).view.emb y 2 = y 2 := by
    apply Fin.ext; blk_simp [idx t]
  rw [e0, e1, e2]
  unfold gq
  unfold head
  have e : ∀ d : Fin 64, bp (iblk m c 0 t) (iblk m c 1 t) (iblk m c 2 t) (iblk m c 3 t) (y 1) ⟨64 * ((y 2).val / 64) + d.val, by omega⟩
      = pj m c (row t) (pos t (y 1)) ⟨64 * (qhead (y 2)).val + d.val, by dsimp only; omega⟩ := fun d =>
    bp_q m c t (y 1) _ (by dsimp only; omega) _ (by unfold perm; dsimp only; omega)
  exact congrArg (fun p => rot (hnorm p _) _ _ _ * eighth) (funext e)

/-- The keys after the call. -/
theorem final_10 (c : Dev nD) : (dats m 0 c).arrAt 10 cfg0.N = Gk m c := by
  refine (dats m 0 c).arrAt_eq_of_covers 10 _ (by decide +kernel) fun t _ y => ?_
  blk_simp
  rw [after0_10]
  refine (k_block _ _ _ _ _ _ _ _ _ (fun d => ahk m c (ix2 0 d)) (fun l j => acos m c (ix2 (pos t l) j)) (fun l j => asin m c (ix2 (pos t l) j)) (g_blk m c t) (hk_blk m c t) (cos_blk m c t) (sin_blk m c t) y).trans ?_
  unfold Gk
  have hy0 : (y 0).val < 1 := (y 0).isLt
  have hy2 : (y 2).val < 128 := (y 2).isLt
  have e0 : (win0_10.blk t).view.emb y 0 = row t := by
    apply Fin.ext; blk_simp [idx t]
  have e1 : (win0_10.blk t).view.emb y 1 = pos t (y 1) := by
    apply Fin.ext; blk_simp [idx t]
  have e2 : (win0_10.blk t).view.emb y 2 = y 2 := by
    apply Fin.ext; blk_simp [idx t]
  rw [e0, e1, e2]
  unfold gk
  unfold head
  have e : ∀ d : Fin 64, bp (iblk m c 0 t) (iblk m c 1 t) (iblk m c 2 t) (iblk m c 3 t) (y 1) ⟨64 * (8 + (y 2).val / 64) + d.val, by omega⟩
      = pj m c (row t) (pos t (y 1)) ⟨64 * (khead (y 2)).val + d.val, by dsimp only; omega⟩ := fun d =>
    bp_o m c t (y 1) _ (by dsimp only; omega)
  exact congrArg (fun p => rot (hnorm p _) _ _ _) (funext e)

/-- The values after the call. -/
theorem final_11 (c : Dev nD) : (dats m 0 c).arrAt 11 cfg0.N = Gv m c := by
  refine (dats m 0 c).arrAt_eq_of_covers 11 _ (by decide +kernel) fun t _ y => ?_
  blk_simp
  rw [after0_11]
  refine (v_block _ _ _ _ _ _ _ _ _ y).trans ?_
  unfold Gv
  have hy0 : (y 0).val < 1 := (y 0).isLt
  have hy2 : (y 2).val < 256 := (y 2).isLt
  have e0 : (win0_11.blk t).view.emb y 0 = row t := by
    apply Fin.ext; blk_simp [idx t]
  have e1 : (win0_11.blk t).view.emb y 1 = pos t (y 1) := by
    apply Fin.ext; blk_simp [idx t]
  have e2 : (win0_11.blk t).view.emb y 2 = y 2 := by
    apply Fin.ext; blk_simp [idx t]
  rw [e0, e1, e2]
  unfold gv
  by_cases h : (y 2).val < 128
  · rw [dif_pos h, dif_pos h]
    exact bp_o m c t (y 1) _ (by dsimp only; omega)
  · rw [dif_neg h, dif_neg h]

/-- The remaining columns after the call. -/
theorem final_12 (c : Dev nD) : (dats m 0 c).arrAt 12 cfg0.N = Gu m c := by
  refine (dats m 0 c).arrAt_eq_of_covers 12 _ (by decide +kernel) fun t _ y => ?_
  blk_simp
  rw [after0_12]
  refine (u_block _ _ _ _ _ _ _ _ _ y).trans ?_
  unfold Gu
  have hy0 : (y 0).val < 1 := (y 0).isLt
  have hy2 : (y 2).val < 1536 := (y 2).isLt
  have e0 : (win0_12.blk t).view.emb y 0 = row t := by
    apply Fin.ext; blk_simp [idx t]
  have e1 : (win0_12.blk t).view.emb y 1 = pos t (y 1) := by
    apply Fin.ext; blk_simp [idx t]
  have e2 : (win0_12.blk t).view.emb y 2 = y 2 := by
    apply Fin.ext; blk_simp [idx t]
  rw [e0, e1, e2]
  unfold gu
  exact bp_o m c t (y 1) _ (by dsimp only; omega)

end Cert.Proof.Inproj
-- ==== Proof.Inproj.Ref.lean ====
module

public import proofs.«01_k».proof.Proof.Gen.Reference3Ideal.Run
public import proofs.«01_k».proof.Proof.Gen.Reference3Ideal.Read
public import proofs.«01_k».proof.Proof.Inproj.Spec
public import Idealize.ShloMosaic.Lib.Pipeline.ValueKit
public import Idealize.ShloMosaic.Lib.Pointwise
public import Idealize.ShloMosaic.Lib.Claim

/-! The projection's reference read at an index. -/

@[expose] public section

set_option maxRecDepth 16384

noncomputable section

namespace Cert.Proof.Inproj.Ref

open Idealize.ShloMosaic Idealize.ShloMosaic.TcCoe Idealize.SL.Sem
open Cert.Reference3Ideal Cert.Reference3Ideal.Gen Cert.Reference3Ideal.Read

variable (x0 : FVec Ideal S16x4096x1024 .f32) (x1 : FVec Ideal S16x1x6144 .f32) (x2 : FVec Ideal S1x1024 .f32) (x3 : FVec Ideal S1x1024x2304 .f32)
  (x4 x5 : FVec Ideal S1x64 .f32) (x6 x7 : FVec Ideal S4096x32 .f32)

/-- The modulated rows. -/
theorem row_at (b : Fin 16) (l : Fin 4096) (e : Fin 1024) :
    val_main_v21 (F := Ideal) x0 x1 x2 (ix3 b l e)
      = hrow (fun y => x0 (ix3 b l y)) (fun y => x2 (ix2 0 y)) (fun y => x1 (ix3 b 0 ⟨y.val, by omega⟩))
          (fun y => x1 (ix3 b 0 ⟨1024 + y.val, by omega⟩)) e := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  have e1 : one = 1 := one_eq
  unfold hrow
  rw [e1]

/-- The projection. -/
theorem proj_at (b : Fin 16) (l : Fin 4096) (c : Fin 2304) :
    val_main_v23 (F := Ideal) x0 x1 x2 x3 (ix3 b l c) = proj x0 x1 x2 x3 b l c := by
  have h := row_at x0 x1 x2 b l
  unfold val_main_v23 val_main_v22
  generalize val_main_v21 (F := Ideal) x0 x1 x2 = z at *
  pointwise
  simp only [h]
  rfl

/-- A head of the queries, normed. -/
theorem qn_at (b : Fin 16) (l : Fin 4096) (h : Fin 8) (d : Fin 64) :
    val_main_v39 (F := Ideal) x0 x1 x2 x3 x4 (ix4 b l h d)
      = hnorm (fun y => proj x0 x1 x2 x3 b l ⟨64 * h.val + y.val, by omega⟩) (fun y => x4 (ix2 0 y)) d := by
  have hp := proj_at x0 x1 x2 x3 b l
  unfold val_main_v39 val_main_v38 val_main_v37 val_main_v36 val_main_v35 val_main_v34 val_main_v33 val_main_v32 val_main_v31 val_main_v30 val_main_v29 val_main_v28 val_main_v27 val_main_v26 val_main_v25 val_main_v24 val_main_cst_3 val_main_cst_4 val_main_cst_5
  generalize val_main_v23 (F := Ideal) x0 x1 x2 x3 = z at *
  pointwise
  simp only [hp, Nat.mul_comm h.val 64]
  rfl

/-- A head of the keys, normed. -/
theorem kn_at (b : Fin 16) (l : Fin 4096) (h : Fin 2) (d : Fin 64) :
    val_main_v79 (F := Ideal) x0 x1 x2 x3 x5 (ix4 b l h d)
      = hnorm (fun y => proj x0 x1 x2 x3 b l ⟨64 * (8 + h.val) + y.val, by omega⟩) (fun y => x5 (ix2 0 y)) d := by
  have hp := proj_at x0 x1 x2 x3 b l
  unfold val_main_v79 val_main_v78 val_main_v77 val_main_v76 val_main_v75 val_main_v74 val_main_v73 val_main_v72 val_main_v71 val_main_v70 val_main_v69 val_main_v68 val_main_v67 val_main_v66 val_main_v65 val_main_v64 val_main_cst_7 val_main_cst_8 val_main_cst_9
  generalize val_main_v23 (F := Ideal) x0 x1 x2 x3 = z at *
  pointwise
  have e : ∀ y : Fin 64, 512 + (h.val * 64 + y.val) = 64 * (8 + h.val) + y.val := fun y => by omega
  simp only [hp, e]
  rfl

/-- The even lanes of a head of the queries, turned. -/
theorem qre_at (b : Fin 16) (l : Fin 4096) (h : Fin 8) (j : Fin 32) :
    val_main_v52 (F := Ideal) x0 x1 x2 x3 x4 x6 x7 (ix4 b l h j)
      = val_main_v39 (F := Ideal) x0 x1 x2 x3 x4 (ix4 b l h ⟨j.val * 2, by omega⟩) * x6 (ix2 l j) - val_main_v39 (F := Ideal) x0 x1 x2 x3 x4 (ix4 b l h ⟨j.val * 2 + 1, by omega⟩) * x7 (ix2 l j) := by
  unfold val_main_v52 val_main_v51 val_main_v50 val_main_v49 val_main_v48 val_main_v47 val_main_v46 val_main_v45 val_main_v44 val_main_v43 val_main_v42 val_main_v41 val_main_v40
  generalize val_main_v39 (F := Ideal) x0 x1 x2 x3 x4 = z
  pointwise

/-- The odd lanes of a head of the queries, turned. -/
theorem qro_at (b : Fin 16) (l : Fin 4096) (h : Fin 8) (j : Fin 32) :
    val_main_v57 (F := Ideal) x0 x1 x2 x3 x4 x6 x7 (ix4 b l h j)
      = val_main_v39 (F := Ideal) x0 x1 x2 x3 x4 (ix4 b l h ⟨j.val * 2, by omega⟩) * x7 (ix2 l j) + val_main_v39 (F := Ideal) x0 x1 x2 x3 x4 (ix4 b l h ⟨j.val * 2 + 1, by omega⟩) * x6 (ix2 l j) := by
  unfold val_main_v57 val_main_v56 val_main_v55 val_main_v54 val_main_v53 val_main_v47 val_main_v46 val_main_v45 val_main_v44 val_main_v43 val_main_v42 val_main_v41 val_main_v40
  generalize val_main_v39 (F := Ideal) x0 x1 x2 x3 x4 = z
  pointwise

/-- A head of the queries, turned. -/
theorem qr_at (b : Fin 16) (l : Fin 4096) (h : Fin 8) (d : Fin 64) :
    val_main_v61 (F := Ideal) x0 x1 x2 x3 x4 x6 x7 (ix4 b l h d)
      = rot (fun y => val_main_v39 (F := Ideal) x0 x1 x2 x3 x4 (ix4 b l h y)) (fun j => x6 (ix2 l j)) (fun j => x7 (ix2 l j)) d := by
  have he := qre_at x0 x1 x2 x3 x4 x6 x7 b l h ⟨d.val / 2, by omega⟩
  have ho := qro_at x0 x1 x2 x3 x4 x6 x7 b l h ⟨d.val / 2, by omega⟩
  unfold val_main_v61 val_main_v60 val_main_v59 val_main_v58
  generalize val_main_v52 (F := Ideal) x0 x1 x2 x3 x4 x6 x7 = e at *
  generalize val_main_v57 (F := Ideal) x0 x1 x2 x3 x4 x6 x7 = o at *
  pointwise
  simp only [he, ho]
  generalize val_main_v39 (F := Ideal) x0 x1 x2 x3 x4 = z
  unfold rot
  rcases Nat.mod_two_eq_zero_or_one d.val with h0 | h0
  · rw [dif_pos (by omega), if_pos h0]
  · rw [dif_neg (by omega), if_neg (by omega)]

/-- The even lanes of a head of the keys, turned. -/
theorem kre_at (b : Fin 16) (l : Fin 4096) (h : Fin 2) (j : Fin 32) :
    val_main_v92 (F := Ideal) x0 x1 x2 x3 x5 x6 x7 (ix4 b l h j)
      = val_main_v79 (F := Ideal) x0 x1 x2 x3 x5 (ix4 b l h ⟨j.val * 2, by omega⟩) * x6 (ix2 l j) - val_main_v79 (F := Ideal) x0 x1 x2 x3 x5 (ix4 b l h ⟨j.val * 2 + 1, by omega⟩) * x7 (ix2 l j) := by
  unfold val_main_v92 val_main_v91 val_main_v90 val_main_v89 val_main_v88 val_main_v87 val_main_v86 val_main_v85 val_main_v84 val_main_v83 val_main_v82 val_main_v81 val_main_v80
  generalize val_main_v79 (F := Ideal) x0 x1 x2 x3 x5 = z
  pointwise

/-- The odd lanes of a head of the keys, turned. -/
theorem kro_at (b : Fin 16) (l : Fin 4096) (h : Fin 2) (j : Fin 32) :
    val_main_v97 (F := Ideal) x0 x1 x2 x3 x5 x6 x7 (ix4 b l h j)
      = val_main_v79 (F := Ideal) x0 x1 x2 x3 x5 (ix4 b l h ⟨j.val * 2, by omega⟩) * x7 (ix2 l j) + val_main_v79 (F := Ideal) x0 x1 x2 x3 x5 (ix4 b l h ⟨j.val * 2 + 1, by omega⟩) * x6 (ix2 l j) := by
  unfold val_main_v97 val_main_v96 val_main_v95 val_main_v94 val_main_v93 val_main_v87 val_main_v86 val_main_v85 val_main_v84 val_main_v83 val_main_v82 val_main_v81 val_main_v80
  generalize val_main_v79 (F := Ideal) x0 x1 x2 x3 x5 = z
  pointwise

/-- A head of the keys, turned. -/
theorem kr_at (b : Fin 16) (l : Fin 4096) (h : Fin 2) (d : Fin 64) :
    val_main_v101 (F := Ideal) x0 x1 x2 x3 x5 x6 x7 (ix4 b l h d)
      = rot (fun y => val_main_v79 (F := Ideal) x0 x1 x2 x3 x5 (ix4 b l h y)) (fun j => x6 (ix2 l j)) (fun j => x7 (ix2 l j)) d := by
  have he := kre_at x0 x1 x2 x3 x5 x6 x7 b l h ⟨d.val / 2, by omega⟩
  have ho := kro_at x0 x1 x2 x3 x5 x6 x7 b l h ⟨d.val / 2, by omega⟩
  unfold val_main_v101 val_main_v100 val_main_v99 val_main_v98
  generalize val_main_v92 (F := Ideal) x0 x1 x2 x3 x5 x6 x7 = e at *
  generalize val_main_v97 (F := Ideal) x0 x1 x2 x3 x5 x6 x7 = o at *
  pointwise
  simp only [he, ho]
  generalize val_main_v79 (F := Ideal) x0 x1 x2 x3 x5 = z
  unfold rot
  rcases Nat.mod_two_eq_zero_or_one d.val with h0 | h0
  · rw [dif_pos (by omega), if_pos h0]
  · rw [dif_neg (by omega), if_neg (by omega)]

/-- A head of the queries, normed and turned. -/
theorem qh_at (b : Fin 16) (l : Fin 4096) (h : Fin 8) (d : Fin 64) :
    val_main_v61 (F := Ideal) x0 x1 x2 x3 x4 x6 x7 (ix4 b l h d) = head x0 x1 x2 x3 x4 x6 x7 b l ⟨h.val, by omega⟩ d :=
  (qr_at x0 x1 x2 x3 x4 x6 x7 b l h d).trans
    (congrArg (fun t => rot t (fun j => x6 (ix2 l j)) (fun j => x7 (ix2 l j)) d) (funext fun y => qn_at x0 x1 x2 x3 x4 b l h y))

/-- The order in which the queries' heads are stored. -/
theorem order_at (z : FVec Ideal S16x4096x8x64 .f32) (b : Fin 16) (l : Fin 4096) (x : Fin 512) :
    shapeCast S16x4096x512 (transpose S16x4096x4x2x64 [0, 1, 3, 2, 4] (shapeCast S16x4096x2x4x64 z shapeCasts_S16x4096x8x64_S16x4096x2x4x64 : FVec Ideal S16x4096x2x4x64 .f32)
        transposes_S16x4096x2x4x64_S16x4096x4x2x64_0_1_3_2_4 : FVec Ideal S16x4096x4x2x64 .f32) shapeCasts_S16x4096x4x2x64_S16x4096x512 (ix3 b l x)
      = z (ix4 b l ⟨x.val / 64 % 2 * 4 + x.val / 128, by omega⟩ ⟨x.val % 64, by omega⟩) := by
  refine (shapeCast_apply _ shapeCasts_S16x4096x4x2x64_S16x4096x512 (ix3 b l x)
    (ix5 b l ⟨x.val / 128, by omega⟩ ⟨x.val / 64 % 2, by omega⟩ ⟨x.val % 64, by omega⟩) ?_).trans ?_
  · rewrite [Shape.rowMajor_val_five, Shape.rowMajor_val_three]
    show (((b.val * 4096 + l.val) * 4 + x.val / 128) * 2 + x.val / 64 % 2) * 64 + x.val % 64 = (b.val * 4096 + l.val) * 512 + x.val
    omega
  refine (transpose_apply [0, 1, 3, 2, 4] _ transposes_S16x4096x2x4x64_S16x4096x4x2x64_0_1_3_2_4 _
    (ix5 b l ⟨x.val / 64 % 2, by omega⟩ ⟨x.val / 128, by omega⟩ ⟨x.val % 64, by omega⟩) (fun a => match a with
      | ⟨0, _⟩ => rfl
      | ⟨1, _⟩ => rfl
      | ⟨2, _⟩ => rfl
      | ⟨3, _⟩ => rfl
      | ⟨4, _⟩ => rfl)).trans ?_
  refine shapeCast_apply _ shapeCasts_S16x4096x8x64_S16x4096x2x4x64 _ _ ?_
  rewrite [Shape.rowMajor_val_four, Shape.rowMajor_val_five]
  show ((b.val * 4096 + l.val) * 8 + (x.val / 64 % 2 * 4 + x.val / 128)) * 64 + x.val % 64
    = (((b.val * 4096 + l.val) * 2 + x.val / 64 % 2) * 4 + x.val / 128) * 64 + x.val % 64
  omega

/-- The queries. -/
theorem q_at (b : Fin 16) (l : Fin 4096) (x : Fin 512) :
    val_main_v109 (F := Ideal) x0 x1 x2 x3 x4 x6 x7 (ix3 b l x)
      = head x0 x1 x2 x3 x4 x6 x7 b l (qhead x) ⟨x.val % 64, by omega⟩ * eighth := by
  have h1 := qh_at x0 x1 x2 x3 x4 x6 x7 b l ⟨x.val / 64 % 2 * 4 + x.val / 128, by omega⟩ ⟨x.val % 64, by omega⟩
  refine (order_at (val_main_v63 (F := Ideal) x0 x1 x2 x3 x4 x6 x7) b l x).trans ?_
  rw [val_main_v63_apply]
  exact congrArg (fun t => t * eighth) h1

/-- A head of the keys, normed and turned. -/
theorem kh_at (b : Fin 16) (l : Fin 4096) (h : Fin 2) (d : Fin 64) :
    val_main_v101 (F := Ideal) x0 x1 x2 x3 x5 x6 x7 (ix4 b l h d) = head x0 x1 x2 x3 x5 x6 x7 b l ⟨8 + h.val, by omega⟩ d :=
  (kr_at x0 x1 x2 x3 x5 x6 x7 b l h d).trans
    (congrArg (fun t => rot t (fun j => x6 (ix2 l j)) (fun j => x7 (ix2 l j)) d) (funext fun y => kn_at x0 x1 x2 x3 x5 b l h y))

/-- The keys. -/
theorem k_at (b : Fin 16) (l : Fin 4096) (x : Fin 128) :
    val_main_v111 (F := Ideal) x0 x1 x2 x3 x5 x6 x7 (ix3 b l x)
      = head x0 x1 x2 x3 x5 x6 x7 b l (khead x) ⟨x.val % 64, by omega⟩ := by
  have h1 := kh_at x0 x1 x2 x3 x5 x6 x7 b l ⟨x.val / 64, by omega⟩ ⟨x.val % 64, by omega⟩
  refine (shapeCast_apply (val_main_v101 (F := Ideal) x0 x1 x2 x3 x5 x6 x7) shapeCasts_S16x4096x2x64_S16x4096x128 (ix3 b l x)
    (ix4 b l ⟨x.val / 64, by omega⟩ ⟨x.val % 64, by omega⟩) ?_).trans h1
  rewrite [Shape.rowMajor_val_four, Shape.rowMajor_val_three]
  show ((b.val * 4096 + l.val) * 2 + x.val / 64) * 64 + x.val % 64 = (b.val * 4096 + l.val) * 128 + x.val
  omega

/-- The values, with ones beside them. -/
theorem v_at (b : Fin 16) (l : Fin 4096) (x : Fin 256) :
    val_main_v112 (F := Ideal) x0 x1 x2 x3 (ix3 b l x)
      = if h : x.val < 128 then proj x0 x1 x2 x3 b l ⟨640 + x.val, by omega⟩ else (1 : EReal) := by
  have hp := proj_at x0 x1 x2 x3 b l
  unfold val_main_v112 val_main_v107 val_main_v106 val_main_v102 val_main_cst_10
  generalize val_main_v23 (F := Ideal) x0 x1 x2 x3 = z at *
  pointwise
  simp only [hp]

/-- The remaining columns. -/
theorem u_at (b : Fin 16) (l : Fin 4096) (x : Fin 1536) :
    val_main_v113 (F := Ideal) x0 x1 x2 x3 (ix3 b l x) = proj x0 x1 x2 x3 b l ⟨768 + x.val, by omega⟩ := by
  have hp := proj_at x0 x1 x2 x3 b l
  unfold val_main_v113 val_main_v108
  generalize val_main_v23 (F := Ideal) x0 x1 x2 x3 = z at *
  pointwise
  simp only [hp]

end Cert.Proof.Inproj.Ref
-- ==== Proof.Inproj.Claims.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import proofs.«01_k».proof.Proof.Inproj.Value
public import proofs.«01_k».proof.Proof.Inproj.Ref
public import Idealize.ShloMosaic.Lib.Claim

/-! The claims about the projection's call and its reference. -/

@[expose] public section

set_option maxRecDepth 16384

noncomputable section

namespace Cert.Proof.Inproj

open Idealize.ShloMosaic Idealize.ShloMosaic.TcCoe Idealize.SL.Sem

/-- Every index of three axes is its three coordinates. -/
theorem idx3 {a b d : ℕ} (i : (⟨3, ![a, b, d]⟩ : Shape).Idx) : i = ix3 (i 0) (i 1) (i 2) := by
  funext n
  match n with
  | ⟨0, _⟩ => rfl
  | ⟨1, _⟩ => rfl
  | ⟨2, _⟩ => rfl

/-- The reference runs to its end and leaves its arguments. -/
theorem reference_frame : Cert.quiescent_Reference3Ideal := fun m ρ _ =>
  (θ_run Cert.Reference3Ideal.defs _ _).mono (fun r h => ⟨fun c => (h c).2.2.2.2, sem_eq_zero_of_no_sems rfl r.2⟩)
    (Cert.Reference3Ideal.Value.run m ρ)

/-- The reference's queries are the array that the call leaves. -/
theorem q_value (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v109 (F := Ideal) (ax m c) (am m c) (an m c) (aw m c) (ahq m c) (acos m c) (asin m c) = Gq m c := by
  funext i
  exact (congrArg _ (idx3 i)).trans (Ref.q_at _ _ _ _ _ _ _ (i 0) (i 1) (i 2))

/-- The reference's keys are the array that the call leaves. -/
theorem k_value (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v111 (F := Ideal) (ax m c) (am m c) (an m c) (aw m c) (ahk m c) (acos m c) (asin m c) = Gk m c := by
  funext i
  exact (congrArg _ (idx3 i)).trans (Ref.k_at _ _ _ _ _ _ _ (i 0) (i 1) (i 2))

/-- The reference's values are the array that the call leaves. -/
theorem v_value (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v112 (F := Ideal) (ax m c) (am m c) (an m c) (aw m c) = Gv m c := by
  funext i
  exact (congrArg _ (idx3 i)).trans (Ref.v_at _ _ _ _ (i 0) (i 1) (i 2))

/-- The reference's remaining columns are the array that the call leaves. -/
theorem u_value (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v113 (F := Ideal) (ax m c) (am m c) (an m c) (aw m c) = Gu m c := by
  funext i
  exact (congrArg _ (idx3 i)).trans (Ref.u_at _ _ _ _ (i 0) (i 1) (i 2))

/-- The call and the reference, run from the same arguments, end with the same four arrays. -/
theorem value : Cert.algebraic_Kernel3Ideal_Reference3Ideal := by
  intro m g m' g' _ hargs
  refine ⟨fun c => Gq m c, fun c => Gk m c, fun c => Gv m c, fun c => Gu m c,
    (θ_run _ _ _).mono (fun r h c => ⟨(h c).1.trans (final_9 m c), (h c).2.1.trans (final_10 m c), (h c).2.2.1.trans (final_11 m c),
      (h c).2.2.2.1.trans (final_12 m c), (h c).2.2.2.2⟩) (Cert.Kernel3Ideal.Value.run_blocks m g),
    (θ_run _ _ _).mono (fun r h c => ⟨(h c).1.trans ?_, (h c).2.1.trans ?_, (h c).2.2.1.trans ?_, (h c).2.2.2.1.trans ?_, (h c).2.2.2.2⟩)
      (Cert.Reference3Ideal.Value.run m' g')⟩
  · obtain ⟨h0, h1, h2, h3, h4, h5, h6, h7⟩ := hargs c
    rw [Cert.Reference3Ideal.Read.val_main_v109_eq, h0, h1, h2, h3, h4, h6, h7]
    exact q_value m c
  · obtain ⟨h0, h1, h2, h3, h4, h5, h6, h7⟩ := hargs c
    rw [Cert.Reference3Ideal.Read.val_main_v111_eq, h0, h1, h2, h3, h5, h6, h7]
    exact k_value m c
  · obtain ⟨h0, h1, h2, h3, h4, h5, h6, h7⟩ := hargs c
    refine (Cert.Reference3Ideal.Read.val_main_v112_eq _ _ _ _).trans ?_
    rw [h0, h1, h2, h3]
    exact v_value m c
  · obtain ⟨h0, h1, h2, h3, h4, h5, h6, h7⟩ := hargs c
    refine (Cert.Reference3Ideal.Read.val_main_v113_eq _ _ _ _).trans ?_
    rw [h0, h1, h2, h3]
    exact u_value m c

end Cert.Proof.Inproj
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Attn.Value
public import proofs.«01_k».proof.Proof.Attn.Ref
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Attn.Pre
public import proofs.«01_k».proof.Proof.Experts.Claims
public import proofs.«01_k».proof.Proof.Inproj.Claims
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.SL.Sem

/-- The reference runs and leaves its arguments as they were; it has no semaphores. -/
theorem reference_frame : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The reference's result, from arguments equal to the call's, is the array that the call leaves. -/
theorem reference_value (m : (ℓ : Loc Cert.KernelIdeal.nD Cert.KernelIdeal.τ Cert.KernelIdeal.sig) → Buf (Elt Ideal) ℓ)
    (c : Dev Cert.KernelIdeal.nD) :
    Cert.ReferenceIdeal.Read.val_main_v38 (F := Ideal) (Attn.aq m c) (Attn.akc m c) (Attn.ak m c) (Attn.avc m c) (Attn.av m c) (Attn.aw m c)
      = Attn.GA m c := by
  funext i
  have hi : i = ix3 (i 0) (i 1) (i 2) := by
    funext a
    match a with
    | ⟨0, _⟩ => rfl
    | ⟨1, _⟩ => rfl
    | ⟨2, _⟩ => rfl
  exact (congrArg _ hi).trans (Attn.Ref.result_at _ _ _ _ _ _ (i 0) (i 1) (i 2))

/-- The call and the reference, run from the same arguments with real queries and keys, end with the same array. -/
theorem value : Cert.algebraic_KernelIdeal_ReferenceIdeal_pre_finite_scores (hPre_finite_scores := Attn.pre_facts) := by
  haveI := Attn.pre_facts
  intro m g m' g' hpre hargs
  have hfin : ∀ c, (Cert.KernelIdeal.Gen.dats m 0 c).arrAt 4 Cert.KernelIdeal.cfg0.N = Attn.GA m c := fun c =>
    let h := Attn.real_of_pre (Attn.aq m c) (Attn.akc m c) (Attn.ak m c) (Attn.avc m c) (Attn.av m c) (Attn.aw m c)
    Attn.final m c (h.1 (hpre c).1) (h.2.1 (hpre c).2.1) (h.2.2 (hpre c).2.2)
  refine ⟨fun c => Attn.GA m c,
    (θ_run _ _ _).mono (fun r h c => ⟨(h c).1.trans (hfin c), (h c).2⟩) (Cert.KernelIdeal.Value.run_blocks m g),
    (θ_run _ _ _).mono (fun r h c => ⟨(h c).1.trans ?_, (h c).2⟩) (Cert.ReferenceIdeal.Value.run m' g')⟩
  obtain ⟨h0, h1, h2, h3, h4, h5⟩ := hargs c
  rw [Cert.ReferenceIdeal.Read.val_main_v38_eq, h0, h1, h2, h3, h4, h5]
  exact reference_value m c

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Attn.pre_facts, Experts.named_facts, Experts.used_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    Experts.bits_frame, Experts.ideal_frame, Experts.reference_frame, fun m ρ _ => Experts.reference_frame m ρ trivial,
    fun m ρ _ => Cert.Kernel3.Gen.frame m ρ, fun m ρ _ => Cert.Kernel3Ideal.Gen.frame m ρ, Inproj.reference_frame,
    trivial, value, Experts.preserves, Experts.value, trivial, Inproj.value⟩

end Cert.Proof

end
